-- ==== Defs.lean ====
def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernelIdeal : Cert.KernelIdeal.Facts) (hReferenceIdeal : Cert.ReferenceIdeal.Facts) (hPre_drawn : Cert.Pre_drawn.Facts),
    quiescent_KernelIdeal (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ algebraic_KernelIdeal_ReferenceIdeal (hKernelIdeal := hKernelIdeal) (hReferenceIdeal := hReferenceIdeal) (hPre_drawn := hPre_drawn)
-- ==== Pre_drawn.lean ====
abbrev S16x4096x512 : Shape := ⟨3, ![16, 4096, 512]⟩
abbrev S16x512 : Shape := ⟨2, ![16, 512]⟩
abbrev S_ : Shape := ⟨0, ![]⟩
abbrev S256x512 : Shape := ⟨2, ![256, 512]⟩
abbrev S256 : Shape := ⟨1, ![256]⟩
abbrev S3x256 : Shape := ⟨2, ![3, 256]⟩
abbrev S3 : Shape := ⟨1, ![3]⟩

class Facts : Prop where
  bcast_S_S16x512 : S_.BroadcastsInDim S16x512 (![] : Fin 0 → Fin S16x512.rank)
  reducesTo_S16x512_S_d0_1 : S16x512.ReducesTo [0, 1] S_
  h_S_ : 0 < S_.numel

variable [Facts]

def fn {F : FTy → Type} [FloatOps F] (main_arg0 : FVec F S16x4096x512 .f32) (main_arg1 : IVec S16x512 32) (main_arg2 : IVec S_ 32) (main_arg3 : FVec F S256x512 .f32) (main_arg4 : FVec F S256 .f32) (main_arg5 : FVec F S3x256 .f32) (main_arg6 : FVec F S3 .f32) : IVec S_ 1 :=
  let main_c : IVec S_ 32 := constantI S_ 32 0#32
  let main_v0 : IVec S16x512 32 := broadcastInDim S16x512 ![] bcast_S_S16x512 main_c
  let main_v1 : IVec S16x512 1 := cmpi .sge main_arg1 main_v0
  let main_c_0 : IVec S_ 32 := constantI S_ 32 8#32
  let main_v2 : IVec S16x512 32 := broadcastInDim S16x512 ![] bcast_S_S16x512 main_c_0
  let main_v3 : IVec S16x512 1 := cmpi .slt main_arg1 main_v2
  let main_v4 : IVec S16x512 1 := andi main_v1 main_v3
  let main_c_1 : IVec S_ 1 := constantI S_ 1 1#1
  let main_v5 : IVec S_ 1 := (fun x v => Host.reduce IntOp.andi x v reducesTo_S16x512_S_d0_1 h_S_) main_v4 main_c_1
  let main_c_2 : IVec S_ 32 := constantI S_ 32 4096#32
  let main_v6 : IVec S_ 1 := cmpi .eq main_arg2 main_c_2
  let main_v7 : IVec S_ 1 := andi main_v5 main_v6
  main_v7
-- ==== KernelIdeal.lean ====
abbrev S16x4096x512 : Shape := ⟨3, ![16, 4096, 512]⟩
abbrev S16x512 : Shape := ⟨2, ![16, 512]⟩
abbrev S_ : Shape := ⟨0, ![]⟩
abbrev S256x512 : Shape := ⟨2, ![256, 512]⟩
abbrev S256 : Shape := ⟨1, ![256]⟩
abbrev S3x256 : Shape := ⟨2, ![3, 256]⟩
abbrev S3 : Shape := ⟨1, ![3]⟩
abbrev S1x1 : Shape := ⟨2, ![1, 1]⟩
abbrev S512x512 : Shape := ⟨2, ![512, 512]⟩
abbrev S1024x8 : Shape := ⟨2, ![1024, 8]⟩
abbrev S1024x8x1 : Shape := ⟨3, ![1024, 8, 1]⟩
abbrev S1024x8x16 : Shape := ⟨3, ![1024, 8, 16]⟩
abbrev S1024x128 : Shape := ⟨2, ![1024, 128]⟩
abbrev S1024x256 : Shape := ⟨2, ![1024, 256]⟩
abbrev S65536x512 : Shape := ⟨2, ![65536, 512]⟩
abbrev S8192x512 : Shape := ⟨2, ![8192, 512]⟩
abbrev S64x512 : Shape := ⟨2, ![64, 512]⟩
abbrev S8x512 : Shape := ⟨2, ![8, 512]⟩
abbrev S1x256 : Shape := ⟨2, ![1, 256]⟩
abbrev S16 : Shape := ⟨1, ![16]⟩
abbrev S1 : Shape := ⟨1, ![1]⟩
abbrev S1x512 : Shape := ⟨2, ![1, 512]⟩
abbrev S512 : Shape := ⟨1, ![512]⟩
abbrev S1x3 : Shape := ⟨2, ![1, 3]⟩
abbrev S8192x3 : Shape := ⟨2, ![8192, 3]⟩
abbrev S1024x512 : Shape := ⟨2, ![1024, 512]⟩
abbrev S1024x3 : Shape := ⟨2, ![1024, 3]⟩
abbrev S16x512x3 : Shape := ⟨3, ![16, 512, 3]⟩

abbrev nBuf : Table → Nat
  | .hbm => 28
  | .local .tc .vmem => 12
  | .local .scVector .vmem => 9
  | _ => 0

abbrev bufTy : (tb : Table) → Fin (nBuf tb) → BufTy
  | .hbm, ⟨0, _⟩ => ⟨S16x4096x512, .f32⟩
  | .hbm, ⟨1, _⟩ => ⟨S16x512, .i32⟩
  | .hbm, ⟨2, _⟩ => ⟨S_, .i32⟩
  | .hbm, ⟨3, _⟩ => ⟨S256x512, .f32⟩
  | .hbm, ⟨4, _⟩ => ⟨S256, .f32⟩
  | .hbm, ⟨5, _⟩ => ⟨S3x256, .f32⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S16x512, .i32⟩
  | .hbm, ⟨12, _⟩ => ⟨S16x512, .i32⟩
  | .hbm, ⟨13, _⟩ => ⟨S1024x8, .i32⟩
  | .hbm, ⟨14, _⟩ => ⟨S1024x8x1, .i32⟩
  | .hbm, ⟨15, _⟩ => ⟨S1024x8x16, .i32⟩
  | .hbm, ⟨16, _⟩ => ⟨S1024x128, .i32⟩
  | .hbm, ⟨17, _⟩ => ⟨S1024x8, .i32⟩
  | .hbm, ⟨18, _⟩ => ⟨S1024x8x1, .i32⟩
  | .hbm, ⟨19, _⟩ => ⟨S1024x8x16, .i32⟩
  | .hbm, ⟨20, _⟩ => ⟨S1024x128, .i32⟩
  | .hbm, ⟨21, _⟩ => ⟨S1024x256, .i32⟩
  | .hbm, ⟨22, _⟩ => ⟨S65536x512, .f32⟩
  | .hbm, ⟨23, _⟩ => ⟨S8192x512, .f32⟩
  | .hbm, ⟨24, _⟩ => ⟨S1x256, .f32⟩
  | .hbm, ⟨25, _⟩ => ⟨S1x3, .f32⟩
  | .hbm, ⟨26, _⟩ => ⟨S8192x3, .f32⟩
  | .hbm, ⟨27, _⟩ => ⟨S16x512x3, .f32⟩
  | .local .tc .vmem, ⟨0, _⟩ => ⟨S16x512, .i32⟩
  | .local .tc .vmem, ⟨1, _⟩ => ⟨S1x1, .f32⟩
  | .local .tc .vmem, ⟨2, _⟩ => ⟨S16x512, .i32⟩
  | .local .tc .vmem, ⟨3, _⟩ => ⟨S16x512, .i32⟩
  | .local .tc .vmem, ⟨4, _⟩ => ⟨S1024x512, .f32⟩
  | .local .tc .vmem, ⟨5, _⟩ => ⟨S1024x512, .f32⟩
  | .local .tc .vmem, ⟨6, _⟩ => ⟨S256x512, .f32⟩
  | .local .tc .vmem, ⟨7, _⟩ => ⟨S1x256, .f32⟩
  | .local .tc .vmem, ⟨8, _⟩ => ⟨S3x256, .f32⟩
  | .local .tc .vmem, ⟨9, _⟩ => ⟨S1x3, .f32⟩
  | .local .tc .vmem, ⟨10, _⟩ => ⟨S1024x3, .f32⟩
  | .local .tc .vmem, ⟨11, _⟩ => ⟨S1024x3, .f32⟩
  | .local .scVector .vmem, ⟨0, _⟩ => ⟨S256, .i32⟩
  | .local .scVector .vmem, ⟨1, _⟩ => ⟨S256, .i32⟩
  | .local .scVector .vmem, ⟨2, _⟩ => ⟨S256, .i32⟩
  | .local .scVector .vmem, ⟨3, _⟩ => ⟨S64x512, .f32⟩
  | .local .scVector .vmem, ⟨4, _⟩ => ⟨S64x512, .f32⟩
  | .local .scVector .vmem, ⟨5, _⟩ => ⟨S64x512, .f32⟩
  | .local .scVector .vmem, ⟨6, _⟩ => ⟨S8x512, .f32⟩
  | .local .scVector .vmem, ⟨7, _⟩ => ⟨S8x512, .f32⟩
  | .local .scVector .vmem, ⟨8, _⟩ => ⟨S8x512, .f32⟩
  | _, _ => ⟨S16x4096x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v12_scv : Ref sig .scVector := ⟨.hbm, 21, rfl⟩
abbrev main_v13_scv : Ref sig .scVector := ⟨.hbm, 22, rfl⟩
abbrev main_v14_scv : Ref sig .scVector := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg5_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S16x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32 : BitVec 32 := 1#32
  let v7 : BitVec 32 := Scalar.addi v2 c1_i32
  let c0_i32_1 : BitVec 32 := 0#32
  ![v7.toNat, 0]
def k1_mult1 (v19 : BitVec 32) : BitVec 32 :=
  v19

def k1_off3 (v19 : BitVec 32) : Fin 2 → Nat :=
  let v20 : BitVec 32 := v19
  let c0_i32_5 : BitVec 32 := 0#32
  ![v20.toNat, 0]

def k1_chk1 (v19 : BitVec 32) : Prop :=
  (8 ∣ (k1_mult1 v19).toNat) ∧
  (∀ a, (k1_off3 v19) a + S64x512.size a ≤ S65536x512.size a)
theorem k1_mult1_dvd : ∀ (v19 : BitVec 32) (k1_hw1 : k1_chk1 v19), 8 ∣ (k1_mult1 v19).toNat := fun v19 k1_hw1 => k1_hw1.1
theorem k1_off3_inb : ∀ (v19 : BitVec 32) (k1_hw1 : k1_chk1 v19), ∀ a, (k1_off3 v19) a + S64x512.size a ≤ S65536x512.size a := fun v19 k1_hw1 => k1_hw1.2

@[reducible] def k1_t1_loop : Scf.Loop 32 :=
  let c0_i32_7 : BitVec 32 := 0#32
  let c10_i32 : BitVec 32 := 10#32
  let v23 : BitVec 32 := Scalar.addi c0_i32_7 c10_i32
  let c1_i32_8 : BitVec 32 := 1#32
  ⟨c0_i32_7, v23, c1_i32_8⟩
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_56 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v83 : BitVec 32 := Scalar.muli c3_i32_56 v82
  let v84 : BitVec 32 := Scalar.addi v2 v83
  let c0_i32_57 : BitVec 32 := 0#32
  let v85 : BitVec 32 := Scalar.addi v84 c0_i32_57
  let c1_i32_58 : BitVec 32 := 1#32
  let v86 : BitVec 32 := Scalar.addi v85 c1_i32_58
  let c0_i32_59 : BitVec 32 := 0#32
  ![v86.toNat, 0]
def k1_mult2 (v94 : BitVec 32) : BitVec 32 :=
  v94

def k1_off5 (v94 : BitVec 32) : Fin 2 → Nat :=
  let v95 : BitVec 32 := v94
  let c0_i32_62 : BitVec 32 := 0#32
  ![v95.toNat, 0]

def k1_chk2 (v94 : BitVec 32) : Prop :=
  (8 ∣ (k1_mult2 v94).toNat) ∧
  (∀ a, (k1_off5 v94) a + S64x512.size a ≤ S65536x512.size a)
theorem k1_mult2_dvd : ∀ (v94 : BitVec 32) (k1_hw2 : k1_chk2 v94), 8 ∣ (k1_mult2 v94).toNat := fun v94 k1_hw2 => k1_hw2.1
theorem k1_off5_inb : ∀ (v94 : BitVec 32) (k1_hw2 : k1_chk2 v94), ∀ a, (k1_off5 v94) a + S64x512.size a ≤ S65536x512.size a := fun v94 k1_hw2 => k1_hw2.2

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_56 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v83 : BitVec 32 := Scalar.muli c3_i32_56 v82
  let v84 : BitVec 32 := Scalar.addi v2 v83
  let c0_i32_57 : BitVec 32 := 0#32
  let v85 : BitVec 32 := Scalar.addi v84 c0_i32_57
  let c2_i32_64 : BitVec 32 := 2#32
  let v98 : BitVec 32 := Scalar.addi v85 c2_i32_64
  let c0_i32_65 : BitVec 32 := 0#32
  ![v98.toNat, 0]
def k1_mult3 (v106 : BitVec 32) : BitVec 32 :=
  v106

def k1_off7 (v106 : BitVec 32) : Fin 2 → Nat :=
  let v107 : BitVec 32 := v106
  let c0_i32_68 : BitVec 32 := 0#32
  ![v107.toNat, 0]

def k1_chk3 (v106 : BitVec 32) : Prop :=
  (8 ∣ (k1_mult3 v106).toNat) ∧
  (∀ a, (k1_off7 v106) a + S64x512.size a ≤ S65536x512.size a)
theorem k1_mult3_dvd : ∀ (v106 : BitVec 32) (k1_hw3 : k1_chk3 v106), 8 ∣ (k1_mult3 v106).toNat := fun v106 k1_hw3 => k1_hw3.1
theorem k1_off7_inb : ∀ (v106 : BitVec 32) (k1_hw3 : k1_chk3 v106), ∀ a, (k1_off7 v106) a + S64x512.size a ≤ S65536x512.size a := fun v106 k1_hw3 => k1_hw3.2

def k1_cond1 (k1_t1 : Fin k1_t1_loop.trips) : BitVec 1 :=
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let c0_i32_70 : BitVec 32 := 0#32
  let v110 : BitVec 1 := Scalar.cmpi .sgt v82 c0_i32_70
  let v111 : BitVec 32 := Scalar.extui v110
  let c0_i32_71 : BitVec 32 := 0#32
  let v112 : BitVec 1 := Scalar.cmpi .ne v111 c0_i32_71
  v112

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_56 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v83 : BitVec 32 := Scalar.muli c3_i32_56 v82
  let v84 : BitVec 32 := Scalar.addi v2 v83
  let c0_i32_57 : BitVec 32 := 0#32
  let v85 : BitVec 32 := Scalar.addi v84 c0_i32_57
  let c3_i32_125 : BitVec 32 := 3#32
  let v185 : BitVec 32 := Scalar.subi v85 c3_i32_125
  let c8_i32_126 : BitVec 32 := 8#32
  let v186 : BitVec 32 := Scalar.muli v185 c8_i32_126
  let c0_i32_127 : BitVec 32 := 0#32
  ![v186.toNat, 0]
@[reducible] def k1_t2_loop : Scf.Loop 32 :=
  let c0_i32_72 : BitVec 32 := 0#32
  let c8_i32_73 : BitVec 32 := 8#32
  let v113 : BitVec 32 := Scalar.addi c0_i32_72 c8_i32_73
  let c1_i32_74 : BitVec 32 := 1#32
  ⟨c0_i32_72, v113, c1_i32_74⟩
def k1_off9 (k1_t2 : Fin k1_t2_loop.trips) : Fin 1 → Nat :=
  let c0_i32_126 : BitVec 32 := 0#32
  let c0_i32_72 : BitVec 32 := 0#32
  let c1_i32_74 : BitVec 32 := 1#32
  let arg24 : BitVec 32 := Scf.iv c0_i32_72 c1_i32_74 k1_t2
  let c1_i32_125 : BitVec 32 := 1#32
  let v185 : BitVec 32 := Scalar.muli arg24 c1_i32_125
  let v186 : BitVec 32 := Scalar.addi c0_i32_126 v185
  let c16_i32 : BitVec 32 := 16#32
  let v187 : BitVec 32 := Scalar.muli v186 c16_i32
  let v188 : Index := Scalar.indexCast v187
  ![v188.toNat]
@[reducible] def k1_t3_loop (v192 : BitVec 32) : Scf.Loop 32 :=
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let c1_i32_132 : BitVec 32 := 1#32
  ⟨c0_i32_130, v205, c1_i32_132⟩

def k1_off10 (v192 : BitVec 32) (k1_t3 : Fin (k1_t3_loop v192).trips) : Fin 2 → Nat :=
  let c255_i32 : BitVec 32 := 255#32
  let v193 : BitVec 32 := Scalar.andi v192 c255_i32
  let c0_i32_130 : BitVec 32 := 0#32
  let c1_i32_132 : BitVec 32 := 1#32
  let arg25 : BitVec 32 := Scf.iv c0_i32_130 c1_i32_132 k1_t3
  let v400 : BitVec 32 := Scalar.addi v193 arg25
  let c0_i32_167 : BitVec 32 := 0#32
  ![v400.toNat, 0]
@[reducible] def k1_t4_loop (v192 : BitVec 32) : Scf.Loop 32 :=
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let v202 : BitVec 32 := Scalar.addi c0_i32_130 v201
  let c1_i32_133 : BitVec 32 := 1#32
  ⟨v205, v202, c1_i32_133⟩
def k1_off11 (v192 : BitVec 32) (k1_t4 : Fin (k1_t4_loop v192).trips) : Fin 2 → Nat :=
  let c255_i32 : BitVec 32 := 255#32
  let v193 : BitVec 32 := Scalar.andi v192 c255_i32
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let c1_i32_133 : BitVec 32 := 1#32
  let arg25 : BitVec 32 := Scf.iv v205 c1_i32_133 k1_t4
  let v400 : BitVec 32 := Scalar.addi v193 arg25
  let c0_i32_167 : BitVec 32 := 0#32
  ![v400.toNat, 0]

def k1_chk4 (v192 : BitVec 32) : Prop :=
  ((k1_t3_loop v192).OK) ∧
  (∀ k1_t3 : Fin (k1_t3_loop v192).trips, ∀ a, (k1_off10 v192 k1_t3) a + S1x512.size a ≤ S64x512.size a) ∧
  ((k1_t4_loop v192).OK) ∧
  (∀ k1_t4 : Fin (k1_t4_loop v192).trips, ∀ a, (k1_off11 v192 k1_t4) a + S1x512.size a ≤ S64x512.size a)
theorem k1_t3_ok : ∀ (v192 : BitVec 32) (k1_hw4 : k1_chk4 v192), (k1_t3_loop v192).OK := fun v192 k1_hw4 => k1_hw4.1
theorem k1_off10_inb : ∀ (v192 : BitVec 32) (k1_hw4 : k1_chk4 v192) (k1_t3 : Fin (k1_t3_loop v192).trips), ∀ a, (k1_off10 v192 k1_t3) a + S1x512.size a ≤ S64x512.size a := fun v192 k1_hw4 k1_t3 => k1_hw4.2.1 k1_t3
theorem k1_t4_ok : ∀ (v192 : BitVec 32) (k1_hw4 : k1_chk4 v192), (k1_t4_loop v192).OK := fun v192 k1_hw4 => k1_hw4.2.2.1
theorem k1_off11_inb : ∀ (v192 : BitVec 32) (k1_hw4 : k1_chk4 v192) (k1_t4 : Fin (k1_t4_loop v192).trips), ∀ a, (k1_off11 v192 k1_t4) a + S1x512.size a ≤ S64x512.size a := fun v192 k1_hw4 k1_t4 => k1_hw4.2.2.2 k1_t4

def k1_off12 (k1_t2 : Fin k1_t2_loop.trips) : Fin 2 → Nat :=
  let c0_i32_126 : BitVec 32 := 0#32
  let c0_i32_72 : BitVec 32 := 0#32
  let c1_i32_74 : BitVec 32 := 1#32
  let arg24 : BitVec 32 := Scf.iv c0_i32_72 c1_i32_74 k1_t2
  let c1_i32_125 : BitVec 32 := 1#32
  let v185 : BitVec 32 := Scalar.muli arg24 c1_i32_125
  let v186 : BitVec 32 := Scalar.addi c0_i32_126 v185
  let c0_i32_134 : BitVec 32 := 0#32
  ![v186.toNat, 0]
def k1_off13 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_56 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v83 : BitVec 32 := Scalar.muli c3_i32_56 v82
  let v84 : BitVec 32 := Scalar.addi v2 v83
  let c0_i32_57 : BitVec 32 := 0#32
  let v85 : BitVec 32 := Scalar.addi v84 c0_i32_57
  let c8_i32_76 : BitVec 32 := 8#32
  let v114 : BitVec 32 := Scalar.muli v85 c8_i32_76
  let c0_i32_77 : BitVec 32 := 0#32
  ![v114.toNat, 0]
def k1_off14 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_79 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v117 : BitVec 32 := Scalar.muli c3_i32_79 v82
  let v118 : BitVec 32 := Scalar.addi v2 v117
  let c1_i32_80 : BitVec 32 := 1#32
  let v119 : BitVec 32 := Scalar.addi v118 c1_i32_80
  let c1_i32_81 : BitVec 32 := 1#32
  let v120 : BitVec 32 := Scalar.addi v119 c1_i32_81
  let c0_i32_82 : BitVec 32 := 0#32
  ![v120.toNat, 0]
def k1_mult4 (v128 : BitVec 32) : BitVec 32 :=
  v128

def k1_off15 (v128 : BitVec 32) : Fin 2 → Nat :=
  let v129 : BitVec 32 := v128
  let c0_i32_85 : BitVec 32 := 0#32
  ![v129.toNat, 0]

def k1_chk5 (v128 : BitVec 32) : Prop :=
  (8 ∣ (k1_mult4 v128).toNat) ∧
  (∀ a, (k1_off15 v128) a + S64x512.size a ≤ S65536x512.size a)
theorem k1_mult4_dvd : ∀ (v128 : BitVec 32) (k1_hw5 : k1_chk5 v128), 8 ∣ (k1_mult4 v128).toNat := fun v128 k1_hw5 => k1_hw5.1
theorem k1_off15_inb : ∀ (v128 : BitVec 32) (k1_hw5 : k1_chk5 v128), ∀ a, (k1_off15 v128) a + S64x512.size a ≤ S65536x512.size a := fun v128 k1_hw5 => k1_hw5.2

def k1_off16 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_79 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v117 : BitVec 32 := Scalar.muli c3_i32_79 v82
  let v118 : BitVec 32 := Scalar.addi v2 v117
  let c1_i32_80 : BitVec 32 := 1#32
  let v119 : BitVec 32 := Scalar.addi v118 c1_i32_80
  let c2_i32_87 : BitVec 32 := 2#32
  let v132 : BitVec 32 := Scalar.addi v119 c2_i32_87
  let c0_i32_88 : BitVec 32 := 0#32
  ![v132.toNat, 0]
def k1_mult5 (v140 : BitVec 32) : BitVec 32 :=
  v140

def k1_off17 (v140 : BitVec 32) : Fin 2 → Nat :=
  let v141 : BitVec 32 := v140
  let c0_i32_91 : BitVec 32 := 0#32
  ![v141.toNat, 0]

def k1_chk6 (v140 : BitVec 32) : Prop :=
  (8 ∣ (k1_mult5 v140).toNat) ∧
  (∀ a, (k1_off17 v140) a + S64x512.size a ≤ S65536x512.size a)
theorem k1_mult5_dvd : ∀ (v140 : BitVec 32) (k1_hw6 : k1_chk6 v140), 8 ∣ (k1_mult5 v140).toNat := fun v140 k1_hw6 => k1_hw6.1
theorem k1_off17_inb : ∀ (v140 : BitVec 32) (k1_hw6 : k1_chk6 v140), ∀ a, (k1_off17 v140) a + S64x512.size a ≤ S65536x512.size a := fun v140 k1_hw6 => k1_hw6.2

def k1_cond2 (k1_t1 : Fin k1_t1_loop.trips) : BitVec 1 :=
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let c0_i32_93 : BitVec 32 := 0#32
  let v144 : BitVec 1 := Scalar.cmpi .sgt v82 c0_i32_93
  let v145 : BitVec 32 := Scalar.extui v144
  let c0_i32_94 : BitVec 32 := 0#32
  let v146 : BitVec 1 := Scalar.cmpi .ne v145 c0_i32_94
  v146

def k1_off18 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_79 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v117 : BitVec 32 := Scalar.muli c3_i32_79 v82
  let v118 : BitVec 32 := Scalar.addi v2 v117
  let c1_i32_80 : BitVec 32 := 1#32
  let v119 : BitVec 32 := Scalar.addi v118 c1_i32_80
  let c3_i32_125 : BitVec 32 := 3#32
  let v185 : BitVec 32 := Scalar.subi v119 c3_i32_125
  let c8_i32_126 : BitVec 32 := 8#32
  let v186 : BitVec 32 := Scalar.muli v185 c8_i32_126
  let c0_i32_127 : BitVec 32 := 0#32
  ![v186.toNat, 0]
@[reducible] def k1_t5_loop : Scf.Loop 32 :=
  let c0_i32_95 : BitVec 32 := 0#32
  let c8_i32_96 : BitVec 32 := 8#32
  let v147 : BitVec 32 := Scalar.addi c0_i32_95 c8_i32_96
  let c1_i32_97 : BitVec 32 := 1#32
  ⟨c0_i32_95, v147, c1_i32_97⟩
def k1_off19 (k1_t5 : Fin k1_t5_loop.trips) : Fin 1 → Nat :=
  let c0_i32_126 : BitVec 32 := 0#32
  let c0_i32_95 : BitVec 32 := 0#32
  let c1_i32_97 : BitVec 32 := 1#32
  let arg24 : BitVec 32 := Scf.iv c0_i32_95 c1_i32_97 k1_t5
  let c1_i32_125 : BitVec 32 := 1#32
  let v185 : BitVec 32 := Scalar.muli arg24 c1_i32_125
  let v186 : BitVec 32 := Scalar.addi c0_i32_126 v185
  let c16_i32 : BitVec 32 := 16#32
  let v187 : BitVec 32 := Scalar.muli v186 c16_i32
  let v188 : Index := Scalar.indexCast v187
  ![v188.toNat]
@[reducible] def k1_t6_loop (v192 : BitVec 32) : Scf.Loop 32 :=
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let c1_i32_132 : BitVec 32 := 1#32
  ⟨c0_i32_130, v205, c1_i32_132⟩

def k1_off20 (v192 : BitVec 32) (k1_t6 : Fin (k1_t6_loop v192).trips) : Fin 2 → Nat :=
  let c255_i32 : BitVec 32 := 255#32
  let v193 : BitVec 32 := Scalar.andi v192 c255_i32
  let c0_i32_130 : BitVec 32 := 0#32
  let c1_i32_132 : BitVec 32 := 1#32
  let arg25 : BitVec 32 := Scf.iv c0_i32_130 c1_i32_132 k1_t6
  let v400 : BitVec 32 := Scalar.addi v193 arg25
  let c0_i32_167 : BitVec 32 := 0#32
  ![v400.toNat, 0]
@[reducible] def k1_t7_loop (v192 : BitVec 32) : Scf.Loop 32 :=
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let v202 : BitVec 32 := Scalar.addi c0_i32_130 v201
  let c1_i32_133 : BitVec 32 := 1#32
  ⟨v205, v202, c1_i32_133⟩
def k1_off21 (v192 : BitVec 32) (k1_t7 : Fin (k1_t7_loop v192).trips) : Fin 2 → Nat :=
  let c255_i32 : BitVec 32 := 255#32
  let v193 : BitVec 32 := Scalar.andi v192 c255_i32
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let c1_i32_133 : BitVec 32 := 1#32
  let arg25 : BitVec 32 := Scf.iv v205 c1_i32_133 k1_t7
  let v400 : BitVec 32 := Scalar.addi v193 arg25
  let c0_i32_167 : BitVec 32 := 0#32
  ![v400.toNat, 0]

def k1_chk7 (v192 : BitVec 32) : Prop :=
  ((k1_t6_loop v192).OK) ∧
  (∀ k1_t6 : Fin (k1_t6_loop v192).trips, ∀ a, (k1_off20 v192 k1_t6) a + S1x512.size a ≤ S64x512.size a) ∧
  ((k1_t7_loop v192).OK) ∧
  (∀ k1_t7 : Fin (k1_t7_loop v192).trips, ∀ a, (k1_off21 v192 k1_t7) a + S1x512.size a ≤ S64x512.size a)
theorem k1_t6_ok : ∀ (v192 : BitVec 32) (k1_hw7 : k1_chk7 v192), (k1_t6_loop v192).OK := fun v192 k1_hw7 => k1_hw7.1
theorem k1_off20_inb : ∀ (v192 : BitVec 32) (k1_hw7 : k1_chk7 v192) (k1_t6 : Fin (k1_t6_loop v192).trips), ∀ a, (k1_off20 v192 k1_t6) a + S1x512.size a ≤ S64x512.size a := fun v192 k1_hw7 k1_t6 => k1_hw7.2.1 k1_t6
theorem k1_t7_ok : ∀ (v192 : BitVec 32) (k1_hw7 : k1_chk7 v192), (k1_t7_loop v192).OK := fun v192 k1_hw7 => k1_hw7.2.2.1
theorem k1_off21_inb : ∀ (v192 : BitVec 32) (k1_hw7 : k1_chk7 v192) (k1_t7 : Fin (k1_t7_loop v192).trips), ∀ a, (k1_off21 v192 k1_t7) a + S1x512.size a ≤ S64x512.size a := fun v192 k1_hw7 k1_t7 => k1_hw7.2.2.2 k1_t7

def k1_off22 (k1_t5 : Fin k1_t5_loop.trips) : Fin 2 → Nat :=
  let c0_i32_126 : BitVec 32 := 0#32
  let c0_i32_95 : BitVec 32 := 0#32
  let c1_i32_97 : BitVec 32 := 1#32
  let arg24 : BitVec 32 := Scf.iv c0_i32_95 c1_i32_97 k1_t5
  let c1_i32_125 : BitVec 32 := 1#32
  let v185 : BitVec 32 := Scalar.muli arg24 c1_i32_125
  let v186 : BitVec 32 := Scalar.addi c0_i32_126 v185
  let c0_i32_134 : BitVec 32 := 0#32
  ![v186.toNat, 0]
def k1_off23 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_79 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v117 : BitVec 32 := Scalar.muli c3_i32_79 v82
  let v118 : BitVec 32 := Scalar.addi v2 v117
  let c1_i32_80 : BitVec 32 := 1#32
  let v119 : BitVec 32 := Scalar.addi v118 c1_i32_80
  let c8_i32_99 : BitVec 32 := 8#32
  let v148 : BitVec 32 := Scalar.muli v119 c8_i32_99
  let c0_i32_100 : BitVec 32 := 0#32
  ![v148.toNat, 0]
def k1_off24 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_102 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v151 : BitVec 32 := Scalar.muli c3_i32_102 v82
  let v152 : BitVec 32 := Scalar.addi v2 v151
  let c2_i32_103 : BitVec 32 := 2#32
  let v153 : BitVec 32 := Scalar.addi v152 c2_i32_103
  let c1_i32_104 : BitVec 32 := 1#32
  let v154 : BitVec 32 := Scalar.addi v153 c1_i32_104
  let c0_i32_105 : BitVec 32 := 0#32
  ![v154.toNat, 0]
def k1_mult6 (v162 : BitVec 32) : BitVec 32 :=
  v162

def k1_off25 (v162 : BitVec 32) : Fin 2 → Nat :=
  let v163 : BitVec 32 := v162
  let c0_i32_108 : BitVec 32 := 0#32
  ![v163.toNat, 0]

def k1_chk8 (v162 : BitVec 32) : Prop :=
  (8 ∣ (k1_mult6 v162).toNat) ∧
  (∀ a, (k1_off25 v162) a + S64x512.size a ≤ S65536x512.size a)
theorem k1_mult6_dvd : ∀ (v162 : BitVec 32) (k1_hw8 : k1_chk8 v162), 8 ∣ (k1_mult6 v162).toNat := fun v162 k1_hw8 => k1_hw8.1
theorem k1_off25_inb : ∀ (v162 : BitVec 32) (k1_hw8 : k1_chk8 v162), ∀ a, (k1_off25 v162) a + S64x512.size a ≤ S65536x512.size a := fun v162 k1_hw8 => k1_hw8.2

def k1_off26 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_102 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v151 : BitVec 32 := Scalar.muli c3_i32_102 v82
  let v152 : BitVec 32 := Scalar.addi v2 v151
  let c2_i32_103 : BitVec 32 := 2#32
  let v153 : BitVec 32 := Scalar.addi v152 c2_i32_103
  let c2_i32_110 : BitVec 32 := 2#32
  let v166 : BitVec 32 := Scalar.addi v153 c2_i32_110
  let c0_i32_111 : BitVec 32 := 0#32
  ![v166.toNat, 0]
def k1_mult7 (v174 : BitVec 32) : BitVec 32 :=
  v174

def k1_off27 (v174 : BitVec 32) : Fin 2 → Nat :=
  let v175 : BitVec 32 := v174
  let c0_i32_114 : BitVec 32 := 0#32
  ![v175.toNat, 0]

def k1_chk9 (v174 : BitVec 32) : Prop :=
  (8 ∣ (k1_mult7 v174).toNat) ∧
  (∀ a, (k1_off27 v174) a + S64x512.size a ≤ S65536x512.size a)
theorem k1_mult7_dvd : ∀ (v174 : BitVec 32) (k1_hw9 : k1_chk9 v174), 8 ∣ (k1_mult7 v174).toNat := fun v174 k1_hw9 => k1_hw9.1
theorem k1_off27_inb : ∀ (v174 : BitVec 32) (k1_hw9 : k1_chk9 v174), ∀ a, (k1_off27 v174) a + S64x512.size a ≤ S65536x512.size a := fun v174 k1_hw9 => k1_hw9.2

def k1_cond3 (k1_t1 : Fin k1_t1_loop.trips) : BitVec 1 :=
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let c0_i32_116 : BitVec 32 := 0#32
  let v178 : BitVec 1 := Scalar.cmpi .sgt v82 c0_i32_116
  let v179 : BitVec 32 := Scalar.extui v178
  let c0_i32_117 : BitVec 32 := 0#32
  let v180 : BitVec 1 := Scalar.cmpi .ne v179 c0_i32_117
  v180

def k1_off28 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_102 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v151 : BitVec 32 := Scalar.muli c3_i32_102 v82
  let v152 : BitVec 32 := Scalar.addi v2 v151
  let c2_i32_103 : BitVec 32 := 2#32
  let v153 : BitVec 32 := Scalar.addi v152 c2_i32_103
  let c3_i32_125 : BitVec 32 := 3#32
  let v185 : BitVec 32 := Scalar.subi v153 c3_i32_125
  let c8_i32_126 : BitVec 32 := 8#32
  let v186 : BitVec 32 := Scalar.muli v185 c8_i32_126
  let c0_i32_127 : BitVec 32 := 0#32
  ![v186.toNat, 0]
@[reducible] def k1_t8_loop : Scf.Loop 32 :=
  let c0_i32_118 : BitVec 32 := 0#32
  let c8_i32_119 : BitVec 32 := 8#32
  let v181 : BitVec 32 := Scalar.addi c0_i32_118 c8_i32_119
  let c1_i32_120 : BitVec 32 := 1#32
  ⟨c0_i32_118, v181, c1_i32_120⟩
def k1_off29 (k1_t8 : Fin k1_t8_loop.trips) : Fin 1 → Nat :=
  let c0_i32_126 : BitVec 32 := 0#32
  let c0_i32_118 : BitVec 32 := 0#32
  let c1_i32_120 : BitVec 32 := 1#32
  let arg24 : BitVec 32 := Scf.iv c0_i32_118 c1_i32_120 k1_t8
  let c1_i32_125 : BitVec 32 := 1#32
  let v185 : BitVec 32 := Scalar.muli arg24 c1_i32_125
  let v186 : BitVec 32 := Scalar.addi c0_i32_126 v185
  let c16_i32 : BitVec 32 := 16#32
  let v187 : BitVec 32 := Scalar.muli v186 c16_i32
  let v188 : Index := Scalar.indexCast v187
  ![v188.toNat]
@[reducible] def k1_t9_loop (v192 : BitVec 32) : Scf.Loop 32 :=
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let c1_i32_132 : BitVec 32 := 1#32
  ⟨c0_i32_130, v205, c1_i32_132⟩

def k1_off30 (v192 : BitVec 32) (k1_t9 : Fin (k1_t9_loop v192).trips) : Fin 2 → Nat :=
  let c255_i32 : BitVec 32 := 255#32
  let v193 : BitVec 32 := Scalar.andi v192 c255_i32
  let c0_i32_130 : BitVec 32 := 0#32
  let c1_i32_132 : BitVec 32 := 1#32
  let arg25 : BitVec 32 := Scf.iv c0_i32_130 c1_i32_132 k1_t9
  let v400 : BitVec 32 := Scalar.addi v193 arg25
  let c0_i32_167 : BitVec 32 := 0#32
  ![v400.toNat, 0]
@[reducible] def k1_t10_loop (v192 : BitVec 32) : Scf.Loop 32 :=
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let v202 : BitVec 32 := Scalar.addi c0_i32_130 v201
  let c1_i32_133 : BitVec 32 := 1#32
  ⟨v205, v202, c1_i32_133⟩
def k1_off31 (v192 : BitVec 32) (k1_t10 : Fin (k1_t10_loop v192).trips) : Fin 2 → Nat :=
  let c255_i32 : BitVec 32 := 255#32
  let v193 : BitVec 32 := Scalar.andi v192 c255_i32
  let c0_i32_130 : BitVec 32 := 0#32
  let c8_i32_127 : BitVec 32 := 8#32
  let v194 : BitVec 32 := Scalar.shrsi v192 c8_i32_127
  let v201 : BitVec 32 := Scalar.subi v194 c0_i32_130
  let c1_i32_131 : BitVec 32 := 1#32
  let v203 : BitVec 32 := Scalar.divsi v201 c1_i32_131
  let v204 : BitVec 32 := Scalar.muli v203 c1_i32_131
  let v205 : BitVec 32 := Scalar.addi c0_i32_130 v204
  let c1_i32_133 : BitVec 32 := 1#32
  let arg25 : BitVec 32 := Scf.iv v205 c1_i32_133 k1_t10
  let v400 : BitVec 32 := Scalar.addi v193 arg25
  let c0_i32_167 : BitVec 32 := 0#32
  ![v400.toNat, 0]

def k1_chk10 (v192 : BitVec 32) : Prop :=
  ((k1_t9_loop v192).OK) ∧
  (∀ k1_t9 : Fin (k1_t9_loop v192).trips, ∀ a, (k1_off30 v192 k1_t9) a + S1x512.size a ≤ S64x512.size a) ∧
  ((k1_t10_loop v192).OK) ∧
  (∀ k1_t10 : Fin (k1_t10_loop v192).trips, ∀ a, (k1_off31 v192 k1_t10) a + S1x512.size a ≤ S64x512.size a)
theorem k1_t9_ok : ∀ (v192 : BitVec 32) (k1_hw10 : k1_chk10 v192), (k1_t9_loop v192).OK := fun v192 k1_hw10 => k1_hw10.1
theorem k1_off30_inb : ∀ (v192 : BitVec 32) (k1_hw10 : k1_chk10 v192) (k1_t9 : Fin (k1_t9_loop v192).trips), ∀ a, (k1_off30 v192 k1_t9) a + S1x512.size a ≤ S64x512.size a := fun v192 k1_hw10 k1_t9 => k1_hw10.2.1 k1_t9
theorem k1_t10_ok : ∀ (v192 : BitVec 32) (k1_hw10 : k1_chk10 v192), (k1_t10_loop v192).OK := fun v192 k1_hw10 => k1_hw10.2.2.1
theorem k1_off31_inb : ∀ (v192 : BitVec 32) (k1_hw10 : k1_chk10 v192) (k1_t10 : Fin (k1_t10_loop v192).trips), ∀ a, (k1_off31 v192 k1_t10) a + S1x512.size a ≤ S64x512.size a := fun v192 k1_hw10 k1_t10 => k1_hw10.2.2.2 k1_t10

def k1_off32 (k1_t8 : Fin k1_t8_loop.trips) : Fin 2 → Nat :=
  let c0_i32_126 : BitVec 32 := 0#32
  let c0_i32_118 : BitVec 32 := 0#32
  let c1_i32_120 : BitVec 32 := 1#32
  let arg24 : BitVec 32 := Scf.iv c0_i32_118 c1_i32_120 k1_t8
  let c1_i32_125 : BitVec 32 := 1#32
  let v185 : BitVec 32 := Scalar.muli arg24 c1_i32_125
  let v186 : BitVec 32 := Scalar.addi c0_i32_126 v185
  let c0_i32_134 : BitVec 32 := 0#32
  ![v186.toNat, 0]
def k1_off33 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_102 : BitVec 32 := 3#32
  let c0_i32_55 : BitVec 32 := 0#32
  let c0_i32_7 : BitVec 32 := 0#32
  let c1_i32_8 : BitVec 32 := 1#32
  let arg23 : BitVec 32 := Scf.iv c0_i32_7 c1_i32_8 k1_t1
  let c1_i32_54 : BitVec 32 := 1#32
  let v81 : BitVec 32 := Scalar.muli arg23 c1_i32_54
  let v82 : BitVec 32 := Scalar.addi c0_i32_55 v81
  let v151 : BitVec 32 := Scalar.muli c3_i32_102 v82
  let v152 : BitVec 32 := Scalar.addi v2 v151
  let c2_i32_103 : BitVec 32 := 2#32
  let v153 : BitVec 32 := Scalar.addi v152 c2_i32_103
  let c8_i32_122 : BitVec 32 := 8#32
  let v182 : BitVec 32 := Scalar.muli v153 c8_i32_122
  let c0_i32_123 : BitVec 32 := 0#32
  ![v182.toNat, 0]
def k1_off34 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_10 : BitVec 32 := 32#32
  let v24 : BitVec 32 := Scalar.addi v2 c32_i32_10
  let c2_i32_11 : BitVec 32 := 2#32
  let v25 : BitVec 32 := Scalar.subi v24 c2_i32_11
  let c1_i32_12 : BitVec 32 := 1#32
  let v26 : BitVec 32 := Scalar.addi v25 c1_i32_12
  let c0_i32_13 : BitVec 32 := 0#32
  ![v26.toNat, 0]
def k1_mult8 (v34 : BitVec 32) : BitVec 32 :=
  v34

def k1_off35 (v34 : BitVec 32) : Fin 2 → Nat :=
  let v35 : BitVec 32 := v34
  let c0_i32_16 : BitVec 32 := 0#32
  ![v35.toNat, 0]

def k1_chk11 (v34 : BitVec 32) : Prop :=
  (8 ∣ (k1_mult8 v34).toNat) ∧
  (∀ a, (k1_off35 v34) a + S64x512.size a ≤ S65536x512.size a)
theorem k1_mult8_dvd : ∀ (v34 : BitVec 32) (k1_hw11 : k1_chk11 v34), 8 ∣ (k1_mult8 v34).toNat := fun v34 k1_hw11 => k1_hw11.1
theorem k1_off35_inb : ∀ (v34 : BitVec 32) (k1_hw11 : k1_chk11 v34), ∀ a, (k1_off35 v34) a + S64x512.size a ≤ S65536x512.size a := fun v34 k1_hw11 => k1_hw11.2

def k1_mult9 (v41 : BitVec 32) : BitVec 32 :=
  v41

def k1_off36 (v41 : BitVec 32) : Fin 2 → Nat :=
  let v42 : BitVec 32 := v41
  let c0_i32_19 : BitVec 32 := 0#32
  ![v42.toNat, 0]

def k1_chk12 (v41 : BitVec 32) : Prop :=
  (8 ∣ (k1_mult9 v41).toNat) ∧
  (∀ a, (k1_off36 v41) a + S64x512.size a ≤ S65536x512.size a)
theorem k1_mult9_dvd : ∀ (v41 : BitVec 32) (k1_hw12 : k1_chk12 v41), 8 ∣ (k1_mult9 v41).toNat := fun v41 k1_hw12 => k1_hw12.1
theorem k1_off36_inb : ∀ (v41 : BitVec 32) (k1_hw12 : k1_chk12 v41), ∀ a, (k1_off36 v41) a + S64x512.size a ≤ S65536x512.size a := fun v41 k1_hw12 => k1_hw12.2

def k1_off37 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_10 : BitVec 32 := 32#32
  let v24 : BitVec 32 := Scalar.addi v2 c32_i32_10
  let c2_i32_11 : BitVec 32 := 2#32
  let v25 : BitVec 32 := Scalar.subi v24 c2_i32_11
  let c3_i32 : BitVec 32 := 3#32
  let v45 : BitVec 32 := Scalar.subi v25 c3_i32
  let c8_i32 : BitVec 32 := 8#32
  let v46 : BitVec 32 := Scalar.muli v45 c8_i32
  let c0_i32_21 : BitVec 32 := 0#32
  ![v46.toNat, 0]
@[reducible] def k1_t11_loop : Scf.Loop 32 :=
  let c0_i32_23 : BitVec 32 := 0#32
  let c8_i32_24 : BitVec 32 := 8#32
  let v49 : BitVec 32 := Scalar.addi c0_i32_23 c8_i32_24
  let c1_i32_25 : BitVec 32 := 1#32
  ⟨c0_i32_23, v49, c1_i32_25⟩
def k1_off38 (k1_t11 : Fin k1_t11_loop.trips) : Fin 1 → Nat :=
  let c0_i32_55 : BitVec 32 := 0#32
  let c0_i32_23 : BitVec 32 := 0#32
  let c1_i32_25 : BitVec 32 := 1#32
  let arg23 : BitVec 32 := Scf.iv c0_i32_23 c1_i32_25 k1_t11
  let c1_i32_54 : BitVec 32 := 1#32
  let v81 : BitVec 32 := Scalar.muli arg23 c1_i32_54
  let v82 : BitVec 32 := Scalar.addi c0_i32_55 v81
  let c16_i32 : BitVec 32 := 16#32
  let v83 : BitVec 32 := Scalar.muli v82 c16_i32
  let v84 : Index := Scalar.indexCast v83
  ![v84.toNat]
@[reducible] def k1_t12_loop (v88 : BitVec 32) : Scf.Loop 32 :=
  let c0_i32_59 : BitVec 32 := 0#32
  let c8_i32_56 : BitVec 32 := 8#32
  let v90 : BitVec 32 := Scalar.shrsi v88 c8_i32_56
  let v97 : BitVec 32 := Scalar.subi v90 c0_i32_59
  let c1_i32_60 : BitVec 32 := 1#32
  let v99 : BitVec 32 := Scalar.divsi v97 c1_i32_60
  let v100 : BitVec 32 := Scalar.muli v99 c1_i32_60
  let v101 : BitVec 32 := Scalar.addi c0_i32_59 v100
  let c1_i32_61 : BitVec 32 := 1#32
  ⟨c0_i32_59, v101, c1_i32_61⟩

def k1_off39 (v88 : BitVec 32) (k1_t12 : Fin (k1_t12_loop v88).trips) : Fin 2 → Nat :=
  let c255_i32 : BitVec 32 := 255#32
  let v89 : BitVec 32 := Scalar.andi v88 c255_i32
  let c0_i32_59 : BitVec 32 := 0#32
  let c1_i32_61 : BitVec 32 := 1#32
  let arg24 : BitVec 32 := Scf.iv c0_i32_59 c1_i32_61 k1_t12
  let v296 : BitVec 32 := Scalar.addi v89 arg24
  let c0_i32_96 : BitVec 32 := 0#32
  ![v296.toNat, 0]
@[reducible] def k1_t13_loop (v88 : BitVec 32) : Scf.Loop 32 :=
  let c0_i32_59 : BitVec 32 := 0#32
  let c8_i32_56 : BitVec 32 := 8#32
  let v90 : BitVec 32 := Scalar.shrsi v88 c8_i32_56
  let v97 : BitVec 32 := Scalar.subi v90 c0_i32_59
  let c1_i32_60 : BitVec 32 := 1#32
  let v99 : BitVec 32 := Scalar.divsi v97 c1_i32_60
  let v100 : BitVec 32 := Scalar.muli v99 c1_i32_60
  let v101 : BitVec 32 := Scalar.addi c0_i32_59 v100
  let v98 : BitVec 32 := Scalar.addi c0_i32_59 v97
  let c1_i32_62 : BitVec 32 := 1#32
  ⟨v101, v98, c1_i32_62⟩
def k1_off40 (v88 : BitVec 32) (k1_t13 : Fin (k1_t13_loop v88).trips) : Fin 2 → Nat :=
  let c255_i32 : BitVec 32 := 255#32
  let v89 : BitVec 32 := Scalar.andi v88 c255_i32
  let c0_i32_59 : BitVec 32 := 0#32
  let c8_i32_56 : BitVec 32 := 8#32
  let v90 : BitVec 32 := Scalar.shrsi v88 c8_i32_56
  let v97 : BitVec 32 := Scalar.subi v90 c0_i32_59
  let c1_i32_60 : BitVec 32 := 1#32
  let v99 : BitVec 32 := Scalar.divsi v97 c1_i32_60
  let v100 : BitVec 32 := Scalar.muli v99 c1_i32_60
  let v101 : BitVec 32 := Scalar.addi c0_i32_59 v100
  let c1_i32_62 : BitVec 32 := 1#32
  let arg24 : BitVec 32 := Scf.iv v101 c1_i32_62 k1_t13
  let v296 : BitVec 32 := Scalar.addi v89 arg24
  let c0_i32_96 : BitVec 32 := 0#32
  ![v296.toNat, 0]

def k1_chk13 (v88 : BitVec 32) : Prop :=
  ((k1_t12_loop v88).OK) ∧
  (∀ k1_t12 : Fin (k1_t12_loop v88).trips, ∀ a, (k1_off39 v88 k1_t12) a + S1x512.size a ≤ S64x512.size a) ∧
  ((k1_t13_loop v88).OK) ∧
  (∀ k1_t13 : Fin (k1_t13_loop v88).trips, ∀ a, (k1_off40 v88 k1_t13) a + S1x512.size a ≤ S64x512.size a)
theorem k1_t12_ok : ∀ (v88 : BitVec 32) (k1_hw13 : k1_chk13 v88), (k1_t12_loop v88).OK := fun v88 k1_hw13 => k1_hw13.1
theorem k1_off39_inb : ∀ (v88 : BitVec 32) (k1_hw13 : k1_chk13 v88) (k1_t12 : Fin (k1_t12_loop v88).trips), ∀ a, (k1_off39 v88 k1_t12) a + S1x512.size a ≤ S64x512.size a := fun v88 k1_hw13 k1_t12 => k1_hw13.2.1 k1_t12
theorem k1_t13_ok : ∀ (v88 : BitVec 32) (k1_hw13 : k1_chk13 v88), (k1_t13_loop v88).OK := fun v88 k1_hw13 => k1_hw13.2.2.1
theorem k1_off40_inb : ∀ (v88 : BitVec 32) (k1_hw13 : k1_chk13 v88) (k1_t13 : Fin (k1_t13_loop v88).trips), ∀ a, (k1_off40 v88 k1_t13) a + S1x512.size a ≤ S64x512.size a := fun v88 k1_hw13 k1_t13 => k1_hw13.2.2.2 k1_t13

def k1_off41 (k1_t11 : Fin k1_t11_loop.trips) : Fin 2 → Nat :=
  let c0_i32_55 : BitVec 32 := 0#32
  let c0_i32_23 : BitVec 32 := 0#32
  let c1_i32_25 : BitVec 32 := 1#32
  let arg23 : BitVec 32 := Scf.iv c0_i32_23 c1_i32_25 k1_t11
  let c1_i32_54 : BitVec 32 := 1#32
  let v81 : BitVec 32 := Scalar.muli arg23 c1_i32_54
  let v82 : BitVec 32 := Scalar.addi c0_i32_55 v81
  let c0_i32_63 : BitVec 32 := 0#32
  ![v82.toNat, 0]
def k1_off42 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_10 : BitVec 32 := 32#32
  let v24 : BitVec 32 := Scalar.addi v2 c32_i32_10
  let c2_i32_11 : BitVec 32 := 2#32
  let v25 : BitVec 32 := Scalar.subi v24 c2_i32_11
  let c8_i32_27 : BitVec 32 := 8#32
  let v50 : BitVec 32 := Scalar.muli v25 c8_i32_27
  let c0_i32_28 : BitVec 32 := 0#32
  ![v50.toNat, 0]
def k1_mult10 (v56 : BitVec 32) : BitVec 32 :=
  v56

def k1_off43 (v56 : BitVec 32) : Fin 2 → Nat :=
  let v57 : BitVec 32 := v56
  let c0_i32_31 : BitVec 32 := 0#32
  ![v57.toNat, 0]

def k1_chk14 (v56 : BitVec 32) : Prop :=
  (8 ∣ (k1_mult10 v56).toNat) ∧
  (∀ a, (k1_off43 v56) a + S64x512.size a ≤ S65536x512.size a)
theorem k1_mult10_dvd : ∀ (v56 : BitVec 32) (k1_hw14 : k1_chk14 v56), 8 ∣ (k1_mult10 v56).toNat := fun v56 k1_hw14 => k1_hw14.1
theorem k1_off43_inb : ∀ (v56 : BitVec 32) (k1_hw14 : k1_chk14 v56), ∀ a, (k1_off43 v56) a + S64x512.size a ≤ S65536x512.size a := fun v56 k1_hw14 => k1_hw14.2

def k1_off44 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_10 : BitVec 32 := 32#32
  let v24 : BitVec 32 := Scalar.addi v2 c32_i32_10
  let c2_i32_11 : BitVec 32 := 2#32
  let v25 : BitVec 32 := Scalar.subi v24 c2_i32_11
  let c1_i32_33 : BitVec 32 := 1#32
  let v60 : BitVec 32 := Scalar.addi v25 c1_i32_33
  let c3_i32_34 : BitVec 32 := 3#32
  let v61 : BitVec 32 := Scalar.subi v60 c3_i32_34
  let c8_i32_35 : BitVec 32 := 8#32
  let v62 : BitVec 32 := Scalar.muli v61 c8_i32_35
  let c0_i32_36 : BitVec 32 := 0#32
  ![v62.toNat, 0]
@[reducible] def k1_t14_loop : Scf.Loop 32 :=
  let c0_i32_38 : BitVec 32 := 0#32
  let c8_i32_39 : BitVec 32 := 8#32
  let v65 : BitVec 32 := Scalar.addi c0_i32_38 c8_i32_39
  let c1_i32_40 : BitVec 32 := 1#32
  ⟨c0_i32_38, v65, c1_i32_40⟩
def k1_off45 (k1_t14 : Fin k1_t14_loop.trips) : Fin 1 → Nat :=
  let c0_i32_55 : BitVec 32 := 0#32
  let c0_i32_38 : BitVec 32 := 0#32
  let c1_i32_40 : BitVec 32 := 1#32
  let arg23 : BitVec 32 := Scf.iv c0_i32_38 c1_i32_40 k1_t14
  let c1_i32_54 : BitVec 32 := 1#32
  let v81 : BitVec 32 := Scalar.muli arg23 c1_i32_54
  let v82 : BitVec 32 := Scalar.addi c0_i32_55 v81
  let c16_i32 : BitVec 32 := 16#32
  let v83 : BitVec 32 := Scalar.muli v82 c16_i32
  let v84 : Index := Scalar.indexCast v83
  ![v84.toNat]
@[reducible] def k1_t15_loop (v88 : BitVec 32) : Scf.Loop 32 :=
  let c0_i32_59 : BitVec 32 := 0#32
  let c8_i32_56 : BitVec 32 := 8#32
  let v90 : BitVec 32 := Scalar.shrsi v88 c8_i32_56
  let v97 : BitVec 32 := Scalar.subi v90 c0_i32_59
  let c1_i32_60 : BitVec 32 := 1#32
  let v99 : BitVec 32 := Scalar.divsi v97 c1_i32_60
  let v100 : BitVec 32 := Scalar.muli v99 c1_i32_60
  let v101 : BitVec 32 := Scalar.addi c0_i32_59 v100
  let c1_i32_61 : BitVec 32 := 1#32
  ⟨c0_i32_59, v101, c1_i32_61⟩

def k1_off46 (v88 : BitVec 32) (k1_t15 : Fin (k1_t15_loop v88).trips) : Fin 2 → Nat :=
  let c255_i32 : BitVec 32 := 255#32
  let v89 : BitVec 32 := Scalar.andi v88 c255_i32
  let c0_i32_59 : BitVec 32 := 0#32
  let c1_i32_61 : BitVec 32 := 1#32
  let arg24 : BitVec 32 := Scf.iv c0_i32_59 c1_i32_61 k1_t15
  let v296 : BitVec 32 := Scalar.addi v89 arg24
  let c0_i32_96 : BitVec 32 := 0#32
  ![v296.toNat, 0]
@[reducible] def k1_t16_loop (v88 : BitVec 32) : Scf.Loop 32 :=
  let c0_i32_59 : BitVec 32 := 0#32
  let c8_i32_56 : BitVec 32 := 8#32
  let v90 : BitVec 32 := Scalar.shrsi v88 c8_i32_56
  let v97 : BitVec 32 := Scalar.subi v90 c0_i32_59
  let c1_i32_60 : BitVec 32 := 1#32
  let v99 : BitVec 32 := Scalar.divsi v97 c1_i32_60
  let v100 : BitVec 32 := Scalar.muli v99 c1_i32_60
  let v101 : BitVec 32 := Scalar.addi c0_i32_59 v100
  let v98 : BitVec 32 := Scalar.addi c0_i32_59 v97
  let c1_i32_62 : BitVec 32 := 1#32
  ⟨v101, v98, c1_i32_62⟩
def k1_off47 (v88 : BitVec 32) (k1_t16 : Fin (k1_t16_loop v88).trips) : Fin 2 → Nat :=
  let c255_i32 : BitVec 32 := 255#32
  let v89 : BitVec 32 := Scalar.andi v88 c255_i32
  let c0_i32_59 : BitVec 32 := 0#32
  let c8_i32_56 : BitVec 32 := 8#32
  let v90 : BitVec 32 := Scalar.shrsi v88 c8_i32_56
  let v97 : BitVec 32 := Scalar.subi v90 c0_i32_59
  let c1_i32_60 : BitVec 32 := 1#32
  let v99 : BitVec 32 := Scalar.divsi v97 c1_i32_60
  let v100 : BitVec 32 := Scalar.muli v99 c1_i32_60
  let v101 : BitVec 32 := Scalar.addi c0_i32_59 v100
  let c1_i32_62 : BitVec 32 := 1#32
  let arg24 : BitVec 32 := Scf.iv v101 c1_i32_62 k1_t16
  let v296 : BitVec 32 := Scalar.addi v89 arg24
  let c0_i32_96 : BitVec 32 := 0#32
  ![v296.toNat, 0]

def k1_chk15 (v88 : BitVec 32) : Prop :=
  ((k1_t15_loop v88).OK) ∧
  (∀ k1_t15 : Fin (k1_t15_loop v88).trips, ∀ a, (k1_off46 v88 k1_t15) a + S1x512.size a ≤ S64x512.size a) ∧
  ((k1_t16_loop v88).OK) ∧
  (∀ k1_t16 : Fin (k1_t16_loop v88).trips, ∀ a, (k1_off47 v88 k1_t16) a + S1x512.size a ≤ S64x512.size a)
theorem k1_t15_ok : ∀ (v88 : BitVec 32) (k1_hw15 : k1_chk15 v88), (k1_t15_loop v88).OK := fun v88 k1_hw15 => k1_hw15.1
theorem k1_off46_inb : ∀ (v88 : BitVec 32) (k1_hw15 : k1_chk15 v88) (k1_t15 : Fin (k1_t15_loop v88).trips), ∀ a, (k1_off46 v88 k1_t15) a + S1x512.size a ≤ S64x512.size a := fun v88 k1_hw15 k1_t15 => k1_hw15.2.1 k1_t15
theorem k1_t16_ok : ∀ (v88 : BitVec 32) (k1_hw15 : k1_chk15 v88), (k1_t16_loop v88).OK := fun v88 k1_hw15 => k1_hw15.2.2.1
theorem k1_off47_inb : ∀ (v88 : BitVec 32) (k1_hw15 : k1_chk15 v88) (k1_t16 : Fin (k1_t16_loop v88).trips), ∀ a, (k1_off47 v88 k1_t16) a + S1x512.size a ≤ S64x512.size a := fun v88 k1_hw15 k1_t16 => k1_hw15.2.2.2 k1_t16

def k1_off48 (k1_t14 : Fin k1_t14_loop.trips) : Fin 2 → Nat :=
  let c0_i32_55 : BitVec 32 := 0#32
  let c0_i32_38 : BitVec 32 := 0#32
  let c1_i32_40 : BitVec 32 := 1#32
  let arg23 : BitVec 32 := Scf.iv c0_i32_38 c1_i32_40 k1_t14
  let c1_i32_54 : BitVec 32 := 1#32
  let v81 : BitVec 32 := Scalar.muli arg23 c1_i32_54
  let v82 : BitVec 32 := Scalar.addi c0_i32_55 v81
  let c0_i32_63 : BitVec 32 := 0#32
  ![v82.toNat, 0]
def k1_off49 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_10 : BitVec 32 := 32#32
  let v24 : BitVec 32 := Scalar.addi v2 c32_i32_10
  let c2_i32_11 : BitVec 32 := 2#32
  let v25 : BitVec 32 := Scalar.subi v24 c2_i32_11
  let c1_i32_33 : BitVec 32 := 1#32
  let v60 : BitVec 32 := Scalar.addi v25 c1_i32_33
  let c8_i32_42 : BitVec 32 := 8#32
  let v66 : BitVec 32 := Scalar.muli v60 c8_i32_42
  let c0_i32_43 : BitVec 32 := 0#32
  ![v66.toNat, 0]
def k1_off50 (i : grid1.Coords) (c29_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v69 : BitVec 32 := Scalar.addi v2 c29_i32
  let c8_i32_45 : BitVec 32 := 8#32
  let v70 : BitVec 32 := Scalar.muli v69 c8_i32_45
  let c0_i32_46 : BitVec 32 := 0#32
  ![v70.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x3 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x512 : Shape := ⟨3, ![16, 4096, 512]⟩
abbrev S16x512 : Shape := ⟨2, ![16, 512]⟩
abbrev S_ : Shape := ⟨0, ![]⟩
abbrev S256x512 : Shape := ⟨2, ![256, 512]⟩
abbrev S256 : Shape := ⟨1, ![256]⟩
abbrev S3x256 : Shape := ⟨2, ![3, 256]⟩
abbrev S3 : Shape := ⟨1, ![3]⟩
abbrev S4096 : Shape := ⟨1, ![4096]⟩
abbrev S16x1x512 : Shape := ⟨3, ![16, 1, 512]⟩
abbrev S1x4096x1 : Shape := ⟨3, ![1, 4096, 1]⟩
abbrev S16x4096 : Shape := ⟨2, ![16, 4096]⟩
abbrev S1x4096 : Shape := ⟨2, ![1, 4096]⟩
abbrev S16x1 : Shape := ⟨2, ![16, 1]⟩
abbrev S16x1x4096 : Shape := ⟨3, ![16, 1, 4096]⟩
abbrev S512 : Shape := ⟨1, ![512]⟩
abbrev S1x512x1 : Shape := ⟨3, ![1, 512, 1]⟩
abbrev S16x512x4096 : Shape := ⟨3, ![16, 512, 4096]⟩
abbrev S16x512x512 : Shape := ⟨3, ![16, 512, 512]⟩
abbrev S16x512x1 : Shape := ⟨3, ![16, 512, 1]⟩
abbrev S512x256 : Shape := ⟨2, ![512, 256]⟩
abbrev S16x512x256 : Shape := ⟨3, ![16, 512, 256]⟩
abbrev S1x1x256 : Shape := ⟨3, ![1, 1, 256]⟩
abbrev S256x3 : Shape := ⟨2, ![256, 3]⟩
abbrev S16x512x3 : Shape := ⟨3, ![16, 512, 3]⟩
abbrev S1x1x3 : Shape := ⟨3, ![1, 1, 3]⟩

abbrev nBuf : Space → Nat
  | .hbm => 84
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x512, .i32⟩
  | .hbm, ⟨2, _⟩ => ⟨S_, .i32⟩
  | .hbm, ⟨3, _⟩ => ⟨S256x512, .f32⟩
  | .hbm, ⟨4, _⟩ => ⟨S256, .f32⟩
  | .hbm, ⟨5, _⟩ => ⟨S3x256, .f32⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x512, .f32⟩
  | .hbm, ⟨11, _⟩ => ⟨S16x512, .f32⟩
  | .hbm, ⟨12, _⟩ => ⟨S16x512, .f32⟩
  | .hbm, ⟨13, _⟩ => ⟨S16x512, .f32⟩
  | .hbm, ⟨14, _⟩ => ⟨S16x512, .i32⟩
  | .hbm, ⟨15, _⟩ => ⟨S_, .i32⟩
  | .hbm, ⟨16, _⟩ => ⟨S16x512, .i32⟩
  | .hbm, ⟨17, _⟩ => ⟨S16x512, .i32⟩
  | .hbm, ⟨18, _⟩ => ⟨S_, .i32⟩
  | .hbm, ⟨19, _⟩ => ⟨S16x512, .i32⟩
  | .hbm, ⟨20, _⟩ => ⟨S16x512, .i1⟩
  | .hbm, ⟨21, _⟩ => ⟨S_, .i32⟩
  | .hbm, ⟨22, _⟩ => ⟨S_, .i32⟩
  | .hbm, ⟨23, _⟩ => ⟨S16x512, .i32⟩
  | .hbm, ⟨24, _⟩ => ⟨S16x512, .i32⟩
  | .hbm, ⟨25, _⟩ => ⟨S_, .i32⟩
  | .hbm, ⟨26, _⟩ => ⟨S_, .i32⟩
  | .hbm, ⟨27, _⟩ => ⟨S16x512, .i32⟩
  | .hbm, ⟨28, _⟩ => ⟨S4096, .i32⟩
  | .hbm, ⟨29, _⟩ => ⟨S16x1x512, .i32⟩
  | .hbm, ⟨30, _⟩ => ⟨S1x4096x1, .i32⟩
  | .hbm, ⟨31, _⟩ => ⟨S16x4096x512, .i32⟩
  | .hbm, ⟨32, _⟩ => ⟨S16x4096x512, .i32⟩
  | .hbm, ⟨33, _⟩ => ⟨S16x4096x512, .i1⟩
  | .hbm, ⟨34, _⟩ => ⟨S16x4096x512, .i32⟩
  | .hbm, ⟨35, _⟩ => ⟨S_, .i32⟩
  | .hbm, ⟨36, _⟩ => ⟨S16x4096, .i32⟩
  | .hbm, ⟨37, _⟩ => ⟨S1x4096, .i32⟩
  | .hbm, ⟨38, _⟩ => ⟨S16x1, .i32⟩
  | .hbm, ⟨39, _⟩ => ⟨S16x4096, .i32⟩
  | .hbm, ⟨40, _⟩ => ⟨S16x4096, .i32⟩
  | .hbm, ⟨41, _⟩ => ⟨S16x4096, .i1⟩
  | .hbm, ⟨42, _⟩ => ⟨S_, .i32⟩
  | .hbm, ⟨43, _⟩ => ⟨S_, .i32⟩
  | .hbm, ⟨44, _⟩ => ⟨S16x4096, .i32⟩
  | .hbm, ⟨45, _⟩ => ⟨S16x4096, .i32⟩
  | .hbm, ⟨46, _⟩ => ⟨S16x1x4096, .i32⟩
  | .hbm, ⟨47, _⟩ => ⟨S512, .i32⟩
  | .hbm, ⟨48, _⟩ => ⟨S1x512x1, .i32⟩
  | .hbm, ⟨49, _⟩ => ⟨S16x512x4096, .i32⟩
  | .hbm, ⟨50, _⟩ => ⟨S16x512x4096, .i32⟩
  | .hbm, ⟨51, _⟩ => ⟨S16x512x4096, .i1⟩
  | .hbm, ⟨52, _⟩ => ⟨S16x512x4096, .f32⟩
  | .hbm, ⟨53, _⟩ => ⟨S16x512x512, .f32⟩
  | .hbm, ⟨54, _⟩ => ⟨S_, .f32⟩
  | .hbm, ⟨55, _⟩ => ⟨S16x512, .f32⟩
  | .hbm, ⟨56, _⟩ => ⟨S_, .f32⟩
  | .hbm, ⟨57, _⟩ => ⟨S16x512, .f32⟩
  | .hbm, ⟨58, _⟩ => ⟨S16x512, .f32⟩
  | .hbm, ⟨59, _⟩ => ⟨S16x512x1, .f32⟩
  | .hbm, ⟨60, _⟩ => ⟨S16x512x512, .f32⟩
  | .hbm, ⟨61, _⟩ => ⟨S16x512x512, .f32⟩
  | .hbm, ⟨62, _⟩ => ⟨S16x512x1, .i1⟩
  | .hbm, ⟨63, _⟩ => ⟨S_, .f32⟩
  | .hbm, ⟨64, _⟩ => ⟨S_, .f32⟩
  | .hbm, ⟨65, _⟩ => ⟨S16x512x512, .i1⟩
  | .hbm, ⟨66, _⟩ => ⟨S16x512x512, .f32⟩
  | .hbm, ⟨67, _⟩ => ⟨S16x512x512, .f32⟩
  | .hbm, ⟨68, _⟩ => ⟨S512x256, .f32⟩
  | .hbm, ⟨69, _⟩ => ⟨S16x512x256, .f32⟩
  | .hbm, ⟨70, _⟩ => ⟨S1x1x256, .f32⟩
  | .hbm, ⟨71, _⟩ => ⟨S16x512x256, .f32⟩
  | .hbm, ⟨72, _⟩ => ⟨S16x512x256, .f32⟩
  | .hbm, ⟨73, _⟩ => ⟨S_, .f32⟩
  | .hbm, ⟨74, _⟩ => ⟨S16x512x256, .f32⟩
  | .hbm, ⟨75, _⟩ => ⟨S16x512x256, .f32⟩
  | .hbm, ⟨76, _⟩ => ⟨S256x3, .f32⟩
  | .hbm, ⟨77, _⟩ => ⟨S16x512x3, .f32⟩
  | .hbm, ⟨78, _⟩ => ⟨S1x1x3, .f32⟩
  | .hbm, ⟨79, _⟩ => ⟨S16x512x3, .f32⟩
  | .hbm, ⟨80, _⟩ => ⟨S16x512x3, .f32⟩
  | .hbm, ⟨81, _⟩ => ⟨S_, .f32⟩
  | .hbm, ⟨82, _⟩ => ⟨S16x512x3, .f32⟩
  | .hbm, ⟨83, _⟩ => ⟨S16x512x3, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_call1_call0_c : Ref sig .tc := ⟨.hbm, 25, rfl⟩
abbrev main_call1_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_call2_v0 : Ref sig .tc := ⟨.hbm, 43, rfl⟩
abbrev main_call2_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.Base.lean ====
/-
  What every module about the program shares: the body tables as the launch theorem sees them, the resource algebra,
  and the names of the threads.
-/
module

public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the TensorCore's two pipelines over the kernels' own. -/
abbrev ΛP : Labels := Pipeline.Sig Λ₀ (Fin 2) fun p => (pcfgs (F := F) p).Adm
/-- The SparseCore call's configuration. -/
abbrev K : SparseCore.Cfg τ sig (ΛP (F := F)) 1 := sc (F := F)
/-- The body table under the SparseCore's. -/
abbrev D : Defs nD τ sig (Elt F) (ΛP (F := F)) := Pipeline.defs pcfgs defs₀
abbrev 𝒱₀ : Variants := Variants.none
/-- The kernels' variants under the pipelines' trip counts. -/
abbrev 𝒱P : Variants := 𝒱₀.lift

/-- The rounds of the SparseCore's handshakes, of the pipelines' staging cells, and the transfers' counters. -/
abbrev UH : Type := URounds (GSem nD τ sig) ℕ
abbrev UP : Type := UR sig nD τ
abbrev UU : Type := UH × (UP × Counters)

end Cert.Proof.KI

end
-- ==== Proof.Words.lean ====
/-
  The word of a segment: its first row within the window in the low eight bits, its number of rows above them. What the
  kernel's loop bounds and offsets are at such a word.
-/
module

public import proofs.«01_k».proof.Proof.Base
public import Idealize.ShloMosaic.Lib.LoopRemainder

@[expose] public section

noncomputable section

namespace Cert.Proof.KI

open Cert.KernelIdeal Cert.KernelIdeal.Gen
open Idealize.ShloMosaic

/-- `w` names the `n` rows from row `o` of a window of 64 rows. -/
structure SegWord (w : BitVec 32) (o n : ℕ) : Prop where
  eq : w.toNat = o + 256 * n
  le : o + n ≤ 64

variable {w : BitVec 32} {o n : ℕ}

theorem SegWord.shr (h : SegWord w o n) : Scalar.shrsi w 8#32 = BitVec.ofNat 32 n := by
  have h1 := h.eq; have h2 := h.le
  have hw : w.toNat < 2 ^ 31 := by omega
  have hm : w.msb = false := by rw [BitVec.msb_eq_decide]; simp; omega
  apply BitVec.eq_of_toNat_eq
  simp [Scalar.shrsi, IntOp.shrsi, BitVec.sshiftRight_eq_of_msb_false hm, Nat.shiftRight_eq_div_pow, h1]
  omega

theorem SegWord.and (h : SegWord w o n) : Scalar.andi w 255#32 = BitVec.ofNat 32 o := by
  have h1 := h.eq; have h2 := h.le
  apply BitVec.eq_of_toNat_eq
  simp only [Scalar.andi, IntOp.andi, BitVec.toNat_and, BitVec.toNat_ofNat, h1]
  rw [show 255 % 2 ^ 32 = 2 ^ 8 - 1 by decide, Nat.and_two_pow_sub_one_eq_mod]
  omega

theorem SegWord.loop (h : SegWord w o n) : k1_t3_loop w = ⟨0#32, BitVec.ofNat 32 n, 1#32⟩ := by
  unfold k1_t3_loop
  simp only [h.shr, Scalar.muli_divsi_one]
  simp [Scalar.addi, Scalar.subi, IntOp.addi, IntOp.subi]

theorem toInt_small {n : ℕ} (h : n ≤ 64) : (BitVec.ofNat 32 n).toInt = n := by
  rw [BitVec.toInt_eq_toNat_of_lt (by simp; omega)]; simp; omega

theorem trips_small {n : ℕ} (h : n ≤ 64) : Scf.trips 0#32 (BitVec.ofNat 32 n) 1#32 = n := by
  unfold Scf.trips
  rw [toInt_small h]
  simp

theorem SegWord.trips (h : SegWord w o n) : (k1_t3_loop w).trips = n := by
  have h2 := h.le
  rw [h.loop]; exact trips_small (by omega)

theorem SegWord.off (h : SegWord w o n) (k : Fin (k1_t3_loop w).trips) : k1_off10 w k = ![o + k.val, 0] := by
  have h2 := h.le
  have hk : k.val < n := h.trips ▸ k.isLt
  unfold k1_off10
  simp only [h.and]
  have e : (Scalar.addi (BitVec.ofNat 32 o) (Scf.iv 0#32 1#32 k.val)).toNat = o + k.val := by
    simp [Scalar.addi, IntOp.addi, Scf.iv]; omega
  rw [e]

theorem SegWord.chk (h : SegWord w o n) : k1_chk4 w := by
  have h2 := h.le
  refine ⟨?_, ?_, ?_, ?_⟩
  · rw [h.loop]
    exact ⟨by show 0 < (1#32 : BitVec 32).toInt; decide, by show (0#32).toInt + (Scf.trips 0#32 (BitVec.ofNat 32 n) 1#32 : ℕ) * (1#32).toInt < _; rw [trips_small (by omega)]; simp; omega⟩
  · intro k a
    have hk : k.val < n := h.trips ▸ k.isLt
    rw [h.off k]
    match a with
    | 0 => show o + k.val + 1 ≤ 64; omega
    | 1 => show 0 + 512 ≤ 512; omega
  · exact Scf.rem_ok _ _
  · intro k
    exact absurd k.isLt (by have := Scf.rem_trips 0#32 (Scalar.subi (Scalar.shrsi w 8#32) 0#32); show ¬ _ < Scf.trips _ _ _; rw [this]; exact Nat.not_lt_zero _)

end Cert.Proof.KI

end
-- ==== Proof.Seg.lean ====
/-
  One segment of a chunk: the kernel loads the segment's word from the chunk's words, adds up the rows it names of the
  chunk's window, multiplies by the reciprocal of the length, and stores the row.
-/
module

public import proofs.«01_k».proof.Proof.Base
public import proofs.«01_k».proof.Proof.Words
public import Idealize.ShloMosaic.Lib.WholeRead
public import Idealize.ShloMosaic.Lib.ValueLayout

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-- The thread of the vector subcore at coordinates `i`. -/
abbrev thr (d : Dev nD) (i : grid1.Coords) : Thread nD τ := V d ((i 0).castLE hcore1) ((i 1).castLE hsub1)

/-! ## The sums -/

/-- Sixteen lanes of a row of a window: columns `16 j` to `16 j + 15` of row `r`. -/
def lanes (sv : Vec F S64x512 .f32) (r j : ℕ) : Vec F S16 .f32 := fun l =>
  sv (ix2 ⟨r % 64, Nat.mod_lt _ (by decide)⟩ ⟨(16 * j + (l 0).val) % 512, Nat.mod_lt _ (by decide)⟩)

/-- The sum of the lanes `j` of the `n` rows from row `o`, in the kernel's order. -/
def accV (sv : Vec F S64x512 .f32) (o : ℕ) : ℕ → ℕ → FVec F S16 .f32
  | 0, _ => k1_pay58
  | n + 1, j => k1_pay4 (accV sv o n j) (lanes sv (o + n) j)

/-- The thirty-two sums the loop carries. -/
def accT (sv : Vec F S64x512 .f32) (o n : ℕ) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (accV sv o n 0, accV sv o n 1, accV sv o n 2, accV sv o n 3, accV sv o n 4, accV sv o n 5, accV sv o n 6, accV sv o n 7, accV sv o n 8, accV sv o n 9, accV sv o n 10, accV sv o n 11, accV sv o n 12, accV sv o n 13, accV sv o n 14, accV sv o n 15, accV sv o n 16, accV sv o n 17, accV sv o n 18, accV sv o n 19, accV sv o n 20, accV sv o n 21, accV sv o n 22, accV sv o n 23, accV sv o n 24, accV sv o n 25, accV sv o n 26, accV sv o n 27, accV sv o n 28, accV sv o n 29, accV sv o n 30, accV sv o n 31)

/-- A load of sixteen lanes of a row of the window, read as lanes. -/
theorem load_lanes {m : Memref sig .scVector .vmem S64x512 .f32} (hm : m.IsWhole) (sv : Vec F S64x512 .f32) {r : ℕ}
    {off : Fin 2 → ℕ} (e : off = ![r, 0]) (inb : ∀ a, off a + S1x512.size a ≤ S64x512.size a) (hs) (j : ℕ) {c : ℕ} (hc : c = 16 * j)
    (inb' : ∀ a, (![c] : Fin 1 → ℕ) a + S16.size a ≤ S512.size a) :
    View.readAt (Elt F) ((m.slice (Rect.unit (s := S64x512) off S1x512.size inb) hs).squeeze S512 squeezes_S1x512_S512).view
      (Rect.unit (s := S512) ![c] S16.size inb').toLoadRect (hm.unread sv) = lanes sv r j := by
  subst e; subst hc
  funext l
  refine (hm.readAt_slice_reshape_unread sv _ _ _ l).trans ?_
  unfold lanes
  congr 1
  have h0' : r + 1 ≤ 64 := inb 0
  have h1' : 16 * j + 16 ≤ 512 := inb' 0
  have hl : (l 0).val < 16 := (l 0).isLt
  rw [Shape.reshapeEquiv_cons_one (n := 1) (d := ![512])]
  funext a
  match a with
  | 0 => apply Fin.ext; show r + 1 * 0 = r % 64; omega
  | 1 => apply Fin.ext; show 0 + 1 * (16 * j + 1 * (l 0).val) = (16 * j + (l 0).val) % 512; omega

/-- Adding the loaded lanes takes the sum one row further. -/
theorem add_lanes {m : Memref sig .scVector .vmem S64x512 .f32} (hm : m.IsWhole) (sv : Vec F S64x512 .f32) {o n : ℕ}
    {off : Fin 2 → ℕ} (e : off = ![o + n, 0]) (inb : ∀ a, off a + S1x512.size a ≤ S64x512.size a) (hs) (j : ℕ) {c : ℕ} (hc : c = 16 * j)
    (inb' : ∀ a, (![c] : Fin 1 → ℕ) a + S16.size a ≤ S512.size a) :
    k1_pay4 (accV sv o n j) (View.readAt (Elt F) ((m.slice (Rect.unit (s := S64x512) off S1x512.size inb) hs).squeeze S512 squeezes_S1x512_S512).view
      (Rect.unit (s := S512) ![c] S16.size inb').toLoadRect (hm.unread sv)) = accV sv o (n + 1) j := by
  rw [load_lanes hm sv e inb hs j hc inb']; rfl

/-! ## One row added -/

variable (d : Dev nD) (i : grid1.Coords) (arg2 : Memref sig .scVector .hbm S1024x256 .i32) (harg2 : arg2.IsWhole) (arg3 : Memref sig .scVector .hbm S65536x512 .f32) (harg3 : arg3.IsWhole) (arg4 : Memref sig .scVector .hbm S8192x512 .f32) (harg4 : arg4.IsWhole) (arg5 : Memref sig .scVector .vmem S256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S64x512 .f32) (harg8 : arg8.IsWhole) (arg9 : Memref sig .scVector .vmem S64x512 .f32) (harg9 : arg9.IsWhole) (arg10 : Memref sig .scVector .vmem S64x512 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x512 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_)

set_option sl_exec.squeezeSlice true in
set_option maxHeartbeats 4000000 in
theorem t3_trip (c0 c1 : BitVec 32) (k2 : Fin k1_t2_loop.trips) (w : BitVec 32) (hw : k1_chk4 w) {o n : ℕ} (hs : SegWord w o n)
    (v193 : BitVec 32) (k3 : Fin (k1_t3_loop w).trips) (sv : Vec F S64x512 .f32) (q : PosShare TreeShare) :
    (arg8.view.loc (thr d i) ↦[arg8.view.set]{q} (harg8.unread sv) : sProp 𝕄)
      ⊢ wp frame (wpE (defs₀ (F := F)) 𝒱₀ (thr d i) none) Set.univ
        (k1_t3_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 c0 c1 k2 w hw v193 k3 (accT sv o k3.val))
        (fun r => iprop(⌜r = accT sv o (k3.val + 1)⌝ ∗ arg8.view.loc (thr d i) ↦[arg8.view.set]{q} (harg8.unread sv))) := by
  iintro H
  unfold accT
  sl_unfold [k1_t3_body]
  sl_exec
  sl_step
  isplitr
  · ipureintro
    have e := hs.off k3
    iterate 31 refine congrArg₂ Prod.mk (add_lanes harg8 sv e _ _ _ rfl _) ?_
    exact add_lanes harg8 sv e _ _ _ rfl _
  · iexact H

end Cert.Proof.KI

end
-- ==== Proof.SegBody.lean ====
/-
  One segment of a chunk: its word is loaded, the rows it names are summed, and their mean is stored.
-/
module

public import proofs.«01_k».proof.Proof.Seg
public import Idealize.ShloMosaic.Lib.LoopRemainder
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## One segment -/

/-- The word of a segment: the first lane of its sixteen words. -/
def segWord (mv : Vec F S256 .i32) (j : ℕ) : BitVec 32 := mv (ix1 ⟨(16 * j) % 256, Nat.mod_lt _ (by decide)⟩)

/-- The reciprocal of a segment's length, one for an empty segment. -/
def recipV (w : BitVec 32) : FVec F S16 .f32 :=
  divf (broadcast S16 (Scalar.ofBits .f32 0x3F800000#32)) (sitofp .f32 (broadcast S16 (Scalar.maxsi (Scalar.shrsi w 8#32) 1#32)))

/-- The mean over a segment: what is stored in column `c` of the segment's row. -/
def segMean (w : BitVec 32) (sv : Vec F S64x512 .f32) (c : ℕ) : F .f32 :=
  mulf (accV sv (w.toNat % 256) (w.toNat / 256) (c / 16)) (recipV w) (ix1 ⟨c % 16, Nat.mod_lt _ (by decide)⟩)

/-- The rows with the means of segment `j` put in row `j`. -/
def putRow (mv : Vec F S256 .i32) (sv : Vec F S64x512 .f32) (j : ℕ) (ov : Vec F S8x512 .f32) : Vec F S8x512 .f32 := fun p =>
  if (p 0).val = j then segMean (segWord mv j) sv (p 1).val else ov p

theorem SegWord.n {w : BitVec 32} {o n : ℕ} (h : SegWord w o n) : w.toNat / 256 = n := by
  have h1 := h.eq; have h2 := h.le; omega
/-- The first `J` groups of lanes of row `j` stored. -/
def putUpTo (w : BitVec 32) (sv : Vec F S64x512 .f32) (j J : ℕ) (ov : Vec F S8x512 .f32) : Vec F S8x512 .f32 := fun p =>
  if (p 0).val = j ∧ (p 1).val / 16 < J then segMean w sv (p 1).val else ov p

theorem putUpTo_zero (w : BitVec 32) (sv : Vec F S64x512 .f32) (j : ℕ) (ov : Vec F S8x512 .f32) : putUpTo w sv j 0 ov = ov := by
  funext p; simp [putUpTo]

theorem putUpTo_all (mv : Vec F S256 .i32) (sv : Vec F S64x512 .f32) (j : ℕ) (ov : Vec F S8x512 .f32) :
    putUpTo (segWord mv j) sv j 32 ov = putRow mv sv j ov := by
  funext p
  have h : (p 1).val < 512 := (p 1).isLt
  simp [putUpTo, putRow, show (p 1).val / 16 < 32 by omega]

theorem putUpTo_succ (w : BitVec 32) (sv : Vec F S64x512 .f32) (j : ℕ) (ov : Vec F S8x512 .f32)
    {m : Memref sig .scVector .vmem S8x512 .f32} (hm : m.IsWhole) {f : m.view.ty.Contents (Elt F)} {J : ℕ} (hf : f = hm.unread (putUpTo w sv j J ov))
    {off : Fin 2 → ℕ} (e : off = ![j, 0]) (inb : ∀ a, off a + S1x512.size a ≤ S8x512.size a) (hs) {c : ℕ} (hc : c = 16 * J)
    (inb' : ∀ a, (![c] : Fin 1 → ℕ) a + S16.size a ≤ S512.size a) {x : Vec F S16 .f32}
    (hx : x = mulf (accV sv (w.toNat % 256) (w.toNat / 256) J) (recipV w)) :
    ((((m.slice (Rect.unit (s := S8x512) off S1x512.size inb) hs).squeeze S512 squeezes_S1x512_S512).view).slice
      (Rect.unit (s := S512) ![c] S16.size inb')).write (Elt F) f x Finset.univ = hm.unread (putUpTo w sv j (J + 1) ov) := by
  subst e; subst hc; subst hf; subst hx
  have h0 : j + 1 ≤ 8 := inb 0
  have h1 : 16 * J + 16 ≤ 512 := inb' 0
  refine hm.eq_unread ?_
  funext p
  have hp0 : (p 0).val < 8 := (p 0).isLt
  have hp1 : (p 1).val < 512 := (p 1).isLt
  by_cases hp : (p 0).val = j ∧ (p 1).val / 16 = J
  · let y : S16.Idx := ix1 ⟨(p 1).val % 16, Nat.mod_lt _ (by decide)⟩
    have hy : m.view.emb p = ((((m.slice (Rect.unit (s := S8x512) ![j, 0] S1x512.size inb) hs).squeeze S512 squeezes_S1x512_S512).view).slice
        (Rect.unit (s := S512) ![16 * J] S16.size inb')).emb y := by
      show m.view.emb p = m.view.emb ((Rect.unit (s := S8x512) ![j, 0] S1x512.size inb).emb (Shape.reshapeEquiv _ ((Rect.unit (s := S512) ![16 * J] S16.size inb').emb y)))
      congr 1
      rw [Shape.reshapeEquiv_cons_one (n := 1) (d := ![512])]
      funext a
      match a with
      | 0 => apply Fin.ext; show (p 0).val = j + 1 * 0; omega
      | 1 => apply Fin.ext; show (p 1).val = 0 + 1 * (16 * J + 1 * ((p 1).val % 16)); omega
    rw [View.read_apply, hy, View.write_emb_of_mem _ _ (Finset.mem_univ y)]
    have e2 : putUpTo w sv j (J + 1) ov p = mulf (accV sv (w.toNat % 256) (w.toNat / 256) J) (recipV w) y := by
      have e3 : (p 0).val = j ∧ (p 1).val / 16 < J + 1 := ⟨hp.1, by omega⟩
      show (if _ then _ else _) = _
      rw [if_pos e3]; unfold segMean; rw [hp.2]
    rw [e2]
    simp
  · rw [View.read_apply, View.write_of_not_mem]
    · have e2 : putUpTo w sv j (J + 1) ov p = putUpTo w sv j J ov p := by
        unfold putUpTo
        by_cases e3 : (p 0).val = j ∧ (p 1).val / 16 < J
        · rw [if_pos e3, if_pos ⟨e3.1, by omega⟩]
        · rw [if_neg e3, if_neg (by omega)]
      rw [e2]
      exact congrFun (hm.read_unread _) p
    · intro hi
      obtain ⟨y, -, hy⟩ := Finset.mem_map.mp hi
      apply hp
      have hy' : m.view.emb ((Rect.unit (s := S8x512) ![j, 0] S1x512.size inb).emb (Shape.reshapeEquiv squeezes_S1x512_S512.numel_eq ((Rect.unit (s := S512) ![16 * J] S16.size inb').emb y))) = m.view.emb p := hy
      rw [Shape.reshapeEquiv_cons_one (n := 1) (d := ![512])] at hy'
      have hy2 := m.view.emb.injective hy'
      subst hy2
      have hl : (y 0).val < 16 := (y 0).isLt
      refine ⟨?_, ?_⟩
      · show j + 1 * 0 = j; omega
      · show (0 + 1 * (16 * J + 1 * (y 0).val)) / 16 = J; omega

theorem pay57_eq (mv : Vec F S16 .i32) {w : BitVec 32} (h : extractAt ![0] (k1_pay56 mv) inpos_S1_p0 = w) : k1_pay57 mv = recipV w := by
  subst h; rfl

theorem pay_eq (x r : FVec F S16 .f32) {r' : FVec F S16 .f32} (h : r = r') : shapeCast S16 (mulf x r) shapeCasts_S16_S16 = mulf x r' := by
  subst h; exact shapeCast_self _ _

variable (d : Dev nD) (i : grid1.Coords) (arg2 : Memref sig .scVector .hbm S1024x256 .i32) (harg2 : arg2.IsWhole) (arg3 : Memref sig .scVector .hbm S65536x512 .f32) (harg3 : arg3.IsWhole) (arg4 : Memref sig .scVector .hbm S8192x512 .f32) (harg4 : arg4.IsWhole) (arg5 : Memref sig .scVector .vmem S256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S64x512 .f32) (harg8 : arg8.IsWhole) (arg9 : Memref sig .scVector .vmem S64x512 .f32) (harg9 : arg9.IsWhole) (arg10 : Memref sig .scVector .vmem S64x512 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x512 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_)

set_option sl_exec.squeezeSlice true in
set_option maxHeartbeats 4000000 in
theorem seg_body (v2 v82 v85 c0 c1 : BitVec 32) (k1 : Fin k1_t1_loop.trips) (k2 : Fin k1_t2_loop.trips) (mv : Vec F S256 .i32) (sv : Vec F S64x512 .f32) (ov : Vec F S8x512 .f32)
    {o n : ℕ} (hs : SegWord (segWord mv k2.val) o n) :
    (iprop((arg5.view.loc (thr d i) ↦[arg5.view.set]{fullShare} (harg5.unread mv)) ∗ (arg8.view.loc (thr d i) ↦[arg8.view.set]{fullShare} (harg8.unread sv))
        ∗ (arg11.view.loc (thr d i) ↦[Finset.univ]{fullShare} (harg11.unread ov))) : sProp 𝕄)
      ⊢ wp frame (wpE (defs₀ (F := F)) 𝒱₀ (thr d i) none) Set.univ
        (k1_t2_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 k1 v82 v85 c0 c1 k2 ())
        (fun _ => iprop((arg5.view.loc (thr d i) ↦[arg5.view.set]{fullShare} (harg5.unread mv)) ∗ (arg8.view.loc (thr d i) ↦[arg8.view.set]{fullShare} (harg8.unread sv))
        ∗ (arg11.view.loc (thr d i) ↦[Finset.univ]{fullShare} (harg11.unread (putRow mv sv k2.val ov))))) := by
  have hwd : extractAt ![0] (k1_pay56 (View.readAt (Elt F) arg5.view (Rect.unit (s := S256) (k1_off9 k2) S16.size (k1_off9_inb k2)).toLoadRect (harg5.unread mv))) inpos_S1_p0 = segWord mv k2.val := by
    unfold k1_pay56
    rw [shapeCast_self]
    refine (harg5.readAt_unread _ _ _).trans ?_
    unfold segWord
    congr 1
    have hk : k2.val < 8 := Nat.lt_of_lt_of_le k2.isLt k1_t2_abs.2.1
    funext a
    match a with
    | 0 =>
      apply Fin.ext
      show k1_off9 k2 0 + 1 * 0 = (16 * k2.val) % 256
      rw [k1_off9_eq]
      show 16 * k2.val + 1 * 0 = _
      omega
  have hs' : SegWord (extractAt ![0] (k1_pay56 (View.readAt (Elt F) arg5.view (Rect.unit (s := S256) (k1_off9 k2) S16.size (k1_off9_inb k2)).toLoadRect (harg5.unread mv))) inpos_S1_p0) o n := hwd ▸ hs
  have hchk := hs'.chk
  iintro ⟨Hm, Hs, Ho⟩
  sl_unfold [k1_t2_body]
  sl_exec
  sl_for (fun k acc => iprop(⌜acc = accT sv o k⌝ ∗ (arg8.view.loc (thr d i) ↦[arg8.view.set]{fullShare} (harg8.unread sv)))) $$ [Hs]
  case region =>
    intro k acc
    iintro ⟨%h, H⟩
    subst h
    iapply (t3_trip d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 c0 c1 k2 _ hchk hs' _ k sv fullShare)
    iexact H
  · isplitr
    · ipureintro; rfl
    · iexact Hs
  iintro %acc ⟨%h, Hs⟩
  obtain rfl : acc = accT sv o n := h.trans (congrArg (accT sv o) hs'.trips)
  unfold accT
  sl_exec
  sl_step
  isplitl [Hm]; · iexact Hm
  isplitl [Hs]; · iexact Hs
  have he := k1_off12_eq k2
  have hr := pay57_eq _ hwd
  have ho : (segWord mv k2.val).toNat % 256 = o := by have h1 := hs.eq; have h2 := hs.le; omega
  have hn := hs.n
  have h0 : harg11.unread ov = harg11.unread (putUpTo (segWord mv k2.val) sv k2.val 0 ov) := by rw [putUpTo_zero]
  subst ho; subst hn
  rw [← putUpTo_all]
  iapply (Entails.of_eq (congrArg (fun f => (arg11.view.loc (thr d i) ↦[Finset.univ]{fullShare} f : sProp 𝕄)) ?_)) $$ Ho
  iterate 32 refine putUpTo_succ _ _ _ _ harg11 ?_ he _ _ (by rfl) _ (by exact pay_eq _ _ hr)
  exact h0

/-- The rows with the means of the first `k` segments stored. -/
def rowsTo (mv : Vec F S256 .i32) (sv : Vec F S64x512 .f32) (k : ℕ) (ov : Vec F S8x512 .f32) : Vec F S8x512 .f32 := fun p =>
  if (p 0).val < k then segMean (segWord mv (p 0).val) sv (p 1).val else ov p

/-- The means of a chunk's eight segments. -/
def chunkRows (mv : Vec F S256 .i32) (sv : Vec F S64x512 .f32) : Vec F S8x512 .f32 := fun p =>
  segMean (segWord mv (p 0).val) sv (p 1).val

theorem rowsTo_zero (mv : Vec F S256 .i32) (sv : Vec F S64x512 .f32) (ov : Vec F S8x512 .f32) : rowsTo mv sv 0 ov = ov := by
  funext p; simp [rowsTo]

theorem rowsTo_succ (mv : Vec F S256 .i32) (sv : Vec F S64x512 .f32) (k : ℕ) (ov : Vec F S8x512 .f32) :
    putRow mv sv k (rowsTo mv sv k ov) = rowsTo mv sv (k + 1) ov := by
  funext p
  unfold putRow rowsTo
  by_cases h : (p 0).val = k
  · rw [if_pos h, if_pos (by omega), h]
  · rw [if_neg h]
    by_cases h' : (p 0).val < k
    · rw [if_pos h', if_pos (by omega)]
    · rw [if_neg h', if_neg (by omega)]

theorem rowsTo_all (mv : Vec F S256 .i32) (sv : Vec F S64x512 .f32) (ov : Vec F S8x512 .f32) : rowsTo mv sv 8 ov = chunkRows mv sv := by
  funext p
  have h : (p 0).val < 8 := (p 0).isLt
  simp [rowsTo, chunkRows, h]

set_option maxHeartbeats 4000000 in
/-- The loop over a chunk's segments leaves the means of all eight. -/
theorem chunk_loop (v2 v82 v85 c0 c1 : BitVec 32) (k1 : Fin k1_t1_loop.trips) (mv : Vec F S256 .i32) (sv : Vec F S64x512 .f32) (ov : Vec F S8x512 .f32)
    (hs : ∀ j, j < 8 → ∃ o n, SegWord (segWord mv j) o n) :
    (iprop((arg5.view.loc (thr d i) ↦[arg5.view.set]{fullShare} (harg5.unread mv)) ∗ (arg8.view.loc (thr d i) ↦[arg8.view.set]{fullShare} (harg8.unread sv))
        ∗ (arg11.view.loc (thr d i) ↦[Finset.univ]{fullShare} (harg11.unread ov))) : sProp 𝕄)
      ⊢ wp frame (wpE (defs₀ (F := F)) 𝒱₀ (thr d i) none) Set.univ
        (Scf.Loop.for k1_t2_loop k1_t2_ok ⟨⟩ (k1_t2_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 k1 v82 v85 c0 c1))
        (fun _ => iprop((arg5.view.loc (thr d i) ↦[arg5.view.set]{fullShare} (harg5.unread mv)) ∗ (arg8.view.loc (thr d i) ↦[arg8.view.set]{fullShare} (harg8.unread sv))
        ∗ (arg11.view.loc (thr d i) ↦[Finset.univ]{fullShare} (harg11.unread (chunkRows mv sv))))) := by
  iintro ⟨Hm, Hs, Ho⟩
  sl_for (fun k (_ : PUnit) => iprop((arg5.view.loc (thr d i) ↦[arg5.view.set]{fullShare} (harg5.unread mv)) ∗ (arg8.view.loc (thr d i) ↦[arg8.view.set]{fullShare} (harg8.unread sv))
        ∗ (arg11.view.loc (thr d i) ↦[Finset.univ]{fullShare} (harg11.unread (rowsTo mv sv k ov))))) $$ [Hm Hs Ho]
  case region =>
    intro k _
    have hk : k.val < 8 := Nat.lt_of_lt_of_le k.isLt k1_t2_abs.2.1
    obtain ⟨o, n, h⟩ := hs k.val hk
    rw [← rowsTo_succ]
    exact seg_body d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 v82 v85 c0 c1 k1 k mv sv _ h
  isplitl [Hm Hs Ho]
  · rw [rowsTo_zero]
    isplitl [Hm]; · iexact Hm
    isplitl [Hs]; · iexact Hs
    iexact Ho
  iintro %_ H
  have ht : Scf.trips k1_t2_loop.lb k1_t2_loop.ub k1_t2_loop.st = 8 := by decide
  rw [ht, rowsTo_all]
  iexact H

/-! ## The five loops are one -/

section
variable (v2 v82 v119 v85 c0 c1 : BitVec 32) (v144 : BitVec 1) (k1 : Fin k1_t1_loop.trips) (k : Fin k1_t2_loop.trips) (u : Unit)

theorem t5_body_eq : k1_t5_body (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 k1 v82 v119 v144 k u
  = k1_t2_body (F := F) i arg2 harg2 arg3 harg3 arg4 harg4 arg6 harg6 arg6 harg6 arg7 harg7 arg9 harg9 arg9 harg9 arg10 harg10 arg12 harg12 arg12 harg12 arg13 harg13 arg14 arg15 arg16 arg17 arg18 arg19 arg20 arg21 arg22 v2 k1 v82 v85 c0 c1 k u := rfl
end

end Cert.Proof.KI

end
-- ==== Proof.Dma.lean ====
/-
  The copies of the kernel, stated by what the buffers hold. A copy in flight is named by what its wait gives back.
-/
module

public import proofs.«01_k».proof.Proof.SegBody
public import Idealize.ShloMosaic.Lib.Transfers

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- What the thread owes, whatever waits it has recorded on its own cells since `W`. -/
def Owing (c : Thread nD τ) (O : CellTallies nD τ sig (HIx 1)) (W : Waits sig (HIx 1)) : sProp 𝕄 :=
  iprop(∃ W', ⌜∀ p ∈ W', p ∈ W ∨ p.2 = none⌝ ∗ owes c O W')

section
variable {s : Shape} {e : EltTy} {c : Thread nD τ}

/-- A copy in flight that reads part of a buffer and fills the memref `m` with `v`: the wait gives the memref back,
    holding `v`, and with the rest of the share, held beside the flight, the buffer's share whole. -/
def Reading (c : Thread nD τ) (ℓ : Loc nD τ sig) (q : PosShare TreeShare) (fs : Buf (Elt F) ℓ) (m : Memref sig c.2.kind .vmem s e) (hm : m.IsWhole)
    (sm : DmaSem sig) (v : Vec F s e) : sProp 𝕄 :=
  iprop(∃ S : Finset (Idx ℓ), Transfers.Flight countersEmb c (.dma sm) none m.view.dmaCredit
      iprop((m.view.loc c ↦[m.view.set]{fullShare} (hm.unread v)) ∗ (ℓ ↦[S]{q} fs)) ∗ (ℓ ↦[Finset.univ \ S]{q} fs))

theorem reading_issue {sp₀ : Space} {src : Memref sig c.2.kind sp₀ s e} {m : Memref sig c.2.kind .vmem s e} (hm : m.IsWhole) {sm : DmaSem sig}
    {hsrc : src.view.WordExact} {hdst : m.view.WordExact} {hsem : DmaTarget.Typed (nD := nD) sp₀ (SemLoc.dma sm) (.here m)} {α : Type}
    {k : PUnit → Prog (TpuEff nD τ sig (Elt F) Λ₀ c.2) α} {q : PosShare TreeShare} {fs : Buf (Elt F) (src.view.loc c)}
    {g : Buf (Elt F) (m.view.loc c)} {Q : α → sProp 𝕄} (hn : 0 < s.numel) {v : Vec F s e} (hv : src.view.read (Elt F) fs = v) :
    iprop((src.view.loc c ↦[Finset.univ]{q} fs) ∗ (m.view.loc c ↦[m.view.set]{fullShare} g) ∗ semVal (c, SemLoc.dma sm) 0)
      ⊢ iprop((Reading c (src.view.loc c) q fs m hm sm v -∗ wp frame (wpE (defs₀ (F := F)) 𝒱₀ c none) Set.univ (k ⟨⟩) Q)
          -∗ wp frame (wpE (defs₀ (F := F)) 𝒱₀ c none) Set.univ (.op (.enqueueDma src (.here m) (.dma sm) hsrc hdst hsem) k) Q) := by
  iintro ⟨Hs, Hd, Hv⟩ Hk
  ihave ⟨Hs1, Hs2⟩ := (pointsTo_split_subset (Finset.subset_univ src.view.set)).1 $$ Hs
  iapply (Transfers.wp_dmaLocal countersEmb 𝒱₀ c none none m.view.dmaCredit rfl (show 0 < m.view.dmaCredit from View.amount_pos m.view (SemLoc.dma sm) hn) (Finset.Subset.refl _)) $$ [Hs1 Hd Hv]
  · isplitl [Hs1]; · iexact Hs1
    isplitl [Hd] <;> iassumption
  iintro HF
  iapply Hk
  unfold Reading
  iexists src.view.set
  isplitl [HF]
  · iapply (Transfers.Flight_mono _ _ ?_) $$ HF
    refine Entails.of_eq (congrArg (fun f => iprop((m.view.loc c ↦[m.view.set]{fullShare} f) ∗ (src.view.loc c ↦[src.view.set]{q} fs))) ?_)
    refine hm.eq_unread ?_
    rw [View.read_write_univ]
    exact hv
  · iexact Hs2

theorem reading_wait {ℓ : Loc nD τ sig} {q : PosShare TreeShare} {fs : Buf (Elt F) ℓ} {m : Memref sig c.2.kind .vmem s e} {hm : m.IsWhole} {sm : DmaSem sig} {v : Vec F s e}
    {sp' : Space} {s' : Shape} {e' : EltTy} {srcw : Memref sig c.2.kind sp' s' e'} {hsrc : srcw.view.WordExact} {hdst : m.view.WordExact} {α : Type}
    {k : PUnit → Prog (TpuEff nD τ sig (Elt F) Λ₀ c.2) α} {Q : α → sProp 𝕄} {O : CellTallies nD τ sig (HIx 1)} {W : Waits sig (HIx 1)} :
    iprop(Reading c ℓ q fs m hm sm v ∗ Owing (F := F) c O W ∗ Transfers.MayWaits c none O)
      ⊢ iprop((iprop((ℓ ↦[Finset.univ]{q} fs) ∗ (m.view.loc c ↦[m.view.set]{fullShare} (hm.unread v)) ∗ semVal (c, SemLoc.dma sm) 0 ∗ Owing (F := F) c O W)
            -∗ wp frame (wpE (defs₀ (F := F)) 𝒱₀ c none) Set.univ (k ⟨⟩) Q)
          -∗ wp frame (wpE (defs₀ (F := F)) 𝒱₀ c none) Set.univ (.op (.waitDma2 sm srcw m hsrc hdst) k) Q) := by
  unfold Reading Owing
  iintro ⟨⟨%S, HF, Hr⟩, ⟨%W', %hW, HO⟩, Hmw⟩ Hk
  iapply (Transfers.wp_waitLocalO countersEmb 𝒱₀ c none none rfl (O := O) (W := W')) $$ [HF HO Hmw]
  · isplitl [HF]; · iexact HF
    isplitl [HO]; · iexact HO
    iapply (Transfers.MayWaits.elim (SemLoc.dma sm)) $$ Hmw
  iintro ⟨⟨Hd, Hs⟩, Hv, HO⟩
  iapply Hk
  isplitl [Hs Hr]
  · iapply (pointsTo_split_subset (Finset.subset_univ S)).2
    isplitl [Hs] <;> iassumption
  isplitl [Hd]; · iexact Hd
  isplitl [Hv]; · iexact Hv
  iexists (insert (SemLoc.dma sm, none) W')
  isplitr
  · ipureintro
    intro p hp
    rcases Finset.mem_insert.mp hp with rfl | hp
    · exact .inr rfl
    · exact hW p hp
  · iexact HO

/-- A copy in flight that reads the memref `m`, holding `v`, and writes the elements `S` of a buffer, which then
    agree with `G`. -/
def Writing (c : Thread nD τ) (ℓ : Loc nD τ sig) (S : Finset (Idx ℓ)) (G : Buf (Elt F) ℓ) (m : Memref sig c.2.kind .vmem s e) (hm : m.IsWhole)
    (sm : DmaSem sig) (v : Vec F s e) (N : ℕ) : sProp 𝕄 :=
  Transfers.Flight countersEmb c (.dma sm) none N
      iprop((ℓ ↦[S]{fullShare} G) ∗ (m.view.loc c ↦[m.view.set]{fullShare} (hm.unread v)))

theorem writing_issue {sp₀ : Space} {dst : Memref sig c.2.kind sp₀ s e} {m : Memref sig c.2.kind .vmem s e} (hm : m.IsWhole) {sm : DmaSem sig}
    {hsrc : m.view.WordExact} {hdst : dst.view.WordExact} {hsem : DmaTarget.Typed (nD := nD) .vmem (SemLoc.dma sm) (.here dst)} {α : Type}
    {k : PUnit → Prog (TpuEff nD τ sig (Elt F) Λ₀ c.2) α} {g G : Buf (Elt F) (dst.view.loc c)} {Q : α → sProp 𝕄} (hn : 0 < s.numel) {v : Vec F s e}
    (hG : dst.view.read (Elt F) G = v) :
    iprop((dst.view.loc c ↦[dst.view.set]{fullShare} g) ∗ (m.view.loc c ↦[m.view.set]{fullShare} (hm.unread v)) ∗ semVal (c, SemLoc.dma sm) 0)
      ⊢ iprop((Writing c (dst.view.loc c) dst.view.set G m hm sm v dst.view.dmaCredit -∗ wp frame (wpE (defs₀ (F := F)) 𝒱₀ c none) Set.univ (k ⟨⟩) Q)
          -∗ wp frame (wpE (defs₀ (F := F)) 𝒱₀ c none) Set.univ (.op (.enqueueDma m (.here dst) (.dma sm) hsrc hdst hsem) k) Q) := by
  iintro ⟨Hd, Hs, Hv⟩ Hk
  iapply (Transfers.wp_dmaLocal countersEmb 𝒱₀ c none none dst.view.dmaCredit rfl (show 0 < dst.view.dmaCredit from View.amount_pos dst.view (SemLoc.dma sm) hn) (Finset.Subset.refl _)) $$ [Hs Hd Hv]
  · isplitl [Hs]; · iexact Hs
    isplitl [Hd] <;> iassumption
  iintro HF
  iapply Hk
  unfold Writing
  iapply (Transfers.Flight_mono _ _ ?_) $$ HF
  refine Entails.of_eq (congrArg (fun f : sProp 𝕄 => iprop(f ∗ (m.view.loc c ↦[m.view.set]{fullShare} (hm.unread v)))) (pointsTo_congr ?_))
  intro i hi
  obtain ⟨x, -, rfl⟩ := Finset.mem_map.mp hi
  have hx := congrFun hG x
  rw [View.read_apply] at hx
  rw [View.write_emb_of_mem _ _ (Finset.mem_univ x)]
  show _root_.cast _ (m.view.read (Elt F) (hm.unread v) x) = _
  rw [hm.read_unread, ← hx, cast_cast, cast_eq]

theorem writing_wait {ℓ : Loc nD τ sig} {S : Finset (Idx ℓ)} {G : Buf (Elt F) ℓ} {m : Memref sig c.2.kind .vmem s e} {hm : m.IsWhole} {sm : DmaSem sig} {v : Vec F s e}
    {sp' sp'' : Space} {s' s'' : Shape} {e' e'' : EltTy} {srcw : Memref sig c.2.kind sp' s' e'} {dstw : Memref sig c.2.kind sp'' s'' e''} {hsrc : srcw.view.WordExact} {hdst : dstw.view.WordExact} {α : Type}
    {k : PUnit → Prog (TpuEff nD τ sig (Elt F) Λ₀ c.2) α} {Q : α → sProp 𝕄} {O : CellTallies nD τ sig (HIx 1)} {W : Waits sig (HIx 1)} {N : ℕ} (hN : dstw.view.dmaCredit = N) :
    iprop(Writing c ℓ S G m hm sm v N ∗ Owing (F := F) c O W ∗ Transfers.MayWaits c none O)
      ⊢ iprop((iprop((ℓ ↦[S]{fullShare} G) ∗ (m.view.loc c ↦[m.view.set]{fullShare} (hm.unread v)) ∗ semVal (c, SemLoc.dma sm) 0 ∗ Owing (F := F) c O W)
            -∗ wp frame (wpE (defs₀ (F := F)) 𝒱₀ c none) Set.univ (k ⟨⟩) Q)
          -∗ wp frame (wpE (defs₀ (F := F)) 𝒱₀ c none) Set.univ (.op (.waitDma2 sm srcw dstw hsrc hdst) k) Q) := by
  unfold Writing Owing
  iintro ⟨HF, ⟨%W', %hW, HO⟩, Hmw⟩ Hk
  iapply (Transfers.wp_waitLocalO countersEmb 𝒱₀ c none none hN (O := O) (W := W')) $$ [HF HO Hmw]
  · isplitl [HF]; · iexact HF
    isplitl [HO]; · iexact HO
    iapply (Transfers.MayWaits.elim (SemLoc.dma sm)) $$ Hmw
  iintro ⟨⟨Hd, Hs⟩, Hv, HO⟩
  iapply Hk
  isplitl [Hd]; · iexact Hd
  isplitl [Hs]; · iexact Hs
  isplitl [Hv]; · iexact Hv
  iexists (insert (SemLoc.dma sm, none) W')
  isplitr
  · ipureintro
    intro p hp
    rcases Finset.mem_insert.mp hp with rfl | hp
    · exact .inr rfl
    · exact hW p hp
  · iexact HO
end

end Cert.Proof.KI

end
-- ==== Proof.Steps.lean ====
/-
  The kernel's steps on one vector subcore: a row of words fetched, a window of rows gathered, a chunk's means written.
-/
module

public import proofs.«01_k».proof.Proof.Dma

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## What the arrays hold -/

/-- Row `r` of the words. -/
def metaRow (M : Vec F S1024x256 .i32) (r : ℕ) : Vec F S256 .i32 := fun p => M (ix2 ⟨r % 1024, Nat.mod_lt _ (by decide)⟩ (p 0))

/-- The word that names the first row of the chunk's window. -/
def baseWord (mv : Vec F S256 .i32) : BitVec 32 := mv (ix1 ⟨128, by decide⟩)

/-- The sixty-four rows from row `o`. -/
def windowAt (X : Vec F S65536x512 .f32) (o : ℕ) : Vec F S64x512 .f32 := fun p => X (ix2 ⟨(o + (p 0).val) % 65536, Nat.mod_lt _ (by decide)⟩ (p 1))

/-- The window of chunk `r`. -/
def windowOf (M : Vec F S1024x256 .i32) (X : Vec F S65536x512 .f32) (r : ℕ) : Vec F S64x512 .f32 := windowAt X (baseWord (metaRow M r)).toNat

/-- The means of chunk `r`. -/
def meansOf (M : Vec F S1024x256 .i32) (X : Vec F S65536x512 .f32) (r : ℕ) : Vec F S8x512 .f32 := chunkRows (metaRow M r) (windowOf M X r)

/-- The means of all chunks: what the kernel leaves. -/
def allMeans (M : Vec F S1024x256 .i32) (X : Vec F S65536x512 .f32) : Vec F S8192x512 .f32 := fun p =>
  meansOf M X ((p 0).val / 8) (ix2 ⟨(p 0).val % 8, Nat.mod_lt _ (by decide)⟩ (p 1))

/-- The window a word names lies inside the array, and starts at a multiple of eight. -/
structure BaseOK (w : BitVec 32) : Prop where
  dvd : 8 ∣ w.toNat
  le : w.toNat + 64 ≤ 65536

/-- The words name segments inside their windows, and windows inside the array. -/
structure WordsOK (M : Vec F S1024x256 .i32) : Prop where
  seg : ∀ r j, j < 8 → ∃ o n, SegWord (segWord (metaRow M r) j) o n
  base : ∀ r, BaseOK (baseWord (metaRow M r))

theorem BaseOK.chk {w : BitVec 32} (h : BaseOK w) : k1_chk1 w := by
  refine ⟨h.dvd, ?_⟩
  have := h.le
  intro a
  match a with
  | 0 => show w.toNat + 64 ≤ 65536; omega
  | 1 => show 0 + 512 ≤ 512; omega

/-- The base word as the kernel reads it. -/
theorem base_eq {m : Memref sig .scVector .vmem S256 .i32} (hm : m.IsWhole) (mv : Vec F S256 .i32) :
    extractAt ![0] (k1_pay310 (View.readAt (Elt F) m.view (Rect.unit (s := S256) ![128] S16.size inb_S256_S16_128).toLoadRect (hm.unread mv))) inpos_S1_p0 = baseWord mv := by
  unfold k1_pay310
  rw [shapeCast_self]
  refine (hm.readAt_unread _ _ _).trans ?_
  unfold baseWord
  congr 1
  funext a
  match a with
  | 0 => apply Fin.ext; rfl

theorem meta_read {A : Memref sig .scVector .hbm S1024x256 .i32} (hA : A.IsWhole) (M : Vec F S1024x256 .i32) {r : ℕ} {off : Fin 2 → ℕ} (e : off = ![r, 0])
    (inb : ∀ a, off a + S1x256.size a ≤ S1024x256.size a) (hs) :
    ((A.slice (Rect.unit (s := S1024x256) off S1x256.size inb) hs).squeeze S256 squeezes_S1x256_S256).view.read (Elt F) (hA.unread M) = metaRow M r := by
  subst e
  funext x
  have h0 : r + 1 ≤ 1024 := inb 0
  refine (congrFun (hA.read_unread M) ((Rect.unit (s := S1024x256) ![r, 0] S1x256.size inb).emb (Shape.reshapeEquiv squeezes_S1x256_S256.numel_eq x))).trans ?_
  rw [Shape.reshapeEquiv_cons_one (n := 1) (d := ![256])]
  unfold metaRow
  congr 1
  funext a
  match a with
  | 0 => apply Fin.ext; show r + 1 * 0 = r % 1024; omega
  | 1 => apply Fin.ext; show 0 + 1 * (x 0).val = (x 0).val; omega

theorem window_read {A : Memref sig .scVector .hbm S65536x512 .f32} (hA : A.IsWhole) (X : Vec F S65536x512 .f32) {o : ℕ} {off : Fin 2 → ℕ} (e : off = ![o, 0])
    (inb : ∀ a, off a + S64x512.size a ≤ S65536x512.size a) (hs) :
    (A.slice (Rect.unit (s := S65536x512) off S64x512.size inb) hs).view.read (Elt F) (hA.unread X) = windowAt X o := by
  subst e
  funext x
  have h0 : o + 64 ≤ 65536 := inb 0
  refine (congrFun (hA.read_unread X) ((Rect.unit (s := S65536x512) ![o, 0] S64x512.size inb).emb x)).trans ?_
  unfold windowAt
  congr 1
  have hx : (x 0).val < 64 := (x 0).isLt
  funext a
  match a with
  | 0 => apply Fin.ext; show o + 1 * (x 0).val = (o + (x 0).val) % 65536; omega
  | 1 => apply Fin.ext; show 0 + 1 * (x 1).val = (x 1).val; omega

/-! ## The pieces of the result -/

/-- The eight rows of chunk `r` of the result. -/
abbrev outSl (A : Memref sig .scVector .hbm S8192x512 .f32) (r : ℕ) : Memref sig .scVector .hbm S8x512 .f32 :=
  A.slice (Rect.unit (s := S8192x512) ![8 * (r % 1024), 0] S8x512.size (fun a => match a with
    | 0 => by show 8 * (r % 1024) + 8 ≤ 8192; omega
    | 1 => by show 0 + 512 ≤ 512; omega)) (fun _ => rfl)

theorem out_read {A : Memref sig .scVector .hbm S8192x512 .f32} (hA : A.IsWhole) (M : Vec F S1024x256 .i32) (X : Vec F S65536x512 .f32) (r : ℕ) (hr : r < 1024) :
    (outSl A r).view.read (Elt F) (hA.unread (allMeans M X)) = meansOf M X r := by
  funext x
  refine (congrFun (hA.read_unread (allMeans M X)) _).trans ?_
  have hx : (x 0).val < 8 := (x 0).isLt
  show meansOf M X ((8 * (r % 1024) + 1 * (x 0).val) / 8) (ix2 ⟨(8 * (r % 1024) + 1 * (x 0).val) % 8, _⟩ ⟨0 + 1 * (x 1).val, _⟩) = _
  rw [show (8 * (r % 1024) + 1 * (x 0).val) / 8 = r by omega]
  congr 1
  funext a
  match a with
  | 0 => apply Fin.ext; show (8 * (r % 1024) + 1 * (x 0).val) % 8 = (x 0).val; omega
  | 1 => apply Fin.ext; show 0 + 1 * (x 1).val = (x 1).val; omega

/-! ## The steps -/

section
variable {c : Thread nD τ} {i : grid1.Coords} {d : Fin nD}

/-- A memref of the thread that holds anything. -/
def Owned {sp : Space} {s : Shape} {e : EltTy} (c : Thread nD τ) (m : Memref sig c.2.kind sp s e) : sProp 𝕄 :=
  iprop(∃ g : Buf (Elt F) (m.view.loc c), m.view.loc c ↦[m.view.set]{fullShare} g)

/-- A memref of the thread that holds `v`. -/
def Holds {sp : Space} {s : Shape} {e : EltTy} (c : Thread nD τ) (m : Memref sig c.2.kind sp s e) (hm : m.IsWhole) (v : Vec F s e) : sProp 𝕄 :=
  iprop(m.view.loc c ↦[m.view.set]{fullShare} (hm.unread v))

theorem Holds.owned {sp : Space} {s : Shape} {e : EltTy} {c : Thread nD τ} {m : Memref sig c.2.kind sp s e} {hm : m.IsWhole} {v : Vec F s e} :
    Holds c m hm v ⊢ Owned (F := F) c m := by
  unfold Holds Owned
  iintro H
  iexists _
  iexact H

/-- A row of words is fetched. -/
theorem fetch_issue {A : Memref sig .scVector .hbm S1024x256 .i32} (hA : A.IsWhole) (M : Vec F S1024x256 .i32) {m : Memref sig .scVector .vmem S256 .i32} (hm : m.IsWhole)
    {sm : DmaSem sig} (r : ℕ) {off : Fin 2 → ℕ} (e : off = ![r, 0]) {inb : ∀ a, off a + S1x256.size a ≤ S1024x256.size a} {hs} {hsrc hdst hsem} {α : Type}
    {k : PUnit → Prog (TpuEff nD τ sig (Elt F) Λ₀ (thr d i).2) α} {q : PosShare TreeShare} {Q : α → sProp 𝕄} :
    iprop((A.view.loc (thr d i) ↦[Finset.univ]{q} hA.unread M) ∗ Owned (F := F) (thr d i) m ∗ semVal (thr d i, SemLoc.dma sm) 0)
      ⊢ iprop((Reading (thr d i) (A.view.loc (thr d i)) q (hA.unread M) m hm sm (metaRow M r) -∗ wp frame (wpE (defs₀ (F := F)) 𝒱₀ (thr d i) none) Set.univ (k ⟨⟩) Q)
          -∗ wp frame (wpE (defs₀ (F := F)) 𝒱₀ (thr d i) none) Set.univ
            (.op (.enqueueDma ((A.slice (Rect.unit (s := S1024x256) off S1x256.size inb) hs).squeeze S256 squeezes_S1x256_S256) (.here m) (.dma sm) hsrc hdst hsem) k) Q) := by
  unfold Owned
  iintro ⟨HA, ⟨%g, Hm⟩, Hv⟩
  iapply (reading_issue (c := thr d i) (src := (A.slice (Rect.unit (s := S1024x256) off S1x256.size inb) hs).squeeze S256 squeezes_S1x256_S256) hm (show 0 < S256.numel by decide) (meta_read hA M e inb hs)) $$ [HA Hm Hv]
  isplitl [HA]; · iexact HA
  isplitl [Hm] <;> iassumption

/-- A chunk's window is gathered. -/
theorem window_issue {A : Memref sig .scVector .hbm S65536x512 .f32} (hA : A.IsWhole) (X : Vec F S65536x512 .f32) {m : Memref sig .scVector .vmem S64x512 .f32} (hm : m.IsWhole)
    {sm : DmaSem sig} (o : ℕ) {off : Fin 2 → ℕ} (e : off = ![o, 0]) {inb : ∀ a, off a + S64x512.size a ≤ S65536x512.size a} {hs} {hsrc hdst hsem} {α : Type}
    {k : PUnit → Prog (TpuEff nD τ sig (Elt F) Λ₀ (thr d i).2) α} {q : PosShare TreeShare} {Q : α → sProp 𝕄} :
    iprop((A.view.loc (thr d i) ↦[Finset.univ]{q} hA.unread X) ∗ Owned (F := F) (thr d i) m ∗ semVal (thr d i, SemLoc.dma sm) 0)
      ⊢ iprop((Reading (thr d i) (A.view.loc (thr d i)) q (hA.unread X) m hm sm (windowAt X o) -∗ wp frame (wpE (defs₀ (F := F)) 𝒱₀ (thr d i) none) Set.univ (k ⟨⟩) Q)
          -∗ wp frame (wpE (defs₀ (F := F)) 𝒱₀ (thr d i) none) Set.univ
            (.op (.enqueueDma (A.slice (Rect.unit (s := S65536x512) off S64x512.size inb) hs) (.here m) (.dma sm) hsrc hdst hsem) k) Q) := by
  unfold Owned
  iintro ⟨HA, ⟨%g, Hm⟩, Hv⟩
  iapply (reading_issue (c := thr d i) (src := A.slice (Rect.unit (s := S65536x512) off S64x512.size inb) hs) hm (show 0 < S64x512.numel by decide) (window_read hA X e inb hs)) $$ [HA Hm Hv]
  isplitl [HA]; · iexact HA
  isplitl [Hm] <;> iassumption

/-- Chunk `r`'s piece of the result, as it was. -/
def Todo (d : Fin nD) (i : grid1.Coords) (A : Memref sig .scVector .hbm S8192x512 .f32) (r : ℕ) : sProp 𝕄 :=
  iprop(∃ g : Buf (Elt F) (A.view.loc (thr d i)), A.view.loc (thr d i) ↦[(outSl A r).view.set]{fullShare} g)

/-- The copy of chunk `r`'s means out. -/
def Flying (d : Fin nD) (i : grid1.Coords) (A : Memref sig .scVector .hbm S8192x512 .f32) (hA : A.IsWhole) (M : Vec F S1024x256 .i32) (X : Vec F S65536x512 .f32) (r : ℕ)
    (m : Memref sig .scVector .vmem S8x512 .f32) (hm : m.IsWhole) (sm : DmaSem sig) : sProp 𝕄 :=
  Writing (thr d i) (A.view.loc (thr d i)) (outSl A r).view.set (hA.unread (allMeans M X)) m hm sm (meansOf M X r) (outSl A r).view.dmaCredit

theorem out_issue {A : Memref sig .scVector .hbm S8192x512 .f32} (hA : A.IsWhole) (M : Vec F S1024x256 .i32) (X : Vec F S65536x512 .f32) {m : Memref sig .scVector .vmem S8x512 .f32} (hm : m.IsWhole)
    {sm : DmaSem sig} (r : ℕ) (hr : r < 1024) {off : Fin 2 → ℕ} (e : off = ![8 * r, 0]) {inb : ∀ a, off a + S8x512.size a ≤ S8192x512.size a} {hs} {hsrc hdst hsem} {α : Type}
    {k : PUnit → Prog (TpuEff nD τ sig (Elt F) Λ₀ (thr d i).2) α} {Q : α → sProp 𝕄} :
    iprop(Todo (F := F) d i A r ∗ Holds (thr d i) m hm (meansOf M X r) ∗ semVal (thr d i, SemLoc.dma sm) 0)
      ⊢ iprop((Flying d i A hA M X r m hm sm -∗ wp frame (wpE (defs₀ (F := F)) 𝒱₀ (thr d i) none) Set.univ (k ⟨⟩) Q)
          -∗ wp frame (wpE (defs₀ (F := F)) 𝒱₀ (thr d i) none) Set.univ
            (.op (.enqueueDma m (.here (A.slice (Rect.unit (s := S8192x512) off S8x512.size inb) hs)) (.dma sm) hsrc hdst hsem) k) Q) := by
  have e' : off = ![8 * (r % 1024), 0] := by rw [e, Nat.mod_eq_of_lt hr]
  clear e
  subst e'
  unfold Todo Holds Flying
  iintro ⟨⟨%g, HA⟩, Hm, Hv⟩
  iapply (writing_issue (c := thr d i) (dst := outSl A r) hm (show 0 < S8x512.numel by decide) (out_read hA M X r hr)) $$ [HA Hm Hv]
  isplitl [HA]; · iexact HA
  isplitl [Hm] <;> iassumption

/-- Chunk `r`'s piece of the result, written. -/
def Done (d : Fin nD) (i : grid1.Coords) (A : Memref sig .scVector .hbm S8192x512 .f32) (hA : A.IsWhole) (M : Vec F S1024x256 .i32) (X : Vec F S65536x512 .f32) (r : ℕ) : sProp 𝕄 :=
  iprop(A.view.loc (thr d i) ↦[(outSl A r).view.set]{fullShare} hA.unread (allMeans M X))

theorem out_wait {A : Memref sig .scVector .hbm S8192x512 .f32} {hA : A.IsWhole} {M : Vec F S1024x256 .i32} {X : Vec F S65536x512 .f32} {m : Memref sig .scVector .vmem S8x512 .f32} {hm : m.IsWhole}
    {sm : DmaSem sig} {r : ℕ} {off : Fin 2 → ℕ} {inb : ∀ a, off a + S8x512.size a ≤ S8192x512.size a} {hs} {hsrc hdst} {α : Type}
    {k : PUnit → Prog (TpuEff nD τ sig (Elt F) Λ₀ (thr d i).2) α} {Q : α → sProp 𝕄} {O : CellTallies nD τ sig (HIx 1)} {W : Waits sig (HIx 1)} :
    iprop(Flying d i A hA M X r m hm sm ∗ Owing (F := F) (thr d i) O W ∗ Transfers.MayWaits (thr d i) none O)
      ⊢ iprop((iprop(Done d i A hA M X r ∗ Owned (F := F) (thr d i) m ∗ semVal (thr d i, SemLoc.dma sm) 0 ∗ Owing (F := F) (thr d i) O W)
            -∗ wp frame (wpE (defs₀ (F := F)) 𝒱₀ (thr d i) none) Set.univ (k ⟨⟩) Q)
          -∗ wp frame (wpE (defs₀ (F := F)) 𝒱₀ (thr d i) none) Set.univ
            (.op (.waitDma2 sm m (A.slice (Rect.unit (s := S8192x512) off S8x512.size inb) hs) hsrc hdst) k) Q) := by
  unfold Done Flying
  iintro H Hk
  iapply (writing_wait (c := thr d i) (dstw := A.slice (Rect.unit (s := S8192x512) off S8x512.size inb) hs) (by rfl)) $$ H
  iintro ⟨Hd, Hm, Hv, HO⟩
  iapply Hk
  isplitl [Hd]; · iexact Hd
  isplitl [Hm]; · unfold Owned; iexists _; iexact Hm
  isplitl [Hv] <;> iassumption

/-- A chunk's window has come. -/
theorem window_wait {A : Memref sig .scVector .hbm S65536x512 .f32} {m : Memref sig .scVector .vmem S64x512 .f32} {hm : m.IsWhole} {v : Vec F S64x512 .f32}
    {ℓ : Loc nD τ sig} {q : PosShare TreeShare} {fs : Buf (Elt F) ℓ}
    {sm : DmaSem sig} {off : Fin 2 → ℕ} {inb : ∀ a, off a + S64x512.size a ≤ S65536x512.size a} {hs} {hsrc hdst} {α : Type}
    {k : PUnit → Prog (TpuEff nD τ sig (Elt F) Λ₀ (thr d i).2) α} {Q : α → sProp 𝕄} {O : CellTallies nD τ sig (HIx 1)} {W : Waits sig (HIx 1)} :
    iprop(Reading (thr d i) ℓ q fs m hm sm v ∗ Owing (F := F) (thr d i) O W ∗ Transfers.MayWaits (thr d i) none O)
      ⊢ iprop((iprop((ℓ ↦[Finset.univ]{q} fs) ∗ (m.view.loc (thr d i) ↦[m.view.set]{fullShare} (hm.unread v)) ∗ semVal (thr d i, SemLoc.dma sm) 0 ∗ Owing (F := F) (thr d i) O W)
            -∗ wp frame (wpE (defs₀ (F := F)) 𝒱₀ (thr d i) none) Set.univ (k ⟨⟩) Q)
          -∗ wp frame (wpE (defs₀ (F := F)) 𝒱₀ (thr d i) none) Set.univ
            (.op (.waitDma2 sm (A.slice (Rect.unit (s := S65536x512) off S64x512.size inb) hs) m hsrc hdst) k) Q) :=
  reading_wait (c := thr d i) (srcw := A.slice (Rect.unit (s := S65536x512) off S64x512.size inb) hs)
end

end Cert.Proof.KI

end
-- ==== Proof.Loops.lean ====
/-
  The eight-segment loops of the kernel, one per buffer set, as one statement.
-/
module

public import proofs.«01_k».proof.Proof.Steps

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
variable (d : Fin nD) (i : grid1.Coords) (arg2 : Memref sig .scVector .hbm S1024x256 .i32) (harg2 : arg2.IsWhole) (arg3 : Memref sig .scVector .hbm S65536x512 .f32) (harg3 : arg3.IsWhole) (arg4 : Memref sig .scVector .hbm S8192x512 .f32) (harg4 : arg4.IsWhole) (arg5 : Memref sig .scVector .vmem S256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S64x512 .f32) (harg8 : arg8.IsWhole) (arg9 : Memref sig .scVector .vmem S64x512 .f32) (harg9 : arg9.IsWhole) (arg10 : Memref sig .scVector .vmem S64x512 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x512 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_)

/-- One chunk's means, from its words and its window. -/
theorem chunk_wp {mv : Vec F S256 .i32} {sv : Vec F S64x512 .f32} {v2 v82 v85 c0 c1 : BitVec 32} {k1 : Fin k1_t1_loop.trips}
    (hs : ∀ j, j < 8 → ∃ o n, SegWord (segWord mv j) o n) {Φ : Unit → sProp 𝕄} :
    iprop(Holds (thr d i) arg5 harg5 mv ∗ Holds (thr d i) arg8 harg8 sv ∗ Owned (F := F) (thr d i) arg11)
      ⊢ iprop((iprop(Holds (thr d i) arg5 harg5 mv ∗ Holds (thr d i) arg8 harg8 sv ∗ Holds (thr d i) arg11 harg11 (chunkRows mv sv)) -∗ Φ ⟨⟩)
          -∗ wp frame (wpE (defs₀ (F := F)) 𝒱₀ (thr d i) none) Set.univ
            (Scf.Loop.for k1_t2_loop k1_t2_ok ⟨⟩ (k1_t2_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 k1 v82 v85 c0 c1)) Φ) := by
  unfold Holds Owned
  iintro ⟨Hm, Hs, ⟨%g, Ho⟩⟩ Hk
  iapply (wp_wand_r frame (wpE (defs₀ (F := F)) 𝒱₀ (thr d i) none) Set.univ)
  isplitl [Hm Hs Ho]
  · iapply (chunk_loop d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 v82 v85 c0 c1 k1 mv sv (arg11.view.read (Elt F) g) hs)
    rw [← harg11.eq_unread rfl, harg11.set_eq_univ]
    isplitl [Hm]; · iexact Hm
    isplitl [Hs] <;> iassumption
  iintro %u
  iintro ⟨Hm, Hs, Ho⟩
  iapply Hk
  isplitl [Hm]; · iexact Hm
  isplitl [Hs]; · iexact Hs
  rw [harg11.set_eq_univ]
  iexact Ho
end

end Cert.Proof.KI

end
-- ==== Proof.Trip.lean ====
/-
  One trip of the kernel's main loop: three chunks, each with its words fetched and its window gathered ahead, its means written behind.
-/
module

public import proofs.«01_k».proof.Proof.Loops
public import Idealize.ShloMosaic.Lib.Ring.WriteBehind
public import Idealize.ShloMosaic.Lib.LoopRemainder

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- The worker's first chunk. -/
abbrev wb (i : grid1.Coords) : ℕ := 64 * (i 1).val + 32 * (i 0).val

theorem wb_lt (i : grid1.Coords) : wb i + 32 ≤ 1024 := by
  have h0 : (i 0).val < 2 := (i 0).isLt
  have h1 : (i 1).val < 16 := (i 1).isLt
  show 64 * (i 1).val + 32 * (i 0).val + 32 ≤ 1024
  omega

theorem take_next {Φ : ℕ → sProp 𝕄} {n m : ℕ} (h : n < m) : bigSep (Finset.Ico n m) Φ ⊢ iprop(Φ n ∗ bigSep (Finset.Ico (n + 1) m) Φ) := by
  have e : Finset.Ico (n + 1) m = (Finset.Ico n m).erase n := by ext; simp only [Finset.mem_Ico, Finset.mem_erase]; omega
  rw [e]
  have hm : n ∈ Finset.Ico n m := Finset.mem_Ico.mpr ⟨Nat.le_refl n, h⟩
  exact Entails.of_eq (Ring.bigSep_take hm Φ)

theorem put_next {Φ : ℕ → sProp 𝕄} {n : ℕ} : iprop(Φ n ∗ bigSep (Finset.range n) Φ) ⊢ bigSep (Finset.range (n + 1)) Φ := by
  rw [Finset.range_add_one]
  exact Entails.of_eq (Ring.bigSep_put Finset.notMem_range_self Φ).symm

section
variable (d : Fin nD) (i : grid1.Coords) (arg2 : Memref sig .scVector .hbm S1024x256 .i32) (harg2 : arg2.IsWhole) (arg3 : Memref sig .scVector .hbm S65536x512 .f32) (harg3 : arg3.IsWhole) (arg4 : Memref sig .scVector .hbm S8192x512 .f32) (harg4 : arg4.IsWhole) (arg5 : Memref sig .scVector .vmem S256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S64x512 .f32) (harg8 : arg8.IsWhole) (arg9 : Memref sig .scVector .vmem S64x512 .f32) (harg9 : arg9.IsWhole) (arg10 : Memref sig .scVector .vmem S64x512 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x512 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_)
variable (M : Vec F S1024x256 .i32) (X : Vec F S65536x512 .f32) (q0 q1 q2 p0 p1 p2 : PosShare TreeShare) (O : CellTallies nD τ sig (HIx 1)) (W : Waits sig (HIx 1))

/-- An output buffer before trip `k`: free before the first, else its last chunk on the way out. -/
def OutBuf (m : Memref sig .scVector .vmem S8x512 .f32) (hm : m.IsWhole) (sm : DmaSem sig) (j k : ℕ) : sProp 𝕄 :=
  if k = 0 then iprop(Owned (F := F) (thr d i) m ∗ semVal (thr d i, SemLoc.dma sm) 0) else Flying d i arg4 harg4 M X (wb i + (3 * (k - 1) + j)) m hm sm

/-- The piece an output buffer's wait gives back in trip `k`. -/
def OutGot (j k : ℕ) : sProp 𝕄 := if k = 0 then iprop(emp) else Done d i arg4 harg4 M X (wb i + (3 * (k - 1) + j))

/-- The wait for an output buffer, left out in the first trip. -/
theorem out_wait_if {m : Memref sig .scVector .vmem S8x512 .f32} {hm : m.IsWhole} {sm : DmaSem sig} {j k : ℕ} {cd : Prop} [Decidable cd] (hc : cd ↔ k ≠ 0) {off : cd → Fin 2 → ℕ}
    {inb : ∀ h, ∀ a, off h a + S8x512.size a ≤ S8192x512.size a} {α : Type} {K : Prog (TpuEff nD τ sig (Elt F) Λ₀ (thr d i).2) α} {Q : α → sProp 𝕄} :
    iprop(OutBuf d i arg4 harg4 M X m hm sm j k ∗ Owing (F := F) (thr d i) O W ∗ Transfers.MayWaits (thr d i) none O)
      ⊢ iprop((iprop(OutGot d i arg4 harg4 M X j k ∗ Owned (F := F) (thr d i) m ∗ semVal (thr d i, SemLoc.dma sm) 0 ∗ Owing (F := F) (thr d i) O W)
            -∗ wp frame (wpE (defs₀ (F := F)) 𝒱₀ (thr d i) none) Set.univ K Q)
          -∗ wp frame (wpE (defs₀ (F := F)) 𝒱₀ (thr d i) none) Set.univ
            (if h : cd then (do
                Prog.lift (.waitDma2 sm m (arg4.slice (Rect.unit (s := S8192x512) (off h) S8x512.size (inb h)) (fun _ => rfl)) hm.wordExact (View.wordExact_bits rfl))
                K) else K) Q) := by
  unfold OutBuf OutGot
  by_cases hk : k = 0
  · rw [if_pos hk, if_pos hk, dif_neg (fun h => hc.1 h hk)]
    iintro ⟨⟨Hm, Hv⟩, HO, Hmw⟩ Hk
    iapply Hk
    isplitr; · iempintro
    isplitl [Hm]; · iexact Hm
    isplitl [Hv] <;> iassumption
  · rw [if_neg hk, if_neg hk, dif_pos (hc.2 hk)]
    iintro H Hk
    iapply (out_wait (d := d) (i := i)) $$ H
    iexact Hk

theorem cond1_iff (k : Fin k1_t1_loop.trips) : k1_cond1 k = 1#1 ↔ k.val ≠ 0 := by revert k; decide +kernel
theorem cond2_iff (k : Fin k1_t1_loop.trips) : k1_cond2 k = 1#1 ↔ k.val ≠ 0 := by revert k; decide +kernel
theorem cond3_iff (k : Fin k1_t1_loop.trips) : k1_cond3 k = 1#1 ↔ k.val ≠ 0 := by revert k; decide +kernel

/-- What the worker holds before trip `k`. -/
def St (k : ℕ) : sProp 𝕄 :=
  iprop(Holds (thr d i) arg5 harg5 (metaRow M (wb i + 3 * k)) ∗ Reading (thr d i) (arg2.view.loc (thr d i)) q1 (harg2.unread M) arg6 harg6 arg15.sem (metaRow M (wb i + 3 * k + 1))
    ∗ Owned (F := F) (thr d i) arg7
    ∗ Reading (thr d i) (arg3.view.loc (thr d i)) p0 (harg3.unread X) arg8 harg8 arg17.sem (windowOf M X (wb i + 3 * k)) ∗ Owned (F := F) (thr d i) arg9 ∗ Owned (F := F) (thr d i) arg10
    ∗ (arg2.view.loc (thr d i) ↦[Finset.univ]{q0} harg2.unread M) ∗ (arg2.view.loc (thr d i) ↦[Finset.univ]{q2} harg2.unread M)
    ∗ (arg3.view.loc (thr d i) ↦[Finset.univ]{p1} harg3.unread X) ∗ (arg3.view.loc (thr d i) ↦[Finset.univ]{p2} harg3.unread X)
    ∗ semVal (thr d i, SemLoc.dma arg14.sem) 0 ∗ semVal (thr d i, SemLoc.dma arg16.sem) 0 ∗ semVal (thr d i, SemLoc.dma arg18.sem) 0 ∗ semVal (thr d i, SemLoc.dma arg19.sem) 0
    ∗ OutBuf d i arg4 harg4 M X arg11 harg11 arg20.sem 0 k ∗ OutBuf d i arg4 harg4 M X arg12 harg12 arg21.sem 1 k ∗ OutBuf d i arg4 harg4 M X arg13 harg13 arg22.sem 2 k
    ∗ (bigSep (Finset.Ico (3 * k) 32) fun r => Todo (F := F) d i arg4 (wb i + r))
    ∗ (bigSep (Finset.range (3 * k - 3)) fun r => Done d i arg4 harg4 M X (wb i + r))
    ∗ Owing (F := F) (thr d i) O W ∗ Transfers.MayWaits (thr d i) none O)

/-- The words of the group's second chunk arrive, its window and the third's words are asked for, the first's window arrives. -/
theorem part34 (hM : WordsOK M) (v2 c0 c1 : BitVec 32) (k : Fin k1_t1_loop.trips) {Φ : (Σ' (_ : BitVec 32) (_ : BitVec 32) (_ : BitVec 32), BitVec 32) → sProp 𝕄} :
    iprop(Holds (thr d i) arg5 harg5 (metaRow M (wb i + 3 * k.val)) ∗ Reading (thr d i) (arg2.view.loc (thr d i)) q1 (harg2.unread M) arg6 harg6 arg15.sem (metaRow M (wb i + 3 * k.val + 1))
        ∗ Owned (F := F) (thr d i) arg7 ∗ semVal (thr d i, SemLoc.dma arg16.sem) 0 ∗ (arg2.view.loc (thr d i) ↦[Finset.univ]{q2} harg2.unread M)
        ∗ Reading (thr d i) (arg3.view.loc (thr d i)) p0 (harg3.unread X) arg8 harg8 arg17.sem (windowOf M X (wb i + 3 * k.val))
        ∗ Owned (F := F) (thr d i) arg9 ∗ semVal (thr d i, SemLoc.dma arg18.sem) 0 ∗ (arg3.view.loc (thr d i) ↦[Finset.univ]{p1} harg3.unread X)
        ∗ OutBuf d i arg4 harg4 M X arg11 harg11 arg20.sem 0 k.val ∗ Owing (F := F) (thr d i) O W ∗ Transfers.MayWaits (thr d i) none O)
      ⊢ iprop((∀ r, iprop(Holds (thr d i) arg5 harg5 (metaRow M (wb i + 3 * k.val)) ∗ Holds (thr d i) arg6 harg6 (metaRow M (wb i + 3 * k.val + 1))
            ∗ semVal (thr d i, SemLoc.dma arg15.sem) 0 ∗ (arg2.view.loc (thr d i) ↦[Finset.univ]{q1} harg2.unread M)
            ∗ Reading (thr d i) (arg2.view.loc (thr d i)) q2 (harg2.unread M) arg7 harg7 arg16.sem (metaRow M (wb i + 3 * k.val + 2))
            ∗ Holds (thr d i) arg8 harg8 (windowOf M X (wb i + 3 * k.val)) ∗ semVal (thr d i, SemLoc.dma arg17.sem) 0 ∗ (arg3.view.loc (thr d i) ↦[Finset.univ]{p0} harg3.unread X)
            ∗ Reading (thr d i) (arg3.view.loc (thr d i)) p1 (harg3.unread X) arg9 harg9 arg18.sem (windowOf M X (wb i + 3 * k.val + 1))
            ∗ OutGot d i arg4 harg4 M X 0 k.val ∗ Owned (F := F) (thr d i) arg11 ∗ semVal (thr d i, SemLoc.dma arg20.sem) 0 ∗ Owing (F := F) (thr d i) O W) -∗ Φ r)
          -∗ wp frame (wpE (defs₀ (F := F)) 𝒱₀ (thr d i) none) Set.univ (k1_part34 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 c0 c1 k) Φ) := by
  rw [k1_part34_eq_skeleton]
  unfold k1_part34_skel Holds
  iintro ⟨Hm0, Rm1, Hm2, Hf2, Hq2, Rs0, Hs1, Hg1, Hp1, Ho, HO, #Hmw⟩ Hk
  sl_exec
  iapply (reading_wait (c := thr d i) (O := O) (W := W)) $$ [Rm1 HO]
  · isplitl [Rm1]; · iexact Rm1
    isplitl [HO] <;> iassumption
  iintro ⟨Hq1, Hm1, Hf1, HO⟩
  have h2 := (hM.base (wb i + 3 * k.val + 1)).chk
  have h3 := (hM.base (wb i + 3 * k.val)).chk
  rw [← base_eq harg6] at h2
  rw [← base_eq harg5] at h3
  have h2 : k1_chk2 _ := h2
  have h3 : k1_chk3 _ := h3
  sl_exec
  iapply (window_issue (d := d) (i := i) harg3 X harg9 (baseWord (metaRow M (wb i + 3 * k.val + 1))).toNat (congrArg k1_off5 (base_eq harg6 _))) $$ [Hp1 Hs1 Hg1]
  · isplitl [Hp1]; · iexact Hp1
    isplitl [Hs1] <;> iassumption
  iintro Rs1
  sl_exec
  iapply (fetch_issue (d := d) (i := i) harg2 M harg7 (wb i + 3 * k.val + 2) (k1_off6_eq i k)) $$ [Hq2 Hm2 Hf2]
  · isplitl [Hq2]; · iexact Hq2
    isplitl [Hm2] <;> iassumption
  iintro Rm2
  sl_exec
  iapply (window_wait (d := d) (i := i) (A := arg3) (m := arg8) (hm := harg8) (sm := arg17.sem) (O := O) (W := W) (hsrc := View.wordExact_bits rfl) (hdst := harg8.wordExact)) $$ [Rs0 HO]
  · isplitl [Rs0]; · iexact Rs0
    isplitl [HO] <;> iassumption
  iintro ⟨Hp0, Hs0, Hg0, HO⟩
  sl_exec
  iapply (out_wait_if d i arg4 harg4 M X O W (cond1_iff k)) $$ [Ho HO]
  · isplitl [Ho]; · iexact Ho
    isplitl [HO] <;> iassumption
  iintro ⟨Hgot, Hov, Hsv, HO⟩
  sl_exec
  rw [wp_ret]
  imodintro
  iapply Hk
  isplitl [Hm0]; · iexact Hm0
  isplitl [Hm1]; · iexact Hm1
  isplitl [Hf1]; · iexact Hf1
  isplitl [Hq1]; · iexact Hq1
  isplitl [Rm2]; · iexact Rm2
  isplitl [Hs0]; · iexact Hs0
  isplitl [Hg0]; · iexact Hg0
  isplitl [Hp0]; · iexact Hp0
  isplitl [Rs1]; · iexact Rs1
  isplitl [Hgot]; · iexact Hgot
  isplitl [Hov]; · iexact Hov
  isplitl [Hsv] <;> iassumption

/-- The group's first chunk is computed and sent; the third's words arrive, its window and the next group's words are asked for,
    the second's window arrives. -/
theorem part35 (hM : WordsOK M) (v2 v82 v85 c0 c1 : BitVec 32) (k : Fin k1_t1_loop.trips) {Φ : (Σ' (_ : BitVec 32), BitVec 1) → sProp 𝕄} :
    iprop(Holds (thr d i) arg5 harg5 (metaRow M (wb i + 3 * k.val)) ∗ Holds (thr d i) arg6 harg6 (metaRow M (wb i + 3 * k.val + 1))
        ∗ Reading (thr d i) (arg2.view.loc (thr d i)) q2 (harg2.unread M) arg7 harg7 arg16.sem (metaRow M (wb i + 3 * k.val + 2))
        ∗ Holds (thr d i) arg8 harg8 (windowOf M X (wb i + 3 * k.val))
        ∗ Reading (thr d i) (arg3.view.loc (thr d i)) p1 (harg3.unread X) arg9 harg9 arg18.sem (windowOf M X (wb i + 3 * k.val + 1))
        ∗ Owned (F := F) (thr d i) arg11 ∗ semVal (thr d i, SemLoc.dma arg20.sem) 0 ∗ Todo (F := F) d i arg4 (wb i + 3 * k.val)
        ∗ Owned (F := F) (thr d i) arg10 ∗ semVal (thr d i, SemLoc.dma arg19.sem) 0 ∗ (arg3.view.loc (thr d i) ↦[Finset.univ]{p2} harg3.unread X)
        ∗ semVal (thr d i, SemLoc.dma arg14.sem) 0 ∗ (arg2.view.loc (thr d i) ↦[Finset.univ]{q0} harg2.unread M)
        ∗ Owing (F := F) (thr d i) O W ∗ Transfers.MayWaits (thr d i) none O)
      ⊢ iprop((∀ r, iprop(Holds (thr d i) arg6 harg6 (metaRow M (wb i + 3 * k.val + 1)) ∗ Holds (thr d i) arg7 harg7 (metaRow M (wb i + 3 * k.val + 2))
            ∗ semVal (thr d i, SemLoc.dma arg16.sem) 0 ∗ (arg2.view.loc (thr d i) ↦[Finset.univ]{q2} harg2.unread M)
            ∗ Reading (thr d i) (arg2.view.loc (thr d i)) q0 (harg2.unread M) arg5 harg5 arg14.sem (metaRow M (wb i + 3 * k.val + 3))
            ∗ Owned (F := F) (thr d i) arg8
            ∗ Holds (thr d i) arg9 harg9 (windowOf M X (wb i + 3 * k.val + 1)) ∗ semVal (thr d i, SemLoc.dma arg18.sem) 0 ∗ (arg3.view.loc (thr d i) ↦[Finset.univ]{p1} harg3.unread X)
            ∗ Reading (thr d i) (arg3.view.loc (thr d i)) p2 (harg3.unread X) arg10 harg10 arg19.sem (windowOf M X (wb i + 3 * k.val + 2))
            ∗ Flying d i arg4 harg4 M X (wb i + 3 * k.val) arg11 harg11 arg20.sem ∗ Owing (F := F) (thr d i) O W) -∗ Φ r)
          -∗ wp frame (wpE (defs₀ (F := F)) 𝒱₀ (thr d i) none) Set.univ (k1_part35 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 k v82 v85 c0 c1) Φ) := by
  have hb := wb_lt i
  have hk : k.val < 10 := k.isLt
  rw [k1_part35_eq_skeleton]
  unfold k1_part35_skel
  iintro ⟨Hm0, Hm1, Rm2, Hs0, Rs1, Ho, Hsv, Ht, Hs2, Hg2, Hp2, Hf0, Hq0, HO, #Hmw⟩ Hk
  rw [wp_bind]
  iapply (chunk_wp d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 (hM.seg (wb i + 3 * k.val))) $$ [Hm0 Hs0 Ho]
  · isplitl [Hm0]; · iexact Hm0
    isplitl [Hs0]; · iexact Hs0
    iexact Ho
  iintro ⟨Hm0, Hs0, Ho⟩
  ihave Hm0 := (Holds.owned (c := thr d i)) $$ Hm0
  sl_exec
  iapply (out_issue (d := d) (i := i) harg4 M X harg11 (wb i + 3 * k.val) (by omega) ((k1_off13_eq i k).trans (by congr 1; show _ = 8 * (64 * (i 1).val + 32 * (i 0).val + 3 * k.val); omega))) $$ [Ht Ho Hsv]
  · isplitl [Ht]; · iexact Ht
    isplitl [Ho]; · unfold meansOf; iexact Ho
    iexact Hsv
  iintro Hfl
  sl_exec
  iapply (reading_wait (c := thr d i) (O := O) (W := W)) $$ [Rm2 HO]
  · isplitl [Rm2]; · iexact Rm2
    isplitl [HO] <;> iassumption
  iintro ⟨Hq2, Hm2, Hf2, HO⟩
  have h5 := (hM.base (wb i + 3 * k.val + 2)).chk
  have h6 := (hM.base (wb i + 3 * k.val + 1)).chk
  rw [← base_eq harg7] at h5
  rw [← base_eq harg6] at h6
  have h5 : k1_chk5 _ := h5
  have h6 : k1_chk6 _ := h6
  unfold Holds
  sl_exec
  iapply (window_issue (d := d) (i := i) harg3 X harg10 (baseWord (metaRow M (wb i + 3 * k.val + 2))).toNat (congrArg k1_off15 (base_eq harg7 _))) $$ [Hp2 Hs2 Hg2]
  · isplitl [Hp2]; · iexact Hp2
    isplitl [Hs2] <;> iassumption
  iintro Rs2
  sl_exec
  iapply (fetch_issue (d := d) (i := i) harg2 M harg5 (wb i + 3 * k.val + 3) (k1_off16_eq i k)) $$ [Hq0 Hm0 Hf0]
  · isplitl [Hq0]; · iexact Hq0
    isplitl [Hm0]; · iexact Hm0
    iexact Hf0
  iintro Rm0
  sl_exec
  iapply (window_wait (d := d) (i := i) (A := arg3) (m := arg9) (hm := harg9) (sm := arg18.sem) (O := O) (W := W) (hsrc := View.wordExact_bits rfl) (hdst := harg9.wordExact)) $$ [Rs1 HO]
  · isplitl [Rs1]; · iexact Rs1
    isplitl [HO] <;> iassumption
  iintro ⟨Hp1, Hs1, Hg1, HO⟩
  sl_exec
  rw [wp_ret]
  imodintro
  iapply Hk
  isplitl [Hm1]; · iexact Hm1
  isplitl [Hm2]; · iexact Hm2
  isplitl [Hf2]; · iexact Hf2
  isplitl [Hq2]; · iexact Hq2
  isplitl [Rm0]; · iexact Rm0
  isplitl [Hs0]; · unfold Owned; iexists _; iexact Hs0
  isplitl [Hs1]; · iexact Hs1
  isplitl [Hg1]; · iexact Hg1
  isplitl [Hp1]; · iexact Hp1
  isplitl [Rs2]; · iexact Rs2
  isplitl [Hfl] <;> iassumption

/-- The group's second chunk is computed and sent; the next group's first words arrive, its window and the second's words are asked for. -/
theorem part36 (hM : WordsOK M) (v2 v82 v119 : BitVec 32) (v144 : BitVec 1) (k : Fin k1_t1_loop.trips) {Φ : (Σ' (_ : BitVec 32) (v174 : BitVec 32), k1_chk9 v174) → sProp 𝕄} :
    iprop(Holds (thr d i) arg6 harg6 (metaRow M (wb i + 3 * k.val + 1)) ∗ Holds (thr d i) arg7 harg7 (metaRow M (wb i + 3 * k.val + 2))
        ∗ Reading (thr d i) (arg2.view.loc (thr d i)) q0 (harg2.unread M) arg5 harg5 arg14.sem (metaRow M (wb i + 3 * k.val + 3))
        ∗ Holds (thr d i) arg9 harg9 (windowOf M X (wb i + 3 * k.val + 1)) ∗ OutBuf d i arg4 harg4 M X arg12 harg12 arg21.sem 1 k.val
        ∗ Todo (F := F) d i arg4 (wb i + (3 * k.val + 1))
        ∗ Owned (F := F) (thr d i) arg8 ∗ semVal (thr d i, SemLoc.dma arg17.sem) 0 ∗ (arg3.view.loc (thr d i) ↦[Finset.univ]{p0} harg3.unread X)
        ∗ semVal (thr d i, SemLoc.dma arg15.sem) 0 ∗ (arg2.view.loc (thr d i) ↦[Finset.univ]{q1} harg2.unread M)
        ∗ Owing (F := F) (thr d i) O W ∗ Transfers.MayWaits (thr d i) none O)
      ⊢ iprop((∀ r, iprop(Holds (thr d i) arg7 harg7 (metaRow M (wb i + 3 * k.val + 2)) ∗ Holds (thr d i) arg5 harg5 (metaRow M (wb i + 3 * k.val + 3))
            ∗ semVal (thr d i, SemLoc.dma arg14.sem) 0 ∗ (arg2.view.loc (thr d i) ↦[Finset.univ]{q0} harg2.unread M)
            ∗ Reading (thr d i) (arg2.view.loc (thr d i)) q1 (harg2.unread M) arg6 harg6 arg15.sem (metaRow M (wb i + 3 * k.val + 4))
            ∗ Owned (F := F) (thr d i) arg9
            ∗ Reading (thr d i) (arg3.view.loc (thr d i)) p0 (harg3.unread X) arg8 harg8 arg17.sem (windowOf M X (wb i + 3 * k.val + 3))
            ∗ OutGot d i arg4 harg4 M X 1 k.val
            ∗ Flying d i arg4 harg4 M X (wb i + (3 * k.val + 1)) arg12 harg12 arg21.sem ∗ Owing (F := F) (thr d i) O W) -∗ Φ r)
          -∗ wp frame (wpE (defs₀ (F := F)) 𝒱₀ (thr d i) none) Set.univ (k1_part36 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 k v82 v119 v144) Φ) := by
  have hb := wb_lt i
  have hk : k.val < 10 := k.isLt
  rw [k1_part36_eq_skeleton]
  unfold k1_part36_skel
  iintro ⟨Hm1, Hm2, Rm0, Hs1, Ho, Ht, Hs0, Hg0, Hp0, Hf1, Hq1, HO, #Hmw⟩ Hk
  iapply (out_wait_if d i arg4 harg4 M X O W (cond2_iff k)) $$ [Ho HO]
  · isplitl [Ho]; · iexact Ho
    isplitl [HO] <;> iassumption
  iintro ⟨Hgot, Ho, Hsv, HO⟩
  beta_reduce
  rw [wp_bind]
  iapply (chunk_wp d i arg2 harg2 arg3 harg3 arg4 harg4 arg6 harg6 arg6 harg6 arg7 harg7 arg9 harg9 arg9 harg9 arg10 harg10 arg12 harg12 arg12 harg12 arg13 harg13 arg14 arg15 arg16 arg17 arg18 arg19 arg20 arg21 arg22 (v2 := v2) (v82 := v82) (v85 := v2) (c0 := v2) (c1 := v2) (k1 := k) (hM.seg (wb i + 3 * k.val + 1))) $$ [Hm1 Hs1 Ho]
  · isplitl [Hm1]; · iexact Hm1
    isplitl [Hs1]; · iexact Hs1
    iexact Ho
  iintro ⟨Hm1, Hs1, Ho⟩
  ihave Hm1 := (Holds.owned (c := thr d i)) $$ Hm1
  sl_exec
  iapply (out_issue (d := d) (i := i) harg4 M X harg12 (wb i + (3 * k.val + 1)) (by omega) ((k1_off23_eq i k).trans (by congr 1; show _ = 8 * (64 * (i 1).val + 32 * (i 0).val + (3 * k.val + 1)); omega))) $$ [Ht Ho Hsv]
  · isplitl [Ht]; · iexact Ht
    isplitl [Ho]; · unfold meansOf; iexact Ho
    iexact Hsv
  iintro Hfl
  sl_exec
  iapply (reading_wait (c := thr d i) (O := O) (W := W)) $$ [Rm0 HO]
  · isplitl [Rm0]; · iexact Rm0
    isplitl [HO] <;> iassumption
  iintro ⟨Hq0, Hm0, Hf0, HO⟩
  have h8 := (hM.base (wb i + 3 * k.val + 3)).chk
  have h9 := (hM.base (wb i + 3 * k.val + 2)).chk
  rw [← base_eq harg5] at h8
  rw [← base_eq harg7] at h9
  have h8 : k1_chk8 _ := h8
  have h9 : k1_chk9 _ := h9
  unfold Holds
  sl_exec
  iapply (window_issue (d := d) (i := i) harg3 X harg8 (baseWord (metaRow M (wb i + 3 * k.val + 3))).toNat (congrArg k1_off25 (base_eq harg5 _))) $$ [Hp0 Hs0 Hg0]
  · isplitl [Hp0]; · iexact Hp0
    isplitl [Hs0] <;> iassumption
  iintro Rs0
  sl_exec
  iapply (fetch_issue (d := d) (i := i) harg2 M harg6 (wb i + 3 * k.val + 4) (k1_off26_eq i k)) $$ [Hq1 Hm1 Hf1]
  · isplitl [Hq1]; · iexact Hq1
    isplitl [Hm1] <;> iassumption
  iintro Rm1
  sl_exec
  rw [wp_ret]
  imodintro
  iapply Hk
  isplitl [Hm2]; · iexact Hm2
  isplitl [Hm0]; · iexact Hm0
  isplitl [Hf0]; · iexact Hf0
  isplitl [Hq0]; · iexact Hq0
  isplitl [Rm1]; · iexact Rm1
  isplitl [Hs1]; · unfold Owned; iexists _; iexact Hs1
  isplitl [Rs0]; · iexact Rs0
  isplitl [Hgot]; · iexact Hgot
  isplitl [Hfl] <;> iassumption
end

end Cert.Proof.KI

end
-- ==== Proof.Group.lean ====
/-
  One whole trip of the kernel's main loop.
-/
module

public import proofs.«01_k».proof.Proof.Trip

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
variable (d : Fin nD) (i : grid1.Coords) (arg2 : Memref sig .scVector .hbm S1024x256 .i32) (harg2 : arg2.IsWhole) (arg3 : Memref sig .scVector .hbm S65536x512 .f32) (harg3 : arg3.IsWhole) (arg4 : Memref sig .scVector .hbm S8192x512 .f32) (harg4 : arg4.IsWhole) (arg5 : Memref sig .scVector .vmem S256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S64x512 .f32) (harg8 : arg8.IsWhole) (arg9 : Memref sig .scVector .vmem S64x512 .f32) (harg9 : arg9.IsWhole) (arg10 : Memref sig .scVector .vmem S64x512 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x512 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_)
variable (M : Vec F S1024x256 .i32) (X : Vec F S65536x512 .f32) (q0 q1 q2 p0 p1 p2 : PosShare TreeShare) (O : CellTallies nD τ sig (HIx 1)) (W : Waits sig (HIx 1))

/-- The pieces three waits give back join those already written. -/
theorem got_put (k : ℕ) :
    iprop(OutGot d i arg4 harg4 M X 0 k ∗ OutGot d i arg4 harg4 M X 1 k ∗ OutGot d i arg4 harg4 M X 2 k
        ∗ bigSep (Finset.range (3 * k - 3)) fun r => Done d i arg4 harg4 M X (wb i + r))
      ⊢ bigSep (Finset.range (3 * (k + 1) - 3)) fun r => Done d i arg4 harg4 M X (wb i + r) := by
  unfold OutGot
  match k with
  | 0 =>
    iintro ⟨-, -, -, H⟩
    iexact H
  | k + 1 =>
    rw [if_neg (Nat.succ_ne_zero k), if_neg (Nat.succ_ne_zero k), if_neg (Nat.succ_ne_zero k), Nat.add_sub_cancel,
      show 3 * (k + 1) - 3 = 3 * k by omega, show 3 * (k + 1 + 1) - 3 = 3 * k + 1 + 1 + 1 by omega]
    iintro ⟨H0, H1, H2, H⟩
    iapply (put_next (Φ := fun r => Done d i arg4 harg4 M X (wb i + r)))
    isplitl [H2]; · iexact H2
    iapply (put_next (Φ := fun r => Done d i arg4 harg4 M X (wb i + r)))
    isplitl [H1]; · iexact H1
    iapply (put_next (Φ := fun r => Done d i arg4 harg4 M X (wb i + r)))
    isplitl [H0]; · iexact H0
    iexact H

set_option maxHeartbeats 4000000 in
theorem trip (hM : WordsOK M) (v2 : BitVec 32) (k : Fin k1_t1_loop.trips) :
    St d i arg2 harg2 arg3 harg3 arg4 harg4 arg5 harg5 arg6 harg6 arg7 arg8 harg8 arg9 arg10 arg11 harg11 arg12 harg12 arg13 harg13 arg14 arg15 arg16 arg17 arg18 arg19 arg20 arg21 arg22 M X q0 q1 q2 p0 p1 p2 O W k.val
      ⊢ wp frame (wpE (defs₀ (F := F)) 𝒱₀ (thr d i) none) Set.univ (k1_t1_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 k ⟨⟩)
        (fun _ => St d i arg2 harg2 arg3 harg3 arg4 harg4 arg5 harg5 arg6 harg6 arg7 arg8 harg8 arg9 arg10 arg11 harg11 arg12 harg12 arg13 harg13 arg14 arg15 arg16 arg17 arg18 arg19 arg20 arg21 arg22 M X q0 q1 q2 p0 p1 p2 O W (k.val + 1)) := by
  have hk : k.val < 10 := k.isLt
  have hb := wb_lt i
  unfold St k1_t1_body
  iintro ⟨Hm0, Rm1, Hm2, Rs0, Hs1, Hs2, Hq0, Hq2, Hp1, Hp2, Hf0, Hf2, Hg1, Hg2, Ho0, Ho1, Ho2, Ht, Hd, HO, #Hmw⟩
  ihave ⟨Ht0, Ht⟩ := (take_next (Φ := fun r => Todo (F := F) d i arg4 (wb i + r)) (show 3 * k.val < 32 by omega)) $$ Ht
  ihave ⟨Ht1, Ht⟩ := (take_next (Φ := fun r => Todo (F := F) d i arg4 (wb i + r)) (show 3 * k.val + 1 < 32 by omega)) $$ Ht
  ihave ⟨Ht2, Ht⟩ := (take_next (Φ := fun r => Todo (F := F) d i arg4 (wb i + r)) (show 3 * k.val + 1 + 1 < 32 by omega)) $$ Ht
  rw [wp_bind]
  iapply (part34 d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 M X q1 q2 p0 p1 O W hM v2 0#32 1#32 k) $$ [Hm0 Rm1 Hm2 Hf2 Hq2 Rs0 Hs1 Hg1 Hp1 Ho0 HO]
  · isplitl [Hm0]; · iexact Hm0
    isplitl [Rm1]; · iexact Rm1
    isplitl [Hm2]; · iexact Hm2
    isplitl [Hf2]; · iexact Hf2
    isplitl [Hq2]; · iexact Hq2
    isplitl [Rs0]; · iexact Rs0
    isplitl [Hs1]; · iexact Hs1
    isplitl [Hg1]; · iexact Hg1
    isplitl [Hp1]; · iexact Hp1
    isplitl [Ho0]; · iexact Ho0
    isplitl [HO] <;> iassumption
  iintro %r ⟨Hm0, Hm1, Hf1, Hq1, Rm2, Hs0, Hg0, Hp0, Rs1, Hgot0, Ho0, Hv0, HO⟩
  obtain ⟨v82, v85, c0, c1⟩ := r
  beta_reduce
  rw [wp_bind]
  iapply (part35 d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 M X q0 q2 p1 p2 O W hM v2 v82 v85 c0 c1 k) $$ [Hm0 Hm1 Rm2 Hs0 Rs1 Ho0 Hv0 Ht0 Hs2 Hg2 Hp2 Hf0 Hq0 HO]
  · isplitl [Hm0]; · iexact Hm0
    isplitl [Hm1]; · iexact Hm1
    isplitl [Rm2]; · iexact Rm2
    isplitl [Hs0]; · iexact Hs0
    isplitl [Rs1]; · iexact Rs1
    isplitl [Ho0]; · iexact Ho0
    isplitl [Hv0]; · iexact Hv0
    isplitl [Ht0]; · iexact Ht0
    isplitl [Hs2]; · iexact Hs2
    isplitl [Hg2]; · iexact Hg2
    isplitl [Hp2]; · iexact Hp2
    isplitl [Hf0]; · iexact Hf0
    isplitl [Hq0]; · iexact Hq0
    isplitl [HO] <;> iassumption
  iintro %r ⟨Hm1, Hm2, Hf2, Hq2, Rm0, Hs0, Hs1, Hg1, Hp1, Rs2, Hfl0, HO⟩
  obtain ⟨v119, v144⟩ := r
  beta_reduce
  rw [wp_bind]
  iapply (part36 d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 M X q0 q1 p0 O W hM v2 v82 v119 v144 k) $$ [Hm1 Hm2 Rm0 Hs1 Ho1 Ht1 Hs0 Hg0 Hp0 Hf1 Hq1 HO]
  · isplitl [Hm1]; · iexact Hm1
    isplitl [Hm2]; · iexact Hm2
    isplitl [Rm0]; · iexact Rm0
    isplitl [Hs1]; · iexact Hs1
    isplitl [Ho1]; · iexact Ho1
    isplitl [Ht1]; · iexact Ht1
    isplitl [Hs0]; · iexact Hs0
    isplitl [Hg0]; · iexact Hg0
    isplitl [Hp0]; · iexact Hp0
    isplitl [Hf1]; · iexact Hf1
    isplitl [Hq1]; · iexact Hq1
    isplitl [HO] <;> iassumption
  iintro %r ⟨Hm2, Hm0, Hf0, Hq0, Rm1, Hs1, Rs0, Hgot1, Hfl1, HO⟩
  obtain ⟨v153, v174, h9⟩ := r
  beta_reduce
  sl_exec
  iapply (window_wait (d := d) (i := i) (A := arg3) (m := arg10) (hm := harg10) (sm := arg19.sem) (O := O) (W := W) (hsrc := View.wordExact_bits rfl) (hdst := harg10.wordExact)) $$ [Rs2 HO]
  · isplitl [Rs2]; · iexact Rs2
    isplitl [HO] <;> iassumption
  iintro ⟨Hp2, Hs2, Hg2, HO⟩
  sl_exec
  iapply (out_wait_if d i arg4 harg4 M X O W (cond3_iff k)) $$ [Ho2 HO]
  · isplitl [Ho2]; · iexact Ho2
    isplitl [HO] <;> iassumption
  iintro ⟨Hgot2, Ho2, Hv2, HO⟩
  beta_reduce
  rw [wp_bind]
  iapply (chunk_wp d i arg2 harg2 arg3 harg3 arg4 harg4 arg7 harg7 arg6 harg6 arg7 harg7 arg10 harg10 arg9 harg9 arg10 harg10 arg13 harg13 arg12 harg12 arg13 harg13 arg14 arg15 arg16 arg17 arg18 arg19 arg20 arg21 arg22 (v2 := v2) (v82 := v82) (v85 := v2) (c0 := v2) (c1 := v2) (k1 := k) (hM.seg (wb i + 3 * k.val + 2))) $$ [Hm2 Hs2 Ho2]
  · isplitl [Hm2]; · iexact Hm2
    isplitl [Hs2]; · unfold Holds; iexact Hs2
    iexact Ho2
  iintro ⟨Hm2, Hs2, Ho2⟩
  ihave Hm2 := (Holds.owned (c := thr d i)) $$ Hm2
  ihave Hs2 := (Holds.owned (c := thr d i)) $$ Hs2
  sl_exec
  iapply (out_issue (d := d) (i := i) harg4 M X harg13 (wb i + (3 * k.val + 2)) (by omega) ((k1_off33_eq i k).trans (by congr 1; show _ = 8 * (64 * (i 1).val + 32 * (i 0).val + (3 * k.val + 2)); omega))) $$ [Ht2 Ho2 Hv2]
  · isplitl [Ht2]; · iexact Ht2
    isplitl [Ho2]; · unfold meansOf; iexact Ho2
    iexact Hv2
  iintro Hfl2
  sl_exec
  rw [wp_ret]
  imodintro
  have e0 : wb i + 3 * (k.val + 1) = wb i + 3 * k.val + 3 := by omega
  have e1 : wb i + 3 * (k.val + 1) + 1 = wb i + 3 * k.val + 4 := by omega
  have e2 : 3 * (k.val + 1) = 3 * k.val + 1 + 1 + 1 := by omega
  rw [e1, e0]
  isplitl [Hm0]; · iexact Hm0
  isplitl [Rm1]; · iexact Rm1
  isplitl [Hm2]; · iexact Hm2
  isplitl [Rs0]; · iexact Rs0
  isplitl [Hs1]; · iexact Hs1
  isplitl [Hs2]; · iexact Hs2
  isplitl [Hq0]; · iexact Hq0
  isplitl [Hq2]; · iexact Hq2
  isplitl [Hp1]; · iexact Hp1
  isplitl [Hp2]; · iexact Hp2
  isplitl [Hf0]; · iexact Hf0
  isplitl [Hf2]; · iexact Hf2
  isplitl [Hg1]; · iexact Hg1
  isplitl [Hg2]; · iexact Hg2
  isplitl [Hfl0]
  · unfold OutBuf
    rw [if_neg (Nat.succ_ne_zero _), Nat.add_sub_cancel]
    iexact Hfl0
  isplitl [Hfl1]
  · unfold OutBuf
    rw [if_neg (Nat.succ_ne_zero _), Nat.add_sub_cancel]
    iexact Hfl1
  isplitl [Hfl2]
  · unfold OutBuf
    rw [if_neg (Nat.succ_ne_zero _), Nat.add_sub_cancel]
    iexact Hfl2
  isplitl [Ht]; · rw [e2]; iexact Ht
  isplitl [Hd Hgot0 Hgot1 Hgot2]
  · iapply (got_put d i arg4 harg4 M X k.val)
    isplitl [Hgot0]; · iexact Hgot0
    isplitl [Hgot1]; · iexact Hgot1
    isplitl [Hgot2] <;> iassumption
  isplitl [HO] <;> iassumption
end

end Cert.Proof.KI

end
-- ==== Proof.Tile.lean ====
/-
  The kernel's whole program on one vector subcore.
-/
module

public import proofs.«01_k».proof.Proof.Group

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
variable (d : Fin nD) (i : grid1.Coords) (arg2 : Memref sig .scVector .hbm S1024x256 .i32) (harg2 : arg2.IsWhole) (arg3 : Memref sig .scVector .hbm S65536x512 .f32) (harg3 : arg3.IsWhole) (arg4 : Memref sig .scVector .hbm S8192x512 .f32) (harg4 : arg4.IsWhole) (arg5 : Memref sig .scVector .vmem S256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S64x512 .f32) (harg8 : arg8.IsWhole) (arg9 : Memref sig .scVector .vmem S64x512 .f32) (harg9 : arg9.IsWhole) (arg10 : Memref sig .scVector .vmem S64x512 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x512 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_)
variable (M : Vec F S1024x256 .i32) (X : Vec F S65536x512 .f32) (q0 q1 q2 p0 p1 p2 : PosShare TreeShare) (O : CellTallies nD τ sig (HIx 1)) (W : Waits sig (HIx 1))

/-- The kernel's main loop. -/
theorem groups (hM : WordsOK M) (v2 : BitVec 32) {Φ : Unit → sProp 𝕄} :
    St d i arg2 harg2 arg3 harg3 arg4 harg4 arg5 harg5 arg6 harg6 arg7 arg8 harg8 arg9 arg10 arg11 harg11 arg12 harg12 arg13 harg13 arg14 arg15 arg16 arg17 arg18 arg19 arg20 arg21 arg22 M X q0 q1 q2 p0 p1 p2 O W 0
      ⊢ iprop((St d i arg2 harg2 arg3 harg3 arg4 harg4 arg5 harg5 arg6 harg6 arg7 arg8 harg8 arg9 arg10 arg11 harg11 arg12 harg12 arg13 harg13 arg14 arg15 arg16 arg17 arg18 arg19 arg20 arg21 arg22 M X q0 q1 q2 p0 p1 p2 O W 10 -∗ Φ ⟨⟩)
        -∗ wp frame (wpE (defs₀ (F := F)) 𝒱₀ (thr d i) none) Set.univ (Scf.Loop.for k1_t1_loop k1_t1_ok ⟨⟩ (k1_t1_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2)) Φ) := by
  iintro H Hk
  sl_for (fun k (_ : Unit) => St d i arg2 harg2 arg3 harg3 arg4 harg4 arg5 harg5 arg6 harg6 arg7 arg8 harg8 arg9 arg10 arg11 harg11 arg12 harg12 arg13 harg13 arg14 arg15 arg16 arg17 arg18 arg19 arg20 arg21 arg22 M X q0 q1 q2 p0 p1 p2 O W k) $$ [H Hk]
  case region =>
    intro k _
    exact trip d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 M X q0 q1 q2 p0 p1 p2 O W hM v2 k
  isplitl [H]; · iexact H
  iintro %_ H
  iapply Hk
  have ht : Scf.trips k1_t1_loop.lb k1_t1_loop.ub k1_t1_loop.st = 10 := by decide
  rw [ht]
  iexact H

/-- What the worker holds at the start. -/
def Start : sProp 𝕄 :=
  iprop(Owned (F := F) (thr d i) arg5 ∗ Owned (F := F) (thr d i) arg6 ∗ Owned (F := F) (thr d i) arg7 ∗ Owned (F := F) (thr d i) arg8 ∗ Owned (F := F) (thr d i) arg9 ∗ Owned (F := F) (thr d i) arg10 ∗ Owned (F := F) (thr d i) arg11 ∗ Owned (F := F) (thr d i) arg12 ∗ Owned (F := F) (thr d i) arg13
    ∗ semVal (thr d i, SemLoc.dma arg14.sem) 0 ∗ semVal (thr d i, SemLoc.dma arg15.sem) 0 ∗ semVal (thr d i, SemLoc.dma arg16.sem) 0 ∗ semVal (thr d i, SemLoc.dma arg17.sem) 0 ∗ semVal (thr d i, SemLoc.dma arg18.sem) 0 ∗ semVal (thr d i, SemLoc.dma arg19.sem) 0 ∗ semVal (thr d i, SemLoc.dma arg20.sem) 0 ∗ semVal (thr d i, SemLoc.dma arg21.sem) 0 ∗ semVal (thr d i, SemLoc.dma arg22.sem) 0
    ∗ (arg2.view.loc (thr d i) ↦[Finset.univ]{q0} harg2.unread M) ∗ (arg2.view.loc (thr d i) ↦[Finset.univ]{q1} harg2.unread M) ∗ (arg2.view.loc (thr d i) ↦[Finset.univ]{q2} harg2.unread M) ∗ (arg3.view.loc (thr d i) ↦[Finset.univ]{p0} harg3.unread X) ∗ (arg3.view.loc (thr d i) ↦[Finset.univ]{p1} harg3.unread X) ∗ (arg3.view.loc (thr d i) ↦[Finset.univ]{p2} harg3.unread X)
    ∗ (bigSep (Finset.Ico 0 32) fun r => Todo (F := F) d i arg4 (wb i + r)) ∗ Owing (F := F) (thr d i) O W ∗ Transfers.MayWaits (thr d i) none O)

/-- What the worker holds at the end. -/
def Final : sProp 𝕄 :=
  iprop(Owned (F := F) (thr d i) arg5 ∗ Owned (F := F) (thr d i) arg6 ∗ Owned (F := F) (thr d i) arg7 ∗ Owned (F := F) (thr d i) arg8 ∗ Owned (F := F) (thr d i) arg9 ∗ Owned (F := F) (thr d i) arg10 ∗ Owned (F := F) (thr d i) arg11 ∗ Owned (F := F) (thr d i) arg12 ∗ Owned (F := F) (thr d i) arg13
    ∗ semVal (thr d i, SemLoc.dma arg14.sem) 0 ∗ semVal (thr d i, SemLoc.dma arg15.sem) 0 ∗ semVal (thr d i, SemLoc.dma arg16.sem) 0 ∗ semVal (thr d i, SemLoc.dma arg17.sem) 0 ∗ semVal (thr d i, SemLoc.dma arg18.sem) 0 ∗ semVal (thr d i, SemLoc.dma arg19.sem) 0 ∗ semVal (thr d i, SemLoc.dma arg20.sem) 0 ∗ semVal (thr d i, SemLoc.dma arg21.sem) 0 ∗ semVal (thr d i, SemLoc.dma arg22.sem) 0
    ∗ (arg2.view.loc (thr d i) ↦[Finset.univ]{q0} harg2.unread M) ∗ (arg2.view.loc (thr d i) ↦[Finset.univ]{q1} harg2.unread M) ∗ (arg2.view.loc (thr d i) ↦[Finset.univ]{q2} harg2.unread M) ∗ (arg3.view.loc (thr d i) ↦[Finset.univ]{p0} harg3.unread X) ∗ (arg3.view.loc (thr d i) ↦[Finset.univ]{p1} harg3.unread X) ∗ (arg3.view.loc (thr d i) ↦[Finset.univ]{p2} harg3.unread X)
    ∗ (bigSep (Finset.range 32) fun r => Done d i arg4 harg4 M X (wb i + r)) ∗ Owing (F := F) (thr d i) O W)

set_option maxHeartbeats 4000000 in
/-- The first words and window, and the main loop. -/
theorem part59 (hM : WordsOK M) {Φ : (Σ' (_ : BitVec 32), BitVec 32) → sProp 𝕄} :
    Start d i arg2 harg2 arg3 harg3 arg4 arg5 arg6 arg7 arg8 arg9 arg10 arg11 arg12 arg13 arg14 arg15 arg16 arg17 arg18 arg19 arg20 arg21 arg22 M X q0 q1 q2 p0 p1 p2 O W
      ⊢ iprop((∀ r, St d i arg2 harg2 arg3 harg3 arg4 harg4 arg5 harg5 arg6 harg6 arg7 arg8 harg8 arg9 arg10 arg11 harg11 arg12 harg12 arg13 harg13 arg14 arg15 arg16 arg17 arg18 arg19 arg20 arg21 arg22 M X q0 q1 q2 p0 p1 p2 O W 10 -∗ Φ r)
        -∗ wp frame (wpE (defs₀ (F := F)) 𝒱₀ (thr d i) none) Set.univ (k1_part59 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22) Φ) := by
  rw [k1_part59_eq_skeleton]
  unfold Start k1_part59_skel
  iintro ⟨Hm0, Hm1, Hm2, Hs0, Hs1, Hs2, Ho0, Ho1, Ho2, Hf0, Hf1, Hf2, Hg0, Hg1, Hg2, Hv0, Hv1, Hv2, Hq0, Hq1, Hq2, Hp0, Hp1, Hp2, Ht, HO, #Hmw⟩ Hk
  sl_exec
  iapply (fetch_issue (d := d) (i := i) harg2 M harg5 (wb i + 3 * 0) (k1_off1_eq i)) $$ [Hq0 Hm0 Hf0]
  · isplitl [Hq0]; · iexact Hq0
    isplitl [Hm0] <;> iassumption
  iintro Rm0
  sl_exec
  iapply (fetch_issue (d := d) (i := i) harg2 M harg6 (wb i + 3 * 0 + 1) (k1_off2_eq i)) $$ [Hq1 Hm1 Hf1]
  · isplitl [Hq1]; · iexact Hq1
    isplitl [Hm1] <;> iassumption
  iintro Rm1
  sl_exec
  iapply (reading_wait (c := thr d i) (O := O) (W := W)) $$ [Rm0 HO]
  · isplitl [Rm0]; · iexact Rm0
    isplitl [HO] <;> iassumption
  iintro ⟨Hq0, Hm0, Hf0, HO⟩
  have h1 := (hM.base (wb i + 3 * 0)).chk
  rw [← base_eq harg5] at h1
  have h1 : k1_chk1 _ := h1
  sl_exec
  iapply (window_issue (d := d) (i := i) harg3 X harg8 (baseWord (metaRow M (wb i + 3 * 0))).toNat (congrArg k1_off3 (base_eq harg5 _))) $$ [Hp0 Hs0 Hg0]
  · isplitl [Hp0]; · iexact Hp0
    isplitl [Hs0] <;> iassumption
  iintro Rs0
  beta_reduce
  rw [wp_bind]
  iapply (groups d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 M X q0 q1 q2 p0 p1 p2 O W hM) $$ [-Hk]
  · unfold St OutBuf
    rw [if_pos rfl, if_pos rfl, if_pos rfl]
    isplitl [Hm0]; · unfold Holds; iexact Hm0
    isplitl [Rm1]; · iexact Rm1
    isplitl [Hm2]; · iexact Hm2
    isplitl [Rs0]; · iexact Rs0
    isplitl [Hs1]; · iexact Hs1
    isplitl [Hs2]; · iexact Hs2
    isplitl [Hq0]; · iexact Hq0
    isplitl [Hq2]; · iexact Hq2
    isplitl [Hp1]; · iexact Hp1
    isplitl [Hp2]; · iexact Hp2
    isplitl [Hf0]; · iexact Hf0
    isplitl [Hf2]; · iexact Hf2
    isplitl [Hg1]; · iexact Hg1
    isplitl [Hg2]; · iexact Hg2
    isplitl [Ho0 Hv0]; · isplitl [Ho0] <;> iassumption
    isplitl [Ho1 Hv1]; · isplitl [Ho1] <;> iassumption
    isplitl [Ho2 Hv2]; · isplitl [Ho2] <;> iassumption
    isplitl [Ht]; · iexact Ht
    isplitr; · rw [show Finset.range (3 * 0 - 3) = ∅ from rfl, bigSep_empty]; iempintro
    isplitl [HO] <;> iassumption
  iintro H
  sl_exec
  rw [wp_ret]
  imodintro
  iapply Hk
  iexact H

set_option maxHeartbeats 4000000 in
/-- The last chunk but one. -/
theorem part60 (hM : WordsOK M) (v25 : BitVec 32) {Φ : BitVec 32 → sProp 𝕄} :
    iprop(Holds (thr d i) arg5 harg5 (metaRow M (wb i + 30)) ∗ Reading (thr d i) (arg2.view.loc (thr d i)) q1 (harg2.unread M) arg6 harg6 arg15.sem (metaRow M (wb i + 31))
        ∗ Reading (thr d i) (arg3.view.loc (thr d i)) p0 (harg3.unread X) arg8 harg8 arg17.sem (windowOf M X (wb i + 30)) ∗ Owned (F := F) (thr d i) arg9
        ∗ semVal (thr d i, SemLoc.dma arg18.sem) 0 ∗ (arg3.view.loc (thr d i) ↦[Finset.univ]{p1} harg3.unread X)
        ∗ Flying d i arg4 harg4 M X (wb i + 27) arg11 harg11 arg20.sem ∗ Todo (F := F) d i arg4 (wb i + 30)
        ∗ Owing (F := F) (thr d i) O W ∗ Transfers.MayWaits (thr d i) none O)
      ⊢ iprop((∀ r, iprop(Owned (F := F) (thr d i) arg5 ∗ Holds (thr d i) arg6 harg6 (metaRow M (wb i + 31)) ∗ semVal (thr d i, SemLoc.dma arg15.sem) 0
            ∗ (arg2.view.loc (thr d i) ↦[Finset.univ]{q1} harg2.unread M) ∗ Owned (F := F) (thr d i) arg8 ∗ semVal (thr d i, SemLoc.dma arg17.sem) 0
            ∗ (arg3.view.loc (thr d i) ↦[Finset.univ]{p0} harg3.unread X) ∗ Holds (thr d i) arg9 harg9 (windowOf M X (wb i + 31)) ∗ semVal (thr d i, SemLoc.dma arg18.sem) 0
            ∗ (arg3.view.loc (thr d i) ↦[Finset.univ]{p1} harg3.unread X) ∗ Done d i arg4 harg4 M X (wb i + 27)
            ∗ Flying d i arg4 harg4 M X (wb i + 30) arg11 harg11 arg20.sem ∗ Owing (F := F) (thr d i) O W) -∗ Φ r)
          -∗ wp frame (wpE (defs₀ (F := F)) 𝒱₀ (thr d i) none) Set.univ (k1_part60 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v25) Φ) := by
  have hb := wb_lt i
  rw [k1_part60_eq_skeleton]
  unfold k1_part60_skel
  iintro ⟨Hm0, Rm1, Rs0, Hs1, Hg1, Hp1, Hfl, Ht, HO, #Hmw⟩ Hk
  have h11 := (hM.base (wb i + 31)).chk
  have h12 := (hM.base (wb i + 30)).chk
  have h14 := (hM.base (wb i + 31)).chk
  rw [← base_eq harg6] at h11 h14
  rw [← base_eq harg5] at h12
  have h11 : k1_chk11 _ := h11
  have h12 : k1_chk12 _ := h12
  have h14 : k1_chk14 _ := h14
  sl_exec
  iapply (reading_wait (c := thr d i) (O := O) (W := W)) $$ [Rm1 HO]
  · isplitl [Rm1]; · iexact Rm1
    isplitl [HO] <;> iassumption
  iintro ⟨Hq1, Hm1, Hf1, HO⟩
  unfold Holds
  sl_exec
  iapply (window_issue (d := d) (i := i) harg3 X harg9 (baseWord (metaRow M (wb i + 31))).toNat (congrArg k1_off35 (base_eq harg6 _))) $$ [Hp1 Hs1 Hg1]
  · isplitl [Hp1]; · iexact Hp1
    isplitl [Hs1] <;> iassumption
  iintro Rs1
  sl_exec
  iapply (window_wait (d := d) (i := i) (A := arg3) (m := arg8) (hm := harg8) (sm := arg17.sem) (O := O) (W := W) (hsrc := View.wordExact_bits rfl) (hdst := harg8.wordExact)) $$ [Rs0 HO]
  · isplitl [Rs0]; · iexact Rs0
    isplitl [HO] <;> iassumption
  iintro ⟨Hp0, Hs0, Hg0, HO⟩
  sl_exec
  iapply (out_wait (d := d) (i := i) (A := arg4) (hA := harg4) (M := M) (X := X) (m := arg11) (hm := harg11) (sm := arg20.sem) (O := O) (W := W) (hsrc := harg11.wordExact) (hdst := View.wordExact_bits rfl)) $$ [Hfl HO]
  · isplitl [Hfl]; · iexact Hfl
    isplitl [HO] <;> iassumption
  iintro ⟨Hdn, Ho, Hv, HO⟩
  beta_reduce
  rw [wp_bind]
  iapply (chunk_wp d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 (v2 := v25) (v82 := v25) (v85 := v25) (c0 := v25) (c1 := v25) (k1 := ⟨0, by decide⟩) (hM.seg (wb i + 30))) $$ [Hm0 Hs0 Ho]
  · isplitl [Hm0]; · unfold Holds; iexact Hm0
    isplitl [Hs0]; · unfold Holds; iexact Hs0
    iexact Ho
  iintro ⟨Hm0, Hs0, Ho⟩
  ihave Hm0 := (Holds.owned (c := thr d i)) $$ Hm0
  ihave Hs0 := (Holds.owned (c := thr d i)) $$ Hs0
  sl_exec
  iapply (out_issue (d := d) (i := i) harg4 M X harg11 (wb i + 30) (by omega) ((k1_off42_eq i).trans (by congr 1; show _ = 8 * (64 * (i 1).val + 32 * (i 0).val + 30); omega))) $$ [Ht Ho Hv]
  · isplitl [Ht]; · iexact Ht
    isplitl [Ho]; · unfold meansOf; iexact Ho
    iexact Hv
  iintro Hfl
  sl_exec
  iapply (window_wait (d := d) (i := i) (A := arg3) (m := arg9) (hm := harg9) (sm := arg18.sem) (O := O) (W := W) (hsrc := View.wordExact_bits rfl) (hdst := harg9.wordExact)) $$ [Rs1 HO]
  · isplitl [Rs1]; · iexact Rs1
    isplitl [HO] <;> iassumption
  iintro ⟨Hp1, Hs1, Hg1, HO⟩
  sl_exec
  rw [wp_ret]
  imodintro
  iapply Hk
  isplitl [Hm0]; · iexact Hm0
  isplitl [Hm1]; · iexact Hm1
  isplitl [Hf1]; · iexact Hf1
  isplitl [Hq1]; · iexact Hq1
  isplitl [Hs0]; · iexact Hs0
  isplitl [Hg0]; · iexact Hg0
  isplitl [Hp0]; · iexact Hp0
  isplitl [Hs1]; · iexact Hs1
  isplitl [Hg1]; · iexact Hg1
  isplitl [Hp1]; · iexact Hp1
  isplitl [Hdn]; · iexact Hdn
  isplitl [Hfl] <;> iassumption
set_option maxHeartbeats 4000000 in
/-- The kernel's program: every piece of the result written. -/
theorem tile_run (hM : WordsOK M) :
    Start d i arg2 harg2 arg3 harg3 arg4 arg5 arg6 arg7 arg8 arg9 arg10 arg11 arg12 arg13 arg14 arg15 arg16 arg17 arg18 arg19 arg20 arg21 arg22 M X q0 q1 q2 p0 p1 p2 O W
      ⊢ wp frame (wpE (defs₀ (F := F)) 𝒱₀ (thr d i) none) Set.univ (cc1_run i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22) (fun _ => Final d i arg2 harg2 arg3 harg3 arg4 harg4 arg5 arg6 arg7 arg8 arg9 arg10 arg11 arg12 arg13 arg14 arg15 arg16 arg17 arg18 arg19 arg20 arg21 arg22 M X q0 q1 q2 p0 p1 p2 O W) := by
  have hb := wb_lt i
  rw [cc1_run_eq_skeleton]
  unfold cc1_run_skel
  iintro H
  rw [wp_bind]
  iapply (part59 d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 M X q0 q1 q2 p0 p1 p2 O W hM) $$ H
  iintro %r H
  obtain ⟨v2, v25⟩ := r
  unfold St OutBuf
  rw [if_neg (by decide), if_neg (by decide), if_neg (by decide)]
  icases H with ⟨Hm0, Rm1, Hm2, Rs0, Hs1, Hs2, Hq0, Hq2, Hp1, Hp2, Hf0, Hf2, Hg1, Hg2, Hfl0, Hfl1, Hfl2, Ht, Hd, HO, #Hmw⟩
  ihave ⟨Ht0, Ht⟩ := (take_next (Φ := fun r => Todo (F := F) d i arg4 (wb i + r)) (show 30 < 32 by decide)) $$ Ht
  ihave ⟨Ht1, Ht⟩ := (take_next (Φ := fun r => Todo (F := F) d i arg4 (wb i + r)) (show 31 < 32 by decide)) $$ Ht
  beta_reduce
  rw [wp_bind]
  iapply (part60 d i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 M X q1 p0 p1 O W hM v25) $$ [Hm0 Rm1 Rs0 Hs1 Hg1 Hp1 Hfl0 Ht0 HO]
  · isplitl [Hm0]; · iexact Hm0
    isplitl [Rm1]; · iexact Rm1
    isplitl [Rs0]; · iexact Rs0
    isplitl [Hs1]; · iexact Hs1
    isplitl [Hg1]; · iexact Hg1
    isplitl [Hp1]; · iexact Hp1
    isplitl [Hfl0]; · iexact Hfl0
    isplitl [Ht0]; · iexact Ht0
    isplitl [HO] <;> iassumption
  iintro %r ⟨Hm0, Hm1, Hf1, Hq1, Hs0, Hg0, Hp0, Hs1, Hg1, Hp1, Hd27, Hfl0, HO⟩
  beta_reduce
  sl_exec
  iapply (out_wait (d := d) (i := i) (A := arg4) (hA := harg4) (M := M) (X := X) (m := arg12) (hm := harg12) (sm := arg21.sem) (O := O) (W := W) (hsrc := harg12.wordExact) (hdst := View.wordExact_bits rfl)) $$ [Hfl1 HO]
  · isplitl [Hfl1]; · iexact Hfl1
    isplitl [HO] <;> iassumption
  iintro ⟨Hd28, Ho1, Hv1, HO⟩
  beta_reduce
  rw [wp_bind]
  iapply (chunk_wp d i arg2 harg2 arg3 harg3 arg4 harg4 arg6 harg6 arg6 harg6 arg7 harg7 arg9 harg9 arg9 harg9 arg10 harg10 arg12 harg12 arg12 harg12 arg13 harg13 arg14 arg15 arg16 arg17 arg18 arg19 arg20 arg21 arg22 (v2 := v25) (v82 := v25) (v85 := v25) (c0 := v25) (c1 := v25) (k1 := ⟨0, by decide⟩) (hM.seg (wb i + 31))) $$ [Hm1 Hs1 Ho1]
  · isplitl [Hm1]; · iexact Hm1
    isplitl [Hs1]; · iexact Hs1
    iexact Ho1
  iintro ⟨Hm1, Hs1, Ho1⟩
  ihave Hm1 := (Holds.owned (c := thr d i)) $$ Hm1
  ihave Hs1 := (Holds.owned (c := thr d i)) $$ Hs1
  sl_exec
  iapply (out_issue (d := d) (i := i) harg4 M X harg12 (wb i + 31) (by omega) ((k1_off49_eq i).trans (by congr 1; show _ = 8 * (64 * (i 1).val + 32 * (i 0).val + 31); omega))) $$ [Ht1 Ho1 Hv1]
  · isplitl [Ht1]; · iexact Ht1
    isplitl [Ho1]; · unfold meansOf; iexact Ho1
    iexact Hv1
  iintro Hfl1
  sl_exec
  iapply (out_wait (d := d) (i := i) (A := arg4) (hA := harg4) (M := M) (X := X) (m := arg13) (hm := harg13) (sm := arg22.sem) (O := O) (W := W) (hsrc := harg13.wordExact) (hdst := View.wordExact_bits rfl)) $$ [Hfl2 HO]
  · isplitl [Hfl2]; · iexact Hfl2
    isplitl [HO] <;> iassumption
  iintro ⟨Hd29, Ho2, Hv2, HO⟩
  sl_exec
  iapply (out_wait (d := d) (i := i) (A := arg4) (hA := harg4) (M := M) (X := X) (m := arg11) (hm := harg11) (sm := arg20.sem) (O := O) (W := W) (hsrc := harg11.wordExact) (hdst := View.wordExact_bits rfl)) $$ [Hfl0 HO]
  · isplitl [Hfl0]; · iexact Hfl0
    isplitl [HO] <;> iassumption
  iintro ⟨Hd30, Ho0, Hv0, HO⟩
  sl_exec
  iapply (out_wait (d := d) (i := i) (A := arg4) (hA := harg4) (M := M) (X := X) (m := arg12) (hm := harg12) (sm := arg21.sem) (O := O) (W := W) (hsrc := harg12.wordExact) (hdst := View.wordExact_bits rfl)) $$ [Hfl1 HO]
  · isplitl [Hfl1]; · iexact Hfl1
    isplitl [HO] <;> iassumption
  iintro ⟨Hd31, Ho1, Hv1, HO⟩
  sl_exec
  rw [wp_ret]
  imodintro
  unfold Final
  isplitl [Hm0]; · iexact Hm0
  isplitl [Hm1]; · iexact Hm1
  isplitl [Hm2]; · iexact Hm2
  isplitl [Hs0]; · iexact Hs0
  isplitl [Hs1]; · iexact Hs1
  isplitl [Hs2]; · iexact Hs2
  isplitl [Ho0]; · iexact Ho0
  isplitl [Ho1]; · iexact Ho1
  isplitl [Ho2]; · iexact Ho2
  isplitl [Hf0]; · iexact Hf0
  isplitl [Hf1]; · iexact Hf1
  isplitl [Hf2]; · iexact Hf2
  isplitl [Hg0]; · iexact Hg0
  isplitl [Hg1]; · iexact Hg1
  isplitl [Hg2]; · iexact Hg2
  isplitl [Hv0]; · iexact Hv0
  isplitl [Hv1]; · iexact Hv1
  isplitl [Hv2]; · iexact Hv2
  isplitl [Hq0]; · iexact Hq0
  isplitl [Hq1]; · iexact Hq1
  isplitl [Hq2]; · iexact Hq2
  isplitl [Hp0]; · iexact Hp0
  isplitl [Hp1]; · iexact Hp1
  isplitl [Hp2]; · iexact Hp2
  isplitl [Hd Hd27 Hd28 Hd29 Hd30 Hd31]
  · rw [show Finset.range 32 = Finset.range (27 + 1 + 1 + 1 + 1 + 1) from rfl]
    iapply (put_next (Φ := fun r => Done d i arg4 harg4 M X (wb i + r)))
    isplitl [Hd31]; · iexact Hd31
    iapply (put_next (Φ := fun r => Done d i arg4 harg4 M X (wb i + r)))
    isplitl [Hd30]; · iexact Hd30
    iapply (put_next (Φ := fun r => Done d i arg4 harg4 M X (wb i + r)))
    isplitl [Hd29]; · iexact Hd29
    iapply (put_next (Φ := fun r => Done d i arg4 harg4 M X (wb i + r)))
    isplitl [Hd28]; · iexact Hd28
    iapply (put_next (Φ := fun r => Done d i arg4 harg4 M X (wb i + r)))
    isplitl [Hd27]; · iexact Hd27
    iexact Hd
  iexact HO
end

end Cert.Proof.KI

end
-- ==== Proof.Pieces.lean ====
/-
  The result of the SparseCore call dealt out: the array is two cores' parts, a core's part sixteen   subcores' parts, and a subcore's part its thirty-two chunks of eight rows.
-/
module

public import proofs.«01_k».proof.Proof.Tile
public import Idealize.ShloMosaic.Lib.SparseCore.Scatter

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## Which elements -/

/-- The rows of chunk `r`. -/
def pieceSet (r : ℕ) : Finset S8192x512.Idx := Finset.univ.filter fun p => (p 0).val / 8 = r
/-- The rows of worker number `n`. -/
def workSet (n : ℕ) : Finset S8192x512.Idx := Finset.univ.filter fun p => (p 0).val / 256 = n
/-- The rows of core `c`. -/
def coreSet (c : ℕ) : Finset S8192x512.Idx := Finset.univ.filter fun p => (p 0).val / 256 % 2 = c

theorem mem_piece {r : ℕ} {p : S8192x512.Idx} : p ∈ pieceSet r ↔ (p 0).val / 8 = r := by simp [pieceSet]
theorem mem_work {r : ℕ} {p : S8192x512.Idx} : p ∈ workSet r ↔ (p 0).val / 256 = r := by simp [workSet]
theorem mem_core {r : ℕ} {p : S8192x512.Idx} : p ∈ coreSet r ↔ (p 0).val / 256 % 2 = r := by simp [coreSet]

theorem row_lt (p : S8192x512.Idx) : (p 0).val < 8192 := (p 0).isLt

theorem work_eq (n : ℕ) : workSet n = (Finset.range 32).biUnion fun r => pieceSet (32 * n + r) := by
  ext p
  simp only [mem_work, Finset.mem_biUnion, Finset.mem_range, mem_piece]
  constructor
  · intro h; exact ⟨(p 0).val / 8 % 32, by omega, by omega⟩
  · rintro ⟨r, hr, h⟩; omega

theorem core_eq (c : ℕ) (hc : c < 2) : coreSet c = (Finset.univ : Finset (Fin 16)).biUnion fun s => workSet (2 * s.val + c) := by
  ext p
  have := row_lt p
  simp only [mem_core, Finset.mem_biUnion, Finset.mem_univ, true_and, mem_work]
  constructor
  · intro h; exact ⟨⟨(p 0).val / 256 / 2, by omega⟩, by show (p 0).val / 256 = 2 * ((p 0).val / 256 / 2) + c; omega⟩
  · rintro ⟨s, h⟩; omega

theorem all_eq : (Finset.univ : Finset S8192x512.Idx) = (Finset.univ : Finset (Fin 2)).biUnion fun c => coreSet c.val := by
  ext p
  simp only [Finset.mem_univ, Finset.mem_biUnion, mem_core, true_and, true_iff]
  exact ⟨⟨(p 0).val / 256 % 2, by omega⟩, rfl⟩

theorem outSl_set (r : ℕ) (hr : r < 1024) : (outSl (Memref.whole main_v14_scv) r).view.set = pieceSet r := by
  refine (View.set_slice_whole main_v14_scv _).trans ?_
  ext p
  rw [mem_piece]
  refine Rect.mem_set_unit.trans ⟨fun h => ?_, fun h a => ?_⟩
  · have h0 := h 0
    have h0 : 8 * (r % 1024) ≤ (p 0).val ∧ (p 0).val < 8 * (r % 1024) + 8 := h0
    omega
  · match a with
    | 0 => show 8 * (r % 1024) ≤ (p 0).val ∧ (p 0).val < 8 * (r % 1024) + 8; omega
    | 1 => have h1 : (p 1).val < 512 := (p 1).isLt; exact ⟨Nat.zero_le _, by show (p 1).val < 0 + 512; omega⟩

/-! ## The arrays the call works on, and their parts -/

abbrev metaLoc (d : Dev nD) : Loc nD τ sig := (SparseCore.T d).loc main_v12
abbrev framesLoc (d : Dev nD) : Loc nD τ sig := (SparseCore.T d).loc main_v13
abbrev meansLoc (d : Dev nD) : Loc nD τ sig := (SparseCore.T d).loc main_v14

theorem means_work (d : Dev nD) (n : ℕ) (f : Buf (Elt F) (meansLoc d)) :
    (meansLoc d ↦[workSet n]{fullShare} f : sProp 𝕄) = bigSep (Finset.range 32) fun r => meansLoc d ↦[pieceSet (32 * n + r)]{fullShare} f := by
  rw [work_eq]
  exact pointsTo_biUnion (ℓ := meansLoc d) (Finset.range 32) (fun r => pieceSet (32 * n + r)) (fun r _ r' _ hne => Finset.disjoint_left.mpr fun p hp hp' => by
    rw [mem_piece] at hp hp'; omega)

theorem means_core (d : Dev nD) (c : ℕ) (hc : c < 2) (f : Buf (Elt F) (meansLoc d)) :
    (meansLoc d ↦[coreSet c]{fullShare} f : sProp 𝕄) = bigSep (Finset.univ : Finset (Fin 16)) fun s => meansLoc d ↦[workSet (2 * s.val + c)]{fullShare} f := by
  rw [core_eq c hc]
  exact pointsTo_biUnion (ℓ := meansLoc d) (Finset.univ : Finset (Fin 16)) (fun s => workSet (2 * s.val + c)) (fun s _ s' _ hne => Finset.disjoint_left.mpr fun p hp hp' => by
    rw [mem_work] at hp hp'; exact hne (Fin.ext (by omega)))

theorem means_all (d : Dev nD) (f : Buf (Elt F) (meansLoc d)) :
    (meansLoc d ↦{fullShare} f : sProp 𝕄) = bigSep (Finset.univ : Finset (Fin 2)) fun c => meansLoc d ↦[coreSet c.val]{fullShare} f := by
  show (meansLoc d ↦[(Finset.univ : Finset S8192x512.Idx)]{fullShare} f : sProp 𝕄) = _
  rw [all_eq]
  exact pointsTo_biUnion (ℓ := meansLoc d) (Finset.univ : Finset (Fin 2)) (fun c => coreSet c.val) (fun s _ s' _ hne => Finset.disjoint_left.mpr fun p hp hp' => by
    rw [mem_core] at hp hp'; exact hne (Fin.ext (by omega)))

/-! ## A whole buffer's contents are themselves -/

theorem unread_whole (b : Ref sig .scVector) (f : Vec F b.ty.shape b.ty.elt) : (Memref.isWhole_whole b).unread (Val := Elt F) f = f :=
  ((Memref.isWhole_whole b).eq_unread (Val := Elt F) (X := f) rfl).symm

theorem owned_whole (c : Thread nD τ) (b : Ref sig c.2.kind) : Owned (F := F) c (Memref.whole b) = iprop(∃ f, c.loc b ↦{fullShare} f) := by
  unfold Owned
  simp only [Memref.view_whole, View.set_whole]

end Cert.Proof.KI

end
-- ==== Proof.Task.lean ====
/-
  One subcore's task as the launch hands it over: the nine scratch buffers and nine semaphores are among its own,  the inputs come as one share each, and the worker's rows of the result come as one part.
-/
module

public import proofs.«01_k».proof.Proof.Pieces

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## A subcore's own buffers and semaphores -/

/-- The scratch buffers of the call. -/
def scratches : Finset (Ref sig .scVector) := {cc1_scratch0, cc1_scratch1, cc1_scratch2, cc1_scratch3, cc1_scratch4, cc1_scratch5, cc1_scratch6, cc1_scratch7, cc1_scratch8}
/-- The semaphores of its copies. -/
def copySems : Finset (SemLoc sig) := {.dma cc1_scratch9.sem, .dma cc1_scratch10.sem, .dma cc1_scratch11.sem, .dma cc1_scratch12.sem, .dma cc1_scratch13.sem, .dma cc1_scratch14.sem, .dma cc1_scratch15.sem, .dma cc1_scratch16.sem, .dma cc1_scratch17.sem}

section
variable (d : Dev nD) (i : grid1.Coords)

/-- The scratch buffers of worker `i`, at any contents. -/
def scratchOf : sProp 𝕄 := iprop(Owned (F := F) (thr d i) (Memref.whole cc1_scratch0) ∗ Owned (F := F) (thr d i) (Memref.whole cc1_scratch1) ∗ Owned (F := F) (thr d i) (Memref.whole cc1_scratch2) ∗ Owned (F := F) (thr d i) (Memref.whole cc1_scratch3) ∗ Owned (F := F) (thr d i) (Memref.whole cc1_scratch4) ∗ Owned (F := F) (thr d i) (Memref.whole cc1_scratch5) ∗ Owned (F := F) (thr d i) (Memref.whole cc1_scratch6) ∗ Owned (F := F) (thr d i) (Memref.whole cc1_scratch7) ∗ Owned (F := F) (thr d i) (Memref.whole cc1_scratch8))
/-- The semaphores of worker `i`, at zero. -/
def semsOf : sProp 𝕄 := iprop(semVal (thr d i, SemLoc.dma cc1_scratch9.sem) 0 ∗ semVal (thr d i, SemLoc.dma cc1_scratch10.sem) 0 ∗ semVal (thr d i, SemLoc.dma cc1_scratch11.sem) 0 ∗ semVal (thr d i, SemLoc.dma cc1_scratch12.sem) 0 ∗ semVal (thr d i, SemLoc.dma cc1_scratch13.sem) 0 ∗ semVal (thr d i, SemLoc.dma cc1_scratch14.sem) 0 ∗ semVal (thr d i, SemLoc.dma cc1_scratch15.sem) 0 ∗ semVal (thr d i, SemLoc.dma cc1_scratch16.sem) 0 ∗ semVal (thr d i, SemLoc.dma cc1_scratch17.sem) 0)

def refEmb : Ref sig .scVector ↪ DevRef τ sig := ⟨(thr d i).2.devRef, Proc.devRef_injective _⟩
def semEmb : SemLoc sig ↪ GSem nD τ sig := ⟨fun s => (thr d i, s), fun _ _ h => (Prod.ext_iff.mp h).2⟩

theorem scratches_sep (Φ : Ref sig .scVector → sProp 𝕄) : bigSep scratches Φ = iprop(Φ cc1_scratch0 ∗ Φ cc1_scratch1 ∗ Φ cc1_scratch2 ∗ Φ cc1_scratch3 ∗ Φ cc1_scratch4 ∗ Φ cc1_scratch5 ∗ Φ cc1_scratch6 ∗ Φ cc1_scratch7 ∗ Φ cc1_scratch8) := by
  unfold scratches
  rw [SparseCore.bigSep_insert' (by decide)]; rw [SparseCore.bigSep_insert' (by decide)]; rw [SparseCore.bigSep_insert' (by decide)]; rw [SparseCore.bigSep_insert' (by decide)]; rw [SparseCore.bigSep_insert' (by decide)]; rw [SparseCore.bigSep_insert' (by decide)]; rw [SparseCore.bigSep_insert' (by decide)]; rw [SparseCore.bigSep_insert' (by decide)]; rw [bigSep_singleton]

theorem scratch_owner (c : Fin τ.nSC) (j : Fin τ.nSub) (b : Ref sig .scVector) (hb : b ∈ scratches) :
    ((Proc.scVector c j : Proc τ).devRef b).owner = .proc (.scVector c j) := by
  unfold scratches at hb
  simp only [Finset.mem_insert, Finset.mem_singleton] at hb
  rcases hb with rfl | rfl | rfl | rfl | rfl | rfl | rfl | rfl | rfl <;> rfl

theorem own_ref (b : Ref sig .scVector) :
    (iprop(∃ f, ((d, refEmb d i b) : Loc nD τ sig) ↦{fullShare} f) : sProp 𝕄) = Owned (F := F) (thr d i) (Memref.whole b) :=
  (owned_whole (thr d i) b).symm

theorem scratchOf_eq : (bigSep (scratches.map (refEmb d i)) fun b => iprop(∃ f, ((d, b) : Loc nD τ sig) ↦{fullShare} f)) = scratchOf (F := F) d i :=
  (bigSep_map (refEmb d i)).trans ((bigSep_congr fun b _ => own_ref (F := F) d i b).trans (scratches_sep _))

theorem scratches_own : scratches.map (refEmb d i) ⊆ SparseCore.Cfg.ownRefs (thr d i).2 := fun b hb => by
  obtain ⟨r, hr, rfl⟩ := Finset.mem_map.mp hb
  exact SparseCore.Cfg.mem_ownRefs_of_owner (scratch_owner _ _ r hr)

theorem ownBufs_split : (SparseCore.Cfg.ownBufs (thr d i) : sProp 𝕄)
    = iprop(scratchOf (F := F) d i ∗ bigSep (SparseCore.Cfg.ownRefs (thr d i).2 \ scratches.map (refEmb d i)) fun b => iprop(∃ f, ((d, b) : Loc nD τ sig) ↦{fullShare} f)) := by
  unfold SparseCore.Cfg.ownBufs
  rw [SparseCore.bigSep_sdiff_split' (t := scratches.map (refEmb d i)) (scratches_own d i), scratchOf_eq]

theorem ownSems0_split : (SparseCore.Cfg.ownSems0 (thr d i) : sProp 𝕄)
    = iprop(semsOf (F := F) d i ∗ bigSep (SparseCore.Cfg.ownCells (thr d i) \ copySems.map (semEmb d i)) fun g => semVal g 0) := by
  unfold SparseCore.Cfg.ownSems0
  refine (SparseCore.bigSep_sdiff_split' (t := copySems.map (semEmb d i)) fun b hb => ?_).trans ?_
  · obtain ⟨r, hr, rfl⟩ := Finset.mem_map.mp hb
    refine SparseCore.Cfg.mem_ownCells.mpr ⟨rfl, ?_⟩
    show SemLoc.isScoped .scVector r = true
    revert r
    unfold copySems
    simp only [Finset.mem_insert, Finset.mem_singleton]
    rintro r (rfl | rfl | rfl | rfl | rfl | rfl | rfl | rfl | rfl) <;> intro _ <;> decide
  · congr 1
    rw [bigSep_map]
    unfold semsOf copySems
    rw [SparseCore.bigSep_insert' (by decide)]; rw [SparseCore.bigSep_insert' (by decide)]; rw [SparseCore.bigSep_insert' (by decide)]; rw [SparseCore.bigSep_insert' (by decide)]; rw [SparseCore.bigSep_insert' (by decide)]; rw [SparseCore.bigSep_insert' (by decide)]; rw [SparseCore.bigSep_insert' (by decide)]; rw [SparseCore.bigSep_insert' (by decide)]; rw [bigSep_singleton]
    rfl

/-! ## The task -/

variable (M : Vec F S1024x256 .i32) (X : Vec F S65536x512 .f32)

/-- Worker `i`'s shares of the inputs. -/
def inputsOf (c s : ℕ) : sProp 𝕄 :=
  iprop((metaLoc d ↦{Transfers.shareTokN (Transfers.shareTokN fullShare c) s} M) ∗ (framesLoc d ↦{Transfers.shareTokN (Transfers.shareTokN fullShare c) s} X))

/-- What a task is handed, and what it hands back. -/
def taskIn (c s : ℕ) : sProp 𝕄 := iprop(inputsOf (F := F) d M X c s ∗ ∃ f, meansLoc d ↦[workSet (2 * s + c)]{fullShare} f)
def taskOut (c s : ℕ) : sProp 𝕄 := iprop(inputsOf (F := F) d M X c s ∗ meansLoc d ↦[workSet (2 * s + c)]{fullShare} allMeans M X)

theorem wb_eq : wb i = 32 * (2 * (i 1).val + (i 0).val) := by unfold wb; omega

theorem todo_of (f : Buf (Elt F) (meansLoc d)) :
    (meansLoc d ↦[workSet (2 * (i 1).val + (i 0).val)]{fullShare} f : sProp 𝕄) ⊢ bigSep (Finset.Ico 0 32) fun r => Todo (F := F) d i (Memref.whole main_v14_scv) (wb i + r) := by
  rw [means_work, ← Finset.range_eq_Ico]
  refine bigSep_mono fun r hr => ?_
  have := wb_lt i
  have hr := Finset.mem_range.mp hr
  unfold Todo
  rw [outSl_set _ (by omega), wb_eq]
  have h : (meansLoc d ↦[pieceSet (32 * (2 * (i 1).val + (i 0).val) + r)]{fullShare} f : sProp 𝕄)
      ⊢ iprop(∃ g : Buf (Elt F) (meansLoc d), meansLoc d ↦[pieceSet (32 * (2 * (i 1).val + (i 0).val) + r)]{fullShare} g) := by
    iintro H
    iexists f
    iexact H
  exact h

theorem of_done :
    (bigSep (Finset.range 32) fun r => Done (F := F) d i (Memref.whole main_v14_scv) (Memref.isWhole_whole _) M X (wb i + r)) = (meansLoc d ↦[workSet (2 * (i 1).val + (i 0).val)]{fullShare} allMeans M X : sProp 𝕄) := by
  rw [means_work]
  refine bigSep_congr fun r hr => ?_
  have := wb_lt i
  have hr := Finset.mem_range.mp hr
  unfold Done
  rw [outSl_set _ (by omega), wb_eq, unread_whole main_v14_scv (allMeans M X)]

theorem three {ℓ : Loc nD τ sig} {q : PosShare TreeShare} {f : Buf (Elt F) ℓ} :
    (ℓ ↦{q} f : sProp 𝕄) ⊣⊢ iprop((ℓ ↦{Transfers.shareDrop q 3} f) ∗ (ℓ ↦{Transfers.shareTokN q 0} f) ∗ (ℓ ↦{Transfers.shareTokN q 1} f) ∗ (ℓ ↦{Transfers.shareTokN q 2} f)) := by
  have h := Transfers.pointsTo_toks_range (Ix := HIx 1) (Name := ℕ) (U := UU) (Lvl := ℕ) (ℓ := ℓ) (S := Finset.univ) (f := f) q 3
  rw [show Finset.range 3 = {0, 1, 2} by decide, SparseCore.bigSep_insert' (by decide), SparseCore.bigSep_insert' (by decide), bigSep_singleton] at h
  exact h

set_option maxHeartbeats 1000000 in
/-- The task of worker `i` on what it is handed. -/
theorem tile_body (hF : (K (F := F)).Facts) (hM : WordsOK M) (O : CellTallies nD τ sig (HIx 1)) (W : Waits sig (HIx 1)) (hO : ∀ g, O g none = 0) :
    iprop(levAts (K (F := F)).L (K (F := F)).lev ∗ emp ∗ taskIn (F := F) d M X (i 0).val (i 1).val ∗ scopedBufs (thr d i) ∗ scopedSems0 (thr d i) ∗ owes (thr d i) O W)
      ⊢ wp frame (wpE (defs₀ (F := F)) 𝒱₀ (thr d i) none) Set.univ (cc1_run i (Memref.whole main_v12_scv) (Memref.isWhole_whole _) (Memref.whole main_v13_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17)
          fun _ => iprop(taskOut (F := F) d M X (i 0).val (i 1).val ∗ scopedBufs (thr d i) ∗ scopedSems0 (thr d i) ∗ ∃ W', ⌜∀ p ∈ W', p ∈ W ∨ p.2 = none⌝ ∗ owes (thr d i) O W') := by
  rw [(K (F := F)).scopedBufs_V hF d _ _, SparseCore.Cfg.scopedSems0_V (Val := Elt F) d _ _, ownSems0_split, ownBufs_split]
  unfold taskIn taskOut inputsOf scratchOf semsOf
  iintro ⟨#Hlv, -, ⟨⟨Hm, Hx⟩, %f, Ho⟩, ⟨⟨Hb0, Hb1, Hb2, Hb3, Hb4, Hb5, Hb6, Hb7, Hb8⟩, Hbufs⟩, ⟨⟨Hs0, Hs1, Hs2, Hs3, Hs4, Hs5, Hs6, Hs7, Hs8⟩, Hsems⟩, HO⟩
  ihave Hmw := ((K (F := F)).mayWaits_none (thr := thr d i) hO) $$ Hlv
  ihave ⟨Hmr, Hm0, Hm1, Hm2⟩ := (three (F := F)).1 $$ Hm
  ihave ⟨Hxr, Hx0, Hx1, Hx2⟩ := (three (F := F)).1 $$ Hx
  ihave Ht := (todo_of (F := F) d i f) $$ Ho
  iapply (wp_wand_r frame (wpE (defs₀ (F := F)) 𝒱₀ (thr d i) none) Set.univ)
  isplitr [Hmr Hxr Hbufs Hsems]
  · iapply (tile_run (F := F) d i (Memref.whole main_v12_scv) (Memref.isWhole_whole _) (Memref.whole main_v13_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 M X _ _ _ _ _ _ O W hM)
    unfold Start
    rw [unread_whole main_v12_scv M, unread_whole main_v13_scv X]
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hm0]; · iexact Hm0
    isplitl [Hm1]; · iexact Hm1
    isplitl [Hm2]; · iexact Hm2
    isplitl [Hx0]; · iexact Hx0
    isplitl [Hx1]; · iexact Hx1
    isplitl [Hx2]; · iexact Hx2
    isplitl [Ht]; · iexact Ht
    isplitl [HO]
    · unfold Owing
      iexists W
      isplitr
      · ipureintro; exact fun p hp => .inl hp
      · iexact HO
    · iexact Hmw
  · iintro %_ H
    unfold Final
    rw [unread_whole main_v12_scv M, unread_whole main_v13_scv X, of_done]
    icases H with ⟨Hb0, Hb1, Hb2, Hb3, Hb4, Hb5, Hb6, Hb7, Hb8, Hs0, Hs1, Hs2, Hs3, Hs4, Hs5, Hs6, Hs7, Hs8, Hm0, Hm1, Hm2, Hx0, Hx1, Hx2, Ho, HO⟩
    isplitl [Hmr Hm0 Hm1 Hm2 Hxr Hx0 Hx1 Hx2 Ho]
    · isplitr [Ho]
      · isplitl [Hmr Hm0 Hm1 Hm2]
        · iapply (three (F := F)).2
          isplitl [Hmr]; · iexact Hmr
          isplitl [Hm0]; · iexact Hm0
          isplitl [Hm1]; · iexact Hm1
          iexact Hm2
        · iapply (three (F := F)).2
          isplitl [Hxr]; · iexact Hxr
          isplitl [Hx0]; · iexact Hx0
          isplitl [Hx1]; · iexact Hx1
          iexact Hx2
      · iexact Ho
    isplitl [Hb0 Hb1 Hb2 Hb3 Hb4 Hb5 Hb6 Hb7 Hb8 Hbufs]
    · isplitr [Hbufs]
      · isplitl [Hb0]; (iexact Hb0); isplitl [Hb1]; (iexact Hb1); isplitl [Hb2]; (iexact Hb2); isplitl [Hb3]; (iexact Hb3); isplitl [Hb4]; (iexact Hb4); isplitl [Hb5]; (iexact Hb5); isplitl [Hb6]; (iexact Hb6); isplitl [Hb7]; (iexact Hb7); iexact Hb8
      · iexact Hbufs
    isplitl [Hs0 Hs1 Hs2 Hs3 Hs4 Hs5 Hs6 Hs7 Hs8 Hsems]
    · isplitr [Hsems]
      · isplitl [Hs0]; (iexact Hs0); isplitl [Hs1]; (iexact Hs1); isplitl [Hs2]; (iexact Hs2); isplitl [Hs3]; (iexact Hs3); isplitl [Hs4]; (iexact Hs4); isplitl [Hs5]; (iexact Hs5); isplitl [Hs6]; (iexact Hs6); isplitl [Hs7]; (iexact Hs7); iexact Hs8
      · iexact Hsems
    unfold Owing
    iexact HO

end

end Cert.Proof.KI

end
-- ==== Proof.ScLaunch.lean ====
/-
  The SparseCore call as the launch sees it: what each core and each task is handed and hands back, that a task does its part, and the launch element.
-/
module

public import proofs.«01_k».proof.Proof.Task
public import proofs.«01_k».proof.Proof.Gen.KernelIdeal.Launch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- The launch's decided facts. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev v₀ : 𝒱P.V := Sum.inl none

/-- The handshakes' rounds and the pipelines', in the resource algebra. -/
abbrev EH : Emb UH (MT nD τ sig (HIx 1) (Elt F) ℕ UU ℕ) := embL
abbrev EP : Emb UP (MT nD τ sig (HIx 1) (Elt F) ℕ UU ℕ) := (Emb.inl : Emb UP (UP × Counters)).trans embR

section
variable (M : Dev nD → Vec F S1024x256 .i32) (X : Dev nD → Vec F S65536x512 .f32)

/-- A core's shares of the inputs. -/
def coreInputs (d : Dev nD) (c : ℕ) : sProp 𝕄 :=
  iprop((metaLoc d ↦{Transfers.shareTokN fullShare c} M d) ∗ (framesLoc d ↦{Transfers.shareTokN fullShare c} X d))
/-- What a core is handed, and what it hands back. -/
def coreIn (d : Dev nD) (c : ℕ) : sProp 𝕄 := iprop(coreInputs M X d c ∗ ∃ f, meansLoc d ↦[coreSet c]{fullShare} f)
def coreOut (d : Dev nD) (c : ℕ) : sProp 𝕄 := iprop(coreInputs M X d c ∗ meansLoc d ↦[coreSet c]{fullShare} allMeans (M d) (X d))

/-- The call's payloads. -/
def P : (K (F := F)).Pay (nD := nD) (Val := Elt F) (Name := ℕ) (U := UU) where
  st := fun _ d c => coreIn M X d c.val
  dn := fun _ d c => coreOut M X d c.val
  go := fun _ d c s => taskIn (F := F) d (M d) (X d) c.val s.val
  td := fun _ d c s => taskOut (F := F) d (M d) (X d) c.val s.val
  x := fun _ _ => iprop(emp)

instance P_storable : (P (F := F) M X).IsStorable where
  st _ d c := by unfold P coreIn coreInputs; infer_instance
  dn _ d c := by unfold P coreOut coreInputs; infer_instance
  go _ _ _ _ := by unfold P taskIn inputsOf; infer_instance
  td _ _ _ _ := by unfold P taskOut inputsOf; infer_instance

/-! ## A task does its part -/

/-- The grid point of core `c`, subcore `s`. -/
def coords (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1_run (coords c s) (Memref.whole main_v12_scv) (Memref.isWhole_whole _) (Memref.whole main_v13_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hM : ∀ d, WordsOK (M d)) : (K (F := F)).TileObl (D (F := F)) 𝒱P (P M X) v₀ 0 := by
  intro d c i O W hO _ _
  simp only [show (P M X).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body (F := F) d (coords ⟨c.val, c.isLt⟩ ⟨i.val, i.isLt⟩) (M d) (X d) facts (hM d) O W hO).trans (wp_mono frame _ _ fun _ => obl_post)

/-! ## A core's part is its subcores' -/

theorem share_split {ℓ : Loc nD τ sig} (q : PosShare TreeShare) (n : ℕ) (f : Buf (Elt F) ℓ) :
    (ℓ ↦{q} f : sProp 𝕄) ⊣⊢ iprop((ℓ ↦{Transfers.shareDrop q n} f) ∗ bigSep Finset.univ fun i : Fin n => ℓ ↦{Transfers.shareTokN q i.val} f) :=
  Transfers.pointsTo_toks (Ix := HIx 1) (Name := ℕ) (U := UU) (Lvl := ℕ) q n

theorem some_contents (d : Dev nD) {n : ℕ} (S : Fin n → Finset (Idx (meansLoc d))) (f : Buf (Elt F) (meansLoc d)) :
    (bigSep Finset.univ fun i => (meansLoc d ↦[S i]{fullShare} f : sProp 𝕄)) ⊢ bigSep Finset.univ fun i => iprop(∃ g : Buf (Elt F) (meansLoc d), meansLoc d ↦[S i]{fullShare} g) := by
  refine bigSep_mono fun i _ => ?_
  have h : (meansLoc d ↦[S i]{fullShare} f : sProp 𝕄) ⊢ iprop(∃ g : Buf (Elt F) (meansLoc d), meansLoc d ↦[S i]{fullShare} g) := by
    iintro H
    iexists f
    iexact H
  exact h

theorem vecSplit : (K (F := F)).VecSplit' (P M X) 0 := by
  intro d c
  show coreIn M X d c.val ⊢ |={Set.univ}=> iprop((bigSep Finset.univ fun s : Fin 16 => taskIn (F := F) d (M d) (X d) c.val s.val)
      ∗ ((bigSep Finset.univ fun s : Fin 16 => taskOut (F := F) d (M d) (X d) c.val s.val) -∗ coreOut M X d c.val))
  have hc : c.val < 2 := c.isLt
  unfold coreIn coreOut coreInputs taskIn taskOut inputsOf
  rw [bigSep_sep', bigSep_sep', bigSep_sep', bigSep_sep', means_core d c.val hc (allMeans (M d) (X d))]
  iintro ⟨⟨Hm, Hx⟩, %f, Ho⟩
  ihave ⟨Hmr, Hm⟩ := (share_split (F := F) _ 16 _).1 $$ Hm
  ihave ⟨Hxr, Hx⟩ := (share_split (F := F) _ 16 _).1 $$ Hx
  ihave Ho := (Entails.of_eq (means_core d c.val hc f)) $$ Ho
  imodintro
  isplitl [Hm Hx Ho]
  · isplitl [Hm Hx]
    · isplitl [Hm] <;> iassumption
    · iapply (some_contents (F := F) d (fun s : Fin 16 => workSet (2 * s.val + c.val)) f); iexact Ho
  · iintro ⟨⟨Hm, Hx⟩, Ho⟩
    isplitr [Ho]
    · isplitl [Hmr Hm]
      · iapply (share_split (F := F) _ 16 _).2
        isplitl [Hmr] <;> iassumption
      · iapply (share_split (F := F) _ 16 _).2
        isplitl [Hxr] <;> iassumption
    · iexact Ho

/-! ## The whole call's operands and results -/

/-- What stays behind of the inputs while the call runs. -/
def inputsRest (d : Dev nD) : sProp 𝕄 :=
  iprop((metaLoc d ↦{Transfers.shareDrop fullShare 2} M d) ∗ (framesLoc d ↦{Transfers.shareDrop fullShare 2} X d))

theorem call_in (d : Dev nD) (f : Buf (Elt F) (meansLoc d)) :
    iprop((metaLoc d ↦{fullShare} M d) ∗ (framesLoc d ↦{fullShare} X d) ∗ (meansLoc d ↦{fullShare} f))
      ⊢ iprop(inputsRest M X d ∗ bigSep Finset.univ fun c : Fin ((K (F := F)).nCore 0) => (P M X).st 0 d c) := by
  show _ ⊢ iprop(_ ∗ bigSep Finset.univ fun c : Fin 2 => coreIn M X d c.val)
  unfold coreIn coreInputs inputsRest
  rw [bigSep_sep', bigSep_sep', means_all]
  iintro ⟨Hm, Hx, Ho⟩
  ihave ⟨Hmr, Hm⟩ := (share_split (F := F) _ 2 _).1 $$ Hm
  ihave ⟨Hxr, Hx⟩ := (share_split (F := F) _ 2 _).1 $$ Hx
  isplitl [Hmr Hxr]
  · isplitl [Hmr] <;> iassumption
  · isplitl [Hm Hx]
    · isplitl [Hm] <;> iassumption
    · iapply (some_contents (F := F) d (fun c : Fin 2 => coreSet c.val) f); iexact Ho

theorem call_out (d : Dev nD) :
    iprop(inputsRest M X d ∗ bigSep Finset.univ fun c : Fin ((K (F := F)).nCore 0) => (P M X).dn 0 d c)
      ⊢ iprop((metaLoc d ↦{fullShare} M d) ∗ (framesLoc d ↦{fullShare} X d) ∗ (meansLoc d ↦{fullShare} (allMeans (M d) (X d) : Buf (Elt F) (meansLoc d)))) := by
  show iprop(_ ∗ bigSep Finset.univ fun c : Fin 2 => coreOut M X d c.val) ⊢ _
  unfold coreOut coreInputs inputsRest
  rw [bigSep_sep', bigSep_sep', means_all]
  iintro ⟨⟨Hmr, Hxr⟩, ⟨Hm, Hx⟩, Ho⟩
  isplitl [Hmr Hm]
  · iapply (share_split (F := F) _ 2 _).2
    isplitl [Hmr] <;> iassumption
  isplitl [Hxr Hx]
  · iapply (share_split (F := F) _ 2 _).2
    isplitl [Hxr] <;> iassumption
  · iexact Ho

/-! ## The launch element -/

/-- The pipelines take no tables. -/
abbrev adm : (p : Fin 2) → (pcfgs (F := F) p).Adm := fun p => (cfgs p).toPCfg_adm

def u₀ : UU := (initOf (K (F := F)).hsCells (K (F := F)).hsToks,
  (initOf (Pipeline.cells (nD := nD) (τ := τ) cfgs cellOf_inj) (Pipeline.launchToks (nD := nD) (τ := τ) cfgs cellOf_inj), 1))

/-- The pipelines' ghost state of device `d`. -/
def ghost (d : Dev nD) : sProp 𝕄 :=
  iprop((bigSep Finset.univ fun p => Pipeline.cellsGhost cfgs (EP (F := F)) p d) ∗ bigSep Finset.univ fun p => Pipeline.toksInit cfgs (EP (F := F)) p d)

theorem no_payload {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P M X).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost cfgs (EP (F := F)) cellOf_inj) $$ HP with ⟨Hg, Ht⟩
  imodintro
  isplitl [HH]; · iexact HH
  isplitl [Hg Ht]
  · unfold ghost
    rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => no_payload _, no_payload]]
  iempintro

end

end Cert.Proof.KI

end
-- ==== Proof.GeomRegion.lean ====
/-
The geometry call: what its body leaves in its two results, its proof data, and the region over the TensorCore's buffers.
-/
module

public import proofs.«01_k».proof.Proof.ScLaunch
public import proofs.«01_k».proof.Proof.Gen.KernelIdeal.Points
public import Idealize.ShloMosaic.Lib.VecWindow
public import Idealize.ShloMosaic.Lib.Pipeline.RegionsLoop
public import Idealize.ShloMosaic.Lib.Pipeline.ValueKit

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe
open Idealize.ShloMosaic.Pipeline (Dat Cfg Window BodyObligation)

/-- A TensorCore buffer of core `c` held whole. -/
abbrev pt (c : Dev nD) {sp : Space} {s : Shape} {e : EltTy} (A : Memref sig .tc sp s e) (f : Buf (Elt F) (A.view.loc (c : Thread nD τ))) : sProp 𝕄 :=
  A.view.loc (c : Thread nD τ) ↦{fullShare} f

/-- The two results of the geometry, from the durations and the scale. -/
def geomBase (ds : Vec F S16x512 .i32) (inv : Vec F S1x1 .f32) : Vec F S16x512 .i32 :=
  k0_pay1 (k0_pay8 (iota .tc S512x512 32 [0] iota_S512x512_d0_w32) (k0_pay3 ds inv) k0_pay5 k0_pay6 k0_pay7) k0_pay10
def geomPacked (ds : Vec F S16x512 .i32) (inv : Vec F S1x1 .f32) : Vec F S16x512 .i32 :=
  k0_pay9 (k0_pay2 ds inv) (iota .tc S512x512 32 [0] iota_S512x512_d0_w32) (k0_pay3 ds inv) (k0_pay4 ds inv) k0_pay5 k0_pay6 k0_pay7

/-- The body's run on its staging buffers. -/
theorem geom_run (c : Dev nD) (A0 : Memref sig .tc .vmem S16x512 .i32) (h0 : A0.IsWhole) (A1 : Memref sig .tc .vmem S1x1 .f32) (h1 : A1.IsWhole)
    (A2 : Memref sig .tc .vmem S16x512 .i32) (h2 : A2.IsWhole) (A3 : Memref sig .tc .vmem S16x512 .i32) (h3 : A3.IsWhole)
    (f0 : Buf (Elt F) (A0.view.loc (c : Thread nD τ))) (f1 : Buf (Elt F) (A1.view.loc (c : Thread nD τ)))
    (f2 : Buf (Elt F) (A2.view.loc (c : Thread nD τ))) (f3 : Buf (Elt F) (A3.view.loc (c : Thread nD τ))) (Q : PUnit → sProp 𝕄) :
    iprop(pt c A0 f0 ∗ pt c A1 f1 ∗ pt c A2 f2 ∗ pt c A3 f3
        ∗ (∀ g2 g3, iprop(⌜A2.view.read (Elt F) g2 = geomPacked (A0.view.read (Elt F) f0) (A1.view.read (Elt F) f1)⌝
            ∗ ⌜A3.view.read (Elt F) g3 = geomBase (A0.view.read (Elt F) f0) (A1.view.read (Elt F) f1)⌝
            ∗ pt c A0 f0 ∗ pt c A1 f1 ∗ pt c A2 g2 ∗ pt c A3 g3) -∗ Q ⟨⟩))
      ⊢ wp frame (wpE (defs₀ (F := F)) Variants.none (c : Thread nD τ) none) Set.univ (cc0__geom_body A0 h0 A1 h1 A2 h2 A3 h3) Q := by
  iintro ⟨H0, H1, H2, H3, Hk⟩
  sl_exec!
  sl_step
  iapply Hk
  isplitr; rotate_left
  isplitr; rotate_left
  isplitl [H0]; · iexact H0
  isplitl [H1]; · iexact H1
  isplitl [H2]; · iexact H2
  iexact H3
  · ipureintro
    unfold geom_run.sl.H2_1
    refine (View.read_writes_full _ _ _ _ _).trans ?_
    unfold geom_run.sl.r geom_run.sl.r_1 geom_run.sl.r_2 geom_run.sl.v13
    show geomPacked (A0.view.readAt (Elt F) (Rect.unit (s := S16x512) ![0, 0] S16x512.size inb_S16x512_S16x512_0_0).toLoadRect f0) (A1.view.readAt (Elt F) (Rect.unit (s := S1x1) ![0, 0] S1x1.size inb_S1x1_S1x1_0_0).toLoadRect f1) = _
    rw [View.readAt_full, View.readAt_full]
  · ipureintro
    unfold geom_run.sl.H3_1
    refine (View.read_writes_full _ _ _ _ _).trans ?_
    unfold geom_run.sl.r_3 geom_run.sl.r_1 geom_run.sl.v13
    show geomBase (A0.view.readAt (Elt F) (Rect.unit (s := S16x512) ![0, 0] S16x512.size inb_S16x512_S16x512_0_0).toLoadRect f0) (A1.view.readAt (Elt F) (Rect.unit (s := S1x1) ![0, 0] S1x1.size inb_S1x1_S1x1_0_0).toLoadRect f1) = _
    rw [View.readAt_full, View.readAt_full]

/-- A unit at a stage is none at the kernels' own index. -/
theorem tally_none (g' g : GSem nD τ sig) (q : Fin 1) : (tallyAt g' (some q : HIx 1) 1 g) none = 0 := by
  rw [tallyAt_apply, if_neg fun h => nomatch h.2]

/-- Before call `n` the TensorCore owes nothing at the kernels' own index. -/
theorem owed_none (d : Dev nD) (n : ℕ) (g : GSem nD τ sig) : (K (F := F)).Otc d n g none = 0 := by
  unfold SparseCore.Cfg.Otc
  simp only [Finset.sum_apply, Finsupp.coe_finset_sum]
  refine Finset.sum_eq_zero fun q _ => ?_
  split
  · simp only [Finset.sum_apply, Finsupp.coe_finset_sum]
    refine Finset.sum_eq_zero fun c _ => ?_
    exact tally_none _ _ _
  · rfl

/-- What the TensorCore of `d` still owes before call `n`, its waits so far at or below the call's levels. -/
def owesB (d : Dev nD) (n : ℕ) : sProp 𝕄 :=
  iprop(∃ W, ⌜(K (F := F)).WBelow (SparseCore.T d) W (8 * SparseCore.Cfg.Blocks.fst (Q := 1) (N := 1) n)⌝ ∗ owes (SparseCore.T d) ((K (F := F)).Otc d n) W)

/-- The recorded pairs the region may be entered with. -/
def recB (d : Dev nD) (n : ℕ) : Set (SemLoc sig × HIx 1) := {p | (K (F := F)).lev (SparseCore.T d, p.1) p.2 ≤ 8 * SparseCore.Cfg.Blocks.fst (Q := 1) (N := 1) n}

variable (V : (c : Dev nD) → (b : Ref sig .tc) → Buf (Elt F) ((c : Thread nD τ).loc b))

/-- A block as the fetch stages it. -/
abbrev gstg0 (c : Dev nD) : Vec F S16x512 .i32 := ((cfg0.win 0).blk t0_0).view.read (Elt F) (V c main_arg1)
abbrev gstg1 (c : Dev nD) : Vec F S1x1 .f32 := ((cfg0.win 1).blk t0_0).view.read (Elt F) (V c main_v2)

/-- The geometry call's proof data, from the buffers at `V`. -/
def geomDat (c : Dev nD) : Dat τ (Elt F) (HIx 1) ℕ UU ℕ cfg0 c where
  A w := V c (Pipeline.arrRef spec0 w)
  after w _ := match w with
    | ⟨0, _⟩ => gstg0 V c
    | ⟨1, _⟩ => gstg1 V c
    | ⟨2, _⟩ => geomPacked (gstg0 V c) (gstg1 V c)
    | ⟨3, _⟩ => geomBase (gstg0 V c) (gstg1 V c)
  Φ _ := Pipeline.scopedRest (Ix := HIx 1) (Name := ℕ) (U := UU) (Lvl := ℕ) (Val := Elt F) spec0 c
  q _ := fullShare
  owed _ := (K (F := F)).Otc c 0
  recorded _ := recB (F := F) c 0

/-- Proof data of a call that is not run here. -/
def noDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

def geomDats : (p : Fin 2) → (c : Dev nD) → Dat τ (Elt F) (HIx 1) ℕ UU ℕ (Pipeline.pin (pcfgs (F := F)) adm p) c
  | ⟨0, _⟩ => fun c => geomDat V c
  | ⟨1, _⟩ => fun c => noDat c

theorem geom_before0 (c : Dev nD) (d) : (geomDat V c).before 0 t0_0 d = gstg0 V c := by
  unfold Dat.before; rw [if_pos (by decide)]; rfl
theorem geom_before1 (c : Dev nD) (d) : (geomDat V c).before 1 t0_0 d = gstg1 V c := by
  unfold Dat.before; rw [if_pos (by decide)]; rfl

/-- The body's obligation. -/
theorem geom_body (c : Dev nD) : BodyObligation (geomDat V c) (defs₀ (F := F)) 𝒱₀ none Set.univ := fun t => by
  obtain rfl := fin_N0 t
  rw [bigSep_W0, bigSep_W0]
  simp only [owns_whole_eq]
  rw [show (geomDat V c).Φ t0_0.castSucc = Pipeline.scopedRest (Ix := HIx 1) (Name := ℕ) (U := UU) (Lvl := ℕ) (Val := Elt F) spec0 c from rfl,
    show (geomDat V c).Φ t0_0.succ = Pipeline.scopedRest (Ix := HIx 1) (Name := ℕ) (U := UU) (Lvl := ℕ) (Val := Elt F) spec0 c from rfl,
    show (geomDat V c).owesAt none t0_0.succ = (geomDat V c).owesAt none t0_0.castSucc from rfl]
  iintro ⟨HΦ, Howes, ⟨%d0, %f0, %hf0, H0⟩, ⟨%d1, %f1, %hf1, H1⟩, ⟨%d2, %f2, -, H2⟩, ⟨%d3, %f3, -, H3⟩⟩
  rw [geom_before0] at hf0
  rw [geom_before1] at hf1
  subst hf0
  subst hf1
  iapply (geom_run c _ (hstage0_0 0) _ (hstage0_1 0) _ (hstage0_2 0) _ (hstage0_3 0) _ _ f2 f3 _)
  isplitl [H0]; · iexact H0
  isplitl [H1]; · iexact H1
  isplitl [H2]; · iexact H2
  isplitl [H3]; · iexact H3
  iintro %g2 %g3 ⟨%h2, %h3, H0, H1, H2, H3⟩
  isplitl [HΦ]; · iexact HΦ
  isplitl [Howes]; · iexact Howes
  isplitl [H0]; · iexists _; isplitr; swap; (· iexact H0); ipureintro; dsimp only [geomDat]
  isplitl [H1]; · iexists _; isplitr; swap; (· iexact H1); ipureintro; dsimp only [geomDat]
  isplitl [H2]; · iexists _; isplitr; swap; (· iexact H2); ipureintro; dsimp only [geomDat]; exact h2
  iexists _; isplitr; swap; (· iexact H3); ipureintro; dsimp only [geomDat]; exact h3

/-- A staged block of a whole window is the array. -/
theorem gstg0_eq (c : Dev nD) : gstg0 V c = V c main_arg1 := by
  funext y
  show ((cfg0.win 0).blk t0_0).view.read (Elt F) (V c main_arg1) y = _
  blk_simp
  exact congrArg (V c main_arg1) (funext fun a => Fin.ext (by show 0 * _ + 1 * (y a).val = (y a).val; omega))
theorem gstg1_eq (c : Dev nD) : gstg1 V c = V c main_v2 := by
  funext y
  show ((cfg0.win 1).blk t0_0).view.read (Elt F) (V c main_v2) y = _
  blk_simp
  exact congrArg (V c main_v2) (funext fun a => Fin.ext (by show 0 * _ + 1 * (y a).val = (y a).val; omega))

/-- The results' arrays after the call. -/
theorem geom_arr2 (c : Dev nD) : (geomDat V c).arrAt 2 cfg0.N = geomPacked (V c main_arg1) (V c main_v2) := by
  refine (geomDat V c).arrAt_eq_of_after_last 2 t0_0 (by decide +kernel) _ fun j => ?_
  blk_simp
  dsimp only [geomDat]
  rw [gstg0_eq, gstg1_eq]
theorem geom_arr3 (c : Dev nD) : (geomDat V c).arrAt 3 cfg0.N = geomBase (V c main_arg1) (V c main_v2) := by
  refine (geomDat V c).arrAt_eq_of_after_last 3 t0_0 (by decide +kernel) _ fun j => ?_
  blk_simp
  dsimp only [geomDat]
  rw [gstg0_eq, gstg1_eq]

/-- The state a call is entered with, taken as the region wants it, and given back. -/
theorem owes_in {cfg : Cfg sig Λ₀} (c : Dev nD) (n : ℕ) (dat : Dat τ (Elt F) (HIx 1) ℕ UU ℕ cfg c) (t : Fin (cfg.N + 1))
    (ho : dat.owed t = (K (F := F)).Otc c n) (hr : dat.recorded t = recB (F := F) c n) : owesB (F := F) c n ⊢ dat.owesAt none t := by
  unfold owesB Pipeline.Dat.owesAt Pipeline.owesWithin
  rw [ho]
  iintro ⟨%W, %hW, HO⟩
  iexists W
  isplitr
  · ipureintro; exact fun p hp => Or.inl (by rw [hr]; exact hW p hp)
  iexact HO
theorem owes_out {cfg : Cfg sig Λ₀} (c : Dev nD) (n : ℕ) (dat : Dat τ (Elt F) (HIx 1) ℕ UU ℕ cfg c) (t : Fin (cfg.N + 1))
    (ho : dat.owed t = (K (F := F)).Otc c n) (hr : dat.recorded t = recB (F := F) c n) : dat.owesAt none t ⊢ owesB (F := F) c n := by
  unfold owesB Pipeline.Dat.owesAt Pipeline.owesWithin
  rw [ho]
  iintro ⟨%W, %hW, HO⟩
  iexists W
  isplitr
  · ipureintro
    intro p hp
    rcases hW hp with h | h
    · rw [hr] at h; exact h
    · obtain ⟨w, s, rfl⟩ := h; exact Nat.zero_le _
  iexact HO

variable (V' : (c : Dev nD) → (b : Ref sig .tc) → Buf (Elt F) ((c : Thread nD τ).loc b))

set_option backward.isDefEq.respectTransparency.types false in
/-- The geometry call over the TensorCore's buffers. -/
def geomReg (h2 : ∀ c, V' c main_v3_0 = geomPacked (V c main_arg1) (V c main_v2)) (h3 : ∀ c, V' c main_v3_1 = geomBase (V c main_arg1) (V c main_v2))
    (hne : ∀ c (b : Ref sig .tc), b ≠ main_v3_0 → b ≠ main_v3_1 → V' c b = V c b) :
    Pipeline.RegionSeg (pcfgs (F := F)) adm (geomDats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (geom_body V c).loose
  hwaits c := Pipeline.cellsWaits_intro _ _ _ _ _ fun w s t => (K (F := F)).mayWait_none _ (owed_none (F := F) c 0)
  pre c := iprop(unscopedBufs c (V c) ∗ owesB (F := F) c 0)
  post c := iprop(unscopedBufs c (V' c) ∗ owesB (F := F) c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (geomDats V) (launch0).win (launch0).arr_whole c
      ((geomDats V 0 c).share_full fun _ => rfl) (V c) fun _ => rfl
    iintro ⟨⟨Hub, HO⟩, -, -⟩
    ihave H := hsplit $$ Hub
    icases H with ⟨Ha, Hrest⟩
    ihave HO := (owes_in c 0 (geomDat V c) 0 rfl rfl) $$ HO
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (geomDats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (geomDats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (geomDats V) ((geomDats V 0 c).share_full fun _ => rfl) (V c) (V' c) ((geomDats V 0 c).arrAt · cfg0.N)
      (fun w => by
        fin_cases w
        · exact ((geomDats V 0 c).arrAt_in 0 rfl _).trans (hne c main_arg1 (by decide) (by decide)).symm
        · exact ((geomDats V 0 c).arrAt_in 1 rfl _).trans (hne c main_v2 (by decide) (by decide)).symm
        · exact (geom_arr2 V c).trans (h2 c).symm
        · exact (geom_arr3 V c).trans (h3 c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    ihave HO := (show (geomDats V 0 c).owesAt none (Fin.last (Pipeline.pin (pcfgs (F := F)) adm 0).N) ⊢ owesB (F := F) c 0 from owes_out c 0 (geomDat V c) (Fin.last cfg0.N) rfl rfl) $$ HO
    imodintro
    isplitl [Ha Hrest]
    · iapply hjoin; isplitl [Ha] <;> iassumption
    iexact HO

end Cert.Proof.KI

end
-- ==== Proof.MlpRegion.lean ====
/-
The two dense layers' call: what its body leaves at a grid point, its proof data, and the region over the TensorCore's buffers.
-/
module

public import proofs.«01_k».proof.Proof.GeomRegion

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe
open Idealize.ShloMosaic.Pipeline (Dat Cfg Window BodyObligation)

/-- Holding a whole buffer through its memref. -/
theorem owns_isWhole (c : Dev nD) {sp : Space} {s : Shape} {e : EltTy} (A : Memref sig .tc sp s e) (h : A.IsWhole) (x : s.Idx → Elt F e) :
    (owns (c : Thread nD τ) A fullShare x : sProp 𝕄) = iprop(∃ f, ⌜A.view.read (Elt F) f = x⌝ ∗ pt c A f) := by
  unfold owns
  rw [h.set_eq_univ]

set_option maxHeartbeats 1000000 in
/-- The body's run on its staging buffers. -/
theorem mlp_run (c : Dev nD) (i : grid2.Coords) (A1 : Memref sig .tc .vmem S1024x512 .f32) (h1 : A1.IsWhole) (A2 : Memref sig .tc .vmem S256x512 .f32) (h2 : A2.IsWhole)
    (A3 : Memref sig .tc .vmem S1x256 .f32) (h3 : A3.IsWhole) (A4 : Memref sig .tc .vmem S3x256 .f32) (h4 : A4.IsWhole)
    (A5 : Memref sig .tc .vmem S1x3 .f32) (h5 : A5.IsWhole) (A6 : Memref sig .tc .vmem S1024x3 .f32) (h6 : A6.IsWhole)
    (x1 : Vec F S1024x512 .f32) (x2 : Vec F S256x512 .f32) (x3 : Vec F S1x256 .f32) (x4 : Vec F S3x256 .f32) (x5 : Vec F S1x3 .f32) (x6 : Vec F S1024x3 .f32) (Q : PUnit → sProp 𝕄) :
    iprop(owns (c : Thread nD τ) A1 fullShare x1 ∗ owns (c : Thread nD τ) A2 fullShare x2 ∗ owns (c : Thread nD τ) A3 fullShare x3
        ∗ owns (c : Thread nD τ) A4 fullShare x4 ∗ owns (c : Thread nD τ) A5 fullShare x5 ∗ owns (c : Thread nD τ) A6 fullShare x6
        ∗ (iprop(owns (c : Thread nD τ) A1 fullShare x1 ∗ owns (c : Thread nD τ) A2 fullShare x2 ∗ owns (c : Thread nD τ) A3 fullShare x3
        ∗ owns (c : Thread nD τ) A4 fullShare x4 ∗ owns (c : Thread nD τ) A5 fullShare x5 ∗ owns (c : Thread nD τ) A6 fullShare (k2_pay1 x1 x2 x3 x4 x5)) -∗ Q ⟨⟩))
      ⊢ wp frame (wpE (defs₀ (F := F)) Variants.none (c : Thread nD τ) none) Set.univ (cc2__mlp_body i A1 h1 A2 h2 A3 h3 A4 h4 A5 h5 A6 h6) Q := by
  rw [owns_isWhole c A1 h1, owns_isWhole c A2 h2, owns_isWhole c A3 h3, owns_isWhole c A4 h4, owns_isWhole c A5 h5, owns_isWhole c A6 h6, owns_isWhole c A6 h6]
  iintro ⟨⟨%f1, %e1, H1⟩, ⟨%f2, %e2, H2⟩, ⟨%f3, %e3, H3⟩, ⟨%f4, %e4, H4⟩, ⟨%f5, %e5, H5⟩, ⟨%f6, -, H6⟩, Hk⟩
  sl_exec!
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr; rotate_left
  · iexact H6
  ipureintro
  unfold mlp_run.sl.H6_1
  refine (View.read_writes_full _ _ _ _ _).trans ?_
  subst e1 e2 e3 e4 e5
  show k2_pay1 (A1.view.readAt (Elt F) (Rect.unit (s := S1024x512) ![0, 0] S1024x512.size inb_S1024x512_S1024x512_0_0).toLoadRect f1)
    (A2.view.readAt (Elt F) (Rect.unit (s := S256x512) ![0, 0] S256x512.size inb_S256x512_S256x512_0_0).toLoadRect f2)
    (A3.view.readAt (Elt F) (Rect.unit (s := S1x256) ![0, 0] S1x256.size inb_S1x256_S1x256_0_0).toLoadRect f3)
    (A4.view.readAt (Elt F) (Rect.unit (s := S3x256) ![0, 0] S3x256.size inb_S3x256_S3x256_0_0).toLoadRect f4)
    (A5.view.readAt (Elt F) (Rect.unit (s := S1x3) ![0, 0] S1x3.size inb_S1x3_S1x3_0_0).toLoadRect f5) = _
  rw [View.readAt_full, View.readAt_full, View.readAt_full, View.readAt_full, View.readAt_full]

variable (V : (c : Dev nD) → (b : Ref sig .tc) → Buf (Elt F) ((c : Thread nD τ).loc b))

/-- A block as the fetch stages it. -/
abbrev mstg0 (c : Dev nD) (t : Fin cfg2.N) : Vec F S1024x512 .f32 := ((cfg2.win 0).blk t).view.read (Elt F) (V c main_v14)
abbrev mstg1 (c : Dev nD) (t : Fin cfg2.N) : Vec F S256x512 .f32 := ((cfg2.win 1).blk t).view.read (Elt F) (V c main_arg3)
abbrev mstg2 (c : Dev nD) (t : Fin cfg2.N) : Vec F S1x256 .f32 := ((cfg2.win 2).blk t).view.read (Elt F) (V c main_v15)
abbrev mstg3 (c : Dev nD) (t : Fin cfg2.N) : Vec F S3x256 .f32 := ((cfg2.win 3).blk t).view.read (Elt F) (V c main_arg5)
abbrev mstg4 (c : Dev nD) (t : Fin cfg2.N) : Vec F S1x3 .f32 := ((cfg2.win 4).blk t).view.read (Elt F) (V c main_v16)

/-- The call's proof data, from the buffers at `V`. -/
def mlpDat (c : Dev nD) : Dat τ (Elt F) (HIx 1) ℕ UU ℕ cfg2 c where
  A w := V c (Pipeline.arrRef spec2 w)
  after w t := match w with
    | ⟨0, _⟩ => mstg0 V c t
    | ⟨1, _⟩ => mstg1 V c t
    | ⟨2, _⟩ => mstg2 V c t
    | ⟨3, _⟩ => mstg3 V c t
    | ⟨4, _⟩ => mstg4 V c t
    | ⟨5, _⟩ => k2_pay1 (mstg0 V c t) (mstg1 V c t) (mstg2 V c t) (mstg3 V c t) (mstg4 V c t)
  Φ _ := Pipeline.scopedRest (Ix := HIx 1) (Name := ℕ) (U := UU) (Lvl := ℕ) (Val := Elt F) spec2 c
  q _ := fullShare
  owed _ := (K (F := F)).Otc c 1
  recorded _ := recB (F := F) c 1

def mlpDats : (p : Fin 2) → (c : Dev nD) → Dat τ (Elt F) (HIx 1) ℕ UU ℕ (Pipeline.pin (pcfgs (F := F)) adm p) c
  | ⟨0, _⟩ => fun c => noDat c
  | ⟨1, _⟩ => fun c => mlpDat V c

theorem mlp_before0 (c : Dev nD) (t : Fin cfg2.N) (d) : (mlpDat V c).before 0 t d = mstg0 V c t :=
  ((mlpDat V c).before_in_eq_fetched 0 rfl (fun _ => rfl) (fun _ _ _ => rfl) (fun _ => rfl) t d).trans rfl
theorem mlp_before1 (c : Dev nD) (t : Fin cfg2.N) (d) : (mlpDat V c).before 1 t d = mstg1 V c t :=
  ((mlpDat V c).before_in_eq_fetched 1 rfl (fun _ => rfl) (fun _ _ _ => rfl) (fun _ => rfl) t d).trans rfl
theorem mlp_before2 (c : Dev nD) (t : Fin cfg2.N) (d) : (mlpDat V c).before 2 t d = mstg2 V c t :=
  ((mlpDat V c).before_in_eq_fetched 2 rfl (fun _ => rfl) (fun _ _ _ => rfl) (fun _ => rfl) t d).trans rfl
theorem mlp_before3 (c : Dev nD) (t : Fin cfg2.N) (d) : (mlpDat V c).before 3 t d = mstg3 V c t :=
  ((mlpDat V c).before_in_eq_fetched 3 rfl (fun _ => rfl) (fun _ _ _ => rfl) (fun _ => rfl) t d).trans rfl
theorem mlp_before4 (c : Dev nD) (t : Fin cfg2.N) (d) : (mlpDat V c).before 4 t d = mstg4 V c t :=
  ((mlpDat V c).before_in_eq_fetched 4 rfl (fun _ => rfl) (fun _ _ _ => rfl) (fun _ => rfl) t d).trans rfl

/-- The body's obligation. -/
theorem mlp_body (c : Dev nD) : BodyObligation (mlpDat V c) (defs₀ (F := F)) 𝒱₀ none Set.univ := fun t => by
  rw [bigSep_W2, bigSep_W2]
  rw [show (mlpDat V c).Φ t.castSucc = Pipeline.scopedRest (Ix := HIx 1) (Name := ℕ) (U := UU) (Lvl := ℕ) (Val := Elt F) spec2 c from rfl,
    show (mlpDat V c).Φ t.succ = Pipeline.scopedRest (Ix := HIx 1) (Name := ℕ) (U := UU) (Lvl := ℕ) (Val := Elt F) spec2 c from rfl,
    show (mlpDat V c).owesAt none t.succ = (mlpDat V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [mlp_before0, mlp_before1, mlp_before2, mlp_before3, mlp_before4]
  iapply (mlp_run c (grid2.coords t) _ (hstage2_0 ((cfg2.slots t 0).cast nbuf2_0)) _ (hstage2_1 ((cfg2.slots t 1).cast nbuf2_1)) _ (hstage2_2 ((cfg2.slots t 2).cast nbuf2_2))
    _ (hstage2_3 ((cfg2.slots t 3).cast nbuf2_3)) _ (hstage2_4 ((cfg2.slots t 4).cast nbuf2_4)) _ (hstage2_5 ((cfg2.slots t 5).cast nbuf2_5)) _ _ _ _ _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- The dense layers over the whole array of means, block by block of 1024 rows. -/
def mlpOut (X : Vec F S8192x512 .f32) (W1 : Vec F S256x512 .f32) (b1 : Vec F S1x256 .f32) (W2 : Vec F S3x256 .f32) (b2 : Vec F S1x3 .f32) : Vec F S8192x3 .f32 := fun p =>
  k2_pay1 (fun y : S1024x512.Idx => X (ValueIdx.ix2 ⟨1024 * ((p 0).val / 1024) + (y 0).val, by
      have h1 : (p 0).val < 8192 := (p 0).isLt
      have h2 : (y 0).val < 1024 := (y 0).isLt
      show _ < 8192
      omega⟩ (y 1))) W1 b1 W2 b2
    (ValueIdx.ix2 ⟨(p 0).val % 1024, Nat.mod_lt _ (by decide)⟩ (p 1))

theorem mstg1_eq (c : Dev nD) (t : Fin cfg2.N) : mstg1 V c t = V c main_arg3 := by
  funext y
  show ((cfg2.win 1).blk t).view.read (Elt F) (V c main_arg3) y = _
  blk_simp
  exact congrArg (V c main_arg3) (funext fun a => Fin.ext (Window.rect_emb_val_of_index_zero win2_1 t a (by fin_cases a <;> rfl) y))
theorem mstg2_eq (c : Dev nD) (t : Fin cfg2.N) : mstg2 V c t = V c main_v15 := by
  funext y
  show ((cfg2.win 2).blk t).view.read (Elt F) (V c main_v15) y = _
  blk_simp
  exact congrArg (V c main_v15) (funext fun a => Fin.ext (Window.rect_emb_val_of_index_zero win2_2 t a (by fin_cases a <;> rfl) y))
theorem mstg3_eq (c : Dev nD) (t : Fin cfg2.N) : mstg3 V c t = V c main_arg5 := by
  funext y
  show ((cfg2.win 3).blk t).view.read (Elt F) (V c main_arg5) y = _
  blk_simp
  exact congrArg (V c main_arg5) (funext fun a => Fin.ext (Window.rect_emb_val_of_index_zero win2_3 t a (by fin_cases a <;> rfl) y))
theorem mstg4_eq (c : Dev nD) (t : Fin cfg2.N) : mstg4 V c t = V c main_v16 := by
  funext y
  show ((cfg2.win 4).blk t).view.read (Elt F) (V c main_v16) y = _
  blk_simp
  exact congrArg (V c main_v16) (funext fun a => Fin.ext (Window.rect_emb_val_of_index_zero win2_4 t a (by fin_cases a <;> rfl) y))

theorem mlp_index (t : Fin cfg2.N) : (win2_0.index t 0 = t.val ∧ win2_0.index t 1 = 0) ∧ (win2_5.index t 0 = t.val ∧ win2_5.index t 1 = 0) := by
  revert t; decide +kernel

/-- A block of the means, at an element. -/
theorem mstg0_apply (c : Dev nD) (t : Fin cfg2.N) (y : S1024x512.Idx) (i : S8192x512.Idx) (h0 : (i 0).val = t.val * 1024 + (y 0).val) (h1 : (i 1).val = (y 1).val) :
    mstg0 V c t y = V c main_v14 i := by
  show ((cfg2.win 0).blk t).view.read (Elt F) (V c main_v14) y = _
  blk_simp
  refine congrArg (V c main_v14) (funext fun a => Fin.ext ?_)
  refine (Window.rect_emb_val win2_0 t y a).trans ?_
  fin_cases a
  · refine Eq.trans ?_ h0.symm
    show win2_0.index t 0 * 1024 + (y 0).val = _
    rw [(mlp_index t).1.1]
  · refine Eq.trans ?_ h1.symm
    show win2_0.index t 1 * 512 + (y 1).val = _
    rw [(mlp_index t).1.2]
    omega

/-- The result's array after the call. -/
theorem mlp_arr5 (c : Dev nD) : (mlpDat V c).arrAt 5 cfg2.N = mlpOut (V c main_v14) (V c main_arg3) (V c main_v15) (V c main_arg5) (V c main_v16) := by
  refine (mlpDat V c).arrAt_eq_of_covers 5 _ (by decide +kernel) fun t hf y => ?_
  blk_simp
  dsimp only [mlpDat]
  rw [mstg1_eq, mstg2_eq, mstg3_eq, mstg4_eq]
  have e0 : ((((cfg2.win 5).blk t).view.emb y) 0).val = t.val * 1024 + (y 0).val := by
    refine (Window.rect_emb_val win2_5 t y 0).trans ?_
    show win2_5.index t 0 * 1024 + (y 0).val = _
    rw [(mlp_index t).2.1]
  have e1 : ((((cfg2.win 5).blk t).view.emb y) 1).val = (y 1).val := by
    refine (Window.rect_emb_val win2_5 t y 1).trans ?_
    show win2_5.index t 1 * 3 + (y 1).val = _
    rw [(mlp_index t).2.2]
    omega
  generalize ((cfg2.win 5).blk t).view.emb y = p at e0 e1
  have hy : (y 0).val < 1024 := (y 0).isLt
  unfold mlpOut
  have hx : mstg0 V c t = (fun z : S1024x512.Idx => V c main_v14 (ValueIdx.ix2 ⟨1024 * ((p 0).val / 1024) + (z 0).val, by
      have h1 : (p 0).val < 8192 := (p 0).isLt
      have h2 : (z 0).val < 1024 := (z 0).isLt
      show _ < 8192
      omega⟩ (z 1))) := by
    funext z
    refine mstg0_apply V c t z _ ?_ rfl
    show 1024 * ((p 0).val / 1024) + (z 0).val = _
    omega
  rw [← hx]
  refine congrArg _ (funext fun a => Fin.ext ?_)
  fin_cases a
  · show (y 0).val = (p 0).val % 1024
    omega
  · exact e1.symm

variable (V' : (c : Dev nD) → (b : Ref sig .tc) → Buf (Elt F) ((c : Thread nD τ).loc b))

set_option backward.isDefEq.respectTransparency.types false in
/-- The dense layers' call over the TensorCore's buffers. -/
def mlpReg (hout : ∀ c, V' c main_v17 = mlpOut (V c main_v14) (V c main_arg3) (V c main_v15) (V c main_arg5) (V c main_v16))
    (hne : ∀ c (b : Ref sig .tc), b ≠ main_v17 → V' c b = V c b) :
    Pipeline.RegionSeg (pcfgs (F := F)) adm (mlpDats V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (mlp_body V c).loose
  hwaits c := Pipeline.cellsWaits_intro _ _ _ _ _ fun w s t => (K (F := F)).mayWait_none _ (owed_none (F := F) c 1)
  pre c := iprop(unscopedBufs c (V c) ∗ owesB (F := F) c 1)
  post c := iprop(unscopedBufs c (V' c) ∗ owesB (F := F) c 1)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (mlpDats V) launch2.win launch2.arr_whole c
      ((mlpDats V 1 c).share_full fun _ => rfl) (V c) fun _ => rfl
    iintro ⟨⟨Hub, HO⟩, -, -⟩
    ihave H := hsplit $$ Hub
    icases H with ⟨Ha, Hrest⟩
    ihave HO := (owes_in c 1 (mlpDat V c) 0 rfl rfl) $$ HO
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (mlpDats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (mlpDats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (mlpDats V) ((mlpDats V 1 c).share_full fun _ => rfl) (V c) (V' c) ((mlpDats V 1 c).arrAt · cfg2.N)
      (fun w => by
        fin_cases w
        · exact ((mlpDats V 1 c).arrAt_in 0 rfl _).trans (hne c main_v14 (by decide)).symm
        · exact ((mlpDats V 1 c).arrAt_in 1 rfl _).trans (hne c main_arg3 (by decide)).symm
        · exact ((mlpDats V 1 c).arrAt_in 2 rfl _).trans (hne c main_v15 (by decide)).symm
        · exact ((mlpDats V 1 c).arrAt_in 3 rfl _).trans (hne c main_arg5 (by decide)).symm
        · exact ((mlpDats V 1 c).arrAt_in 4 rfl _).trans (hne c main_v16 (by decide)).symm
        · exact (mlp_arr5 V c).trans (hout c).symm)
      (fun b hb => hne c b (fun h => hb (h ▸ Finset.mem_image.mpr ⟨5, Finset.mem_univ _, rfl⟩)))
    iintro ⟨Ha, HO, -, Hrest⟩
    ihave HO := (show (mlpDats V 1 c).owesAt none (Fin.last (Pipeline.pin (pcfgs (F := F)) adm 1).N) ⊢ owesB (F := F) c 1 from owes_out c 1 (mlpDat V c) (Fin.last cfg2.N) rfl rfl) $$ HO
    imodintro
    isplitl [Ha Hrest]
    · iapply hjoin; isplitl [Ha] <;> iassumption
    iexact HO

end Cert.Proof.KI

end
-- ==== Proof.Main.lean ====
/-
The kernel's main program on a device: what every buffer holds after each of its lines and calls, and the program's run.
-/
module

public import proofs.«01_k».proof.Proof.MlpRegion
public import Idealize.ShloMosaic.Lib.StableHlo.Run

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe

section main

/-- The scale: 4096 over the length given, as a one by one table. -/
noncomputable def lineA : List (HloOp τ sig (Elt F)) :=
  [StableHlo.unary main_arg2 main_v0 (sitofp .f32),
   StableHlo.nullary main_cst (constant S_ .f32 0x45800000#32),
   StableHlo.binary main_cst main_v0 main_v1 Host.divf,
   StableHlo.reshape main_v1 main_v2 (rfl : (.f32 : EltTy) = .f32) shapeCasts_S_S1x1]

/-- The table the averaging call reads, and the frames as one matrix. -/
noncomputable def lineB : List (HloOp τ sig (Elt F)) :=
  [StableHlo.reshape main_v3_0 main_v4 (rfl : (.i32 : EltTy) = .i32) shapeCasts_S16x512_S1024x8,
   StableHlo.unary main_v4 main_v5 (broadcastInDim S1024x8x1 ![0, 1] bcast_S1024x8_S1024x8x1_0_1),
   StableHlo.unary main_v5 main_v6 (broadcastInDim S1024x8x16 ![0, 1, 2] bcast_S1024x8x1_S1024x8x16_0_1_2),
   StableHlo.reshape main_v6 main_v7 (rfl : (.i32 : EltTy) = .i32) shapeCasts_S1024x8x16_S1024x128,
   StableHlo.reshape main_v3_1 main_v8 (rfl : (.i32 : EltTy) = .i32) shapeCasts_S16x512_S1024x8,
   StableHlo.unary main_v8 main_v9 (broadcastInDim S1024x8x1 ![0, 1] bcast_S1024x8_S1024x8x1_0_1),
   StableHlo.unary main_v9 main_v10 (broadcastInDim S1024x8x16 ![0, 1, 2] bcast_S1024x8x1_S1024x8x16_0_1_2),
   StableHlo.reshape main_v10 main_v11 (rfl : (.i32 : EltTy) = .i32) shapeCasts_S1024x8x16_S1024x128,
   StableHlo.binary main_v7 main_v11 main_v12
     (fun a b => concatenate S1024x256 1 [⟨S1024x128, a⟩, ⟨S1024x128, b⟩] concatenates_S1024x128_S1024x128_S1024x256_d1),
   StableHlo.reshape main_arg0 main_v13 (rfl : (.f32 : EltTy) = .f32) shapeCasts_S16x4096x512_S65536x512]

/-- The two offsets of the linear maps, as rows. -/
noncomputable def lineC : List (HloOp τ sig (Elt F)) :=
  [StableHlo.reshape main_arg4 main_v15 (rfl : (.f32 : EltTy) = .f32) shapeCasts_S256_S1x256,
   StableHlo.reshape main_arg6 main_v16 (rfl : (.f32 : EltTy) = .f32) shapeCasts_S3_S1x3]

/-- The result in its final shape. -/
noncomputable def lineD : List (HloOp τ sig (Elt F)) :=
  [StableHlo.reshape main_v17 main_v18 (rfl : (.f32 : EltTy) = .f32) shapeCasts_S8192x3_S16x512x3]

/-- The program is its four lines with the three calls between them. -/
theorem main_lines (d : Dev nD) : main (F := F) d
    = (StableHlo.seq lineA >>= fun _ => (Prog.lift (.customCall (SparseCore.inner (Pipeline.entry 0)) ()) >>= fun _ =>
        (StableHlo.seq lineB >>= fun _ => (sc.run d 0 >>= fun _ => (StableHlo.seq lineC >>= fun _ =>
          (Prog.lift (.customCall (SparseCore.inner (Pipeline.entry 1)) ()) >>= fun _ => (StableHlo.seq lineD >>= fun _ => pure ⟨⟩))))))) := by
  simp only [main, lineA, lineB, lineC, lineD, StableHlo.seq, bind_assoc, pure_bind]
  rfl

/-- Every buffer that no scope opens. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem mem_ucRefs {b : Ref sig .tc} (h : ¬ (Proc.devRef .tc b : DevRef τ sig).isScoped) :
    (Proc.devRef .tc b : DevRef τ sig) ∈ ucRefs := by
  unfold ucRefs StableHlo.tcRefs
  refine Finset.mem_filter.mpr ⟨Finset.mem_map.mpr ⟨b, Finset.mem_univ _, rfl⟩, h⟩

/-- An operation on the core's buffers touches none that a scope opens. -/
theorem sub_ucRefs {op : HloOp τ sig (Elt F)} (h : op.bufs ⊆ StableHlo.tcRefs τ sig) : op.bufs ⊆ ucRefs := by
  intro b hb
  refine Finset.mem_filter.mpr ⟨h hb, ?_⟩
  rw [op.no_scoped b hb]; decide

theorem lineA_sub : ∀ op ∈ lineA (F := F), op.bufs ⊆ ucRefs := by
  intro op ho
  simp only [lineA, List.mem_cons, List.mem_nil_iff, _root_.or_false] at ho
  rcases ho with rfl | rfl | rfl | rfl
  · exact sub_ucRefs (StableHlo.unary_bufs_sub ..)
  · exact sub_ucRefs (StableHlo.nullary_bufs_sub ..)
  · exact sub_ucRefs (StableHlo.binary_bufs_sub ..)
  · exact sub_ucRefs (StableHlo.reshape_bufs_sub ..)

theorem lineB_sub : ∀ op ∈ lineB (F := F), op.bufs ⊆ ucRefs := by
  intro op ho
  simp only [lineB, List.mem_cons, List.mem_nil_iff, _root_.or_false] at ho
  rcases ho with rfl | rfl | rfl | rfl | rfl | rfl | rfl | rfl | rfl | rfl
  · exact sub_ucRefs (StableHlo.reshape_bufs_sub ..)
  · exact sub_ucRefs (StableHlo.unary_bufs_sub ..)
  · exact sub_ucRefs (StableHlo.unary_bufs_sub ..)
  · exact sub_ucRefs (StableHlo.reshape_bufs_sub ..)
  · exact sub_ucRefs (StableHlo.reshape_bufs_sub ..)
  · exact sub_ucRefs (StableHlo.unary_bufs_sub ..)
  · exact sub_ucRefs (StableHlo.unary_bufs_sub ..)
  · exact sub_ucRefs (StableHlo.reshape_bufs_sub ..)
  · exact sub_ucRefs (StableHlo.binary_bufs_sub ..)
  · exact sub_ucRefs (StableHlo.reshape_bufs_sub ..)

theorem lineC_sub : ∀ op ∈ lineC (F := F), op.bufs ⊆ ucRefs := by
  intro op ho
  simp only [lineC, List.mem_cons, List.mem_nil_iff, _root_.or_false] at ho
  rcases ho with rfl | rfl <;> exact sub_ucRefs (StableHlo.reshape_bufs_sub ..)

theorem lineD_sub : ∀ op ∈ lineD (F := F), op.bufs ⊆ ucRefs := by
  intro op ho
  simp only [lineD, List.mem_cons, List.mem_nil_iff, _root_.or_false] at ho
  rcases ho with rfl
  exact sub_ucRefs (StableHlo.reshape_bufs_sub ..)

theorem lineA_fresh : ∀ op ∈ lineA (F := F), op.fresh = ∅ := by
  intro op ho
  simp only [lineA, List.mem_cons, List.mem_nil_iff, _root_.or_false] at ho
  rcases ho with rfl | rfl | rfl | rfl <;> rfl

theorem lineB_fresh : ∀ op ∈ lineB (F := F), op.fresh = ∅ := by
  intro op ho
  simp only [lineB, List.mem_cons, List.mem_nil_iff, _root_.or_false] at ho
  rcases ho with rfl | rfl | rfl | rfl | rfl | rfl | rfl | rfl | rfl | rfl <;> rfl

theorem lineC_fresh : ∀ op ∈ lineC (F := F), op.fresh = ∅ := by
  intro op ho
  simp only [lineC, List.mem_cons, List.mem_nil_iff, _root_.or_false] at ho
  rcases ho with rfl | rfl <;> rfl

theorem lineD_fresh : ∀ op ∈ lineD (F := F), op.fresh = ∅ := by
  intro op ho
  simp only [lineD, List.mem_cons, List.mem_nil_iff, _root_.or_false] at ho
  rcases ho with rfl
  rfl

/-! ### What the buffers hold after each line and call. -/

variable (m : (ℓ : Loc nD τ sig) → Buf (Elt F) ℓ)

/-- At the start. -/
def val0 (d : Dev nD) : Valuation τ sig (Elt F) := fun b => m (d, b)
/-- After the scale. -/
noncomputable def val1 (d : Dev nD) : Valuation τ sig (Elt F) := StableHlo.after lineA (val0 m d)
/-- After the geometry call. -/
noncomputable def val2 (d : Dev nD) : Valuation τ sig (Elt F) :=
  Function.update (Function.update (val1 m d) (Proc.devRef .tc main_v3_0)
      (geomPacked (val1 m d (Proc.devRef .tc main_arg1)) (val1 m d (Proc.devRef .tc main_v2))))
    (Proc.devRef .tc main_v3_1) (geomBase (val1 m d (Proc.devRef .tc main_arg1)) (val1 m d (Proc.devRef .tc main_v2)))
/-- After the table is laid out. -/
noncomputable def val3 (d : Dev nD) : Valuation τ sig (Elt F) := StableHlo.after lineB (val2 m d)
/-- The table the averaging call reads. -/
noncomputable def metaOf (d : Dev nD) : Vec F S1024x256 .i32 := val3 m d (Proc.devRef .tc main_v12)
/-- The frames it reads. -/
noncomputable def framesOf (d : Dev nD) : Vec F S65536x512 .f32 := val3 m d (Proc.devRef .tc main_v13)
/-- After the averaging call. -/
noncomputable def val4 (d : Dev nD) : Valuation τ sig (Elt F) :=
  Function.update (val3 m d) (Proc.devRef .tc main_v14) (allMeans (metaOf m d) (framesOf m d))
/-- After the offsets are laid out. -/
noncomputable def val5 (d : Dev nD) : Valuation τ sig (Elt F) := StableHlo.after lineC (val4 m d)
/-- After the linear maps. -/
noncomputable def val6 (d : Dev nD) : Valuation τ sig (Elt F) :=
  Function.update (val5 m d) (Proc.devRef .tc main_v17)
    (mlpOut (val5 m d (Proc.devRef .tc main_v14)) (val5 m d (Proc.devRef .tc main_arg3)) (val5 m d (Proc.devRef .tc main_v15))
      (val5 m d (Proc.devRef .tc main_arg5)) (val5 m d (Proc.devRef .tc main_v16)))
/-- At the end. -/
noncomputable def val7 (d : Dev nD) : Valuation τ sig (Elt F) := StableHlo.after lineD (val6 m d)

/-- The first call's step, over the buffers no scope opens. -/
noncomputable def reg0 := geomReg (F := F) (fun c b => val1 m c (Proc.devRef .tc b)) (fun c b => val2 m c (Proc.devRef .tc b))
  (fun c => by
    show val2 m c (Proc.devRef .tc main_v3_0) = _
    unfold val2
    rw [Function.update_of_ne (by decide), Function.update_self])
  (fun c => by
    show val2 m c (Proc.devRef .tc main_v3_1) = _
    unfold val2
    rw [Function.update_self])
  (fun c b h0 h1 => by
    show val2 m c (Proc.devRef .tc b) = _
    unfold val2
    rw [Function.update_of_ne (StableHlo.devRef_ne_of_ne h1), Function.update_of_ne (StableHlo.devRef_ne_of_ne h0)])

/-- The last call's. -/
noncomputable def reg1 := mlpReg (F := F) (fun c b => val5 m c (Proc.devRef .tc b)) (fun c b => val6 m c (Proc.devRef .tc b))
  (fun c => by
    show val6 m c (Proc.devRef .tc main_v17) = _
    unfold val6
    rw [Function.update_self])
  (fun c b h => by
    show val6 m c (Proc.devRef .tc b) = _
    unfold val6
    rw [Function.update_of_ne (StableHlo.devRef_ne_of_ne h)])

/-! ### The steps. -/

/-- A call whose kernel runs on the core itself, from what its step needs to what it leaves. -/
theorem region_call (p : Fin 2) {pd : ∀ (p : Fin 2) (c : Dev nD), Pipeline.Dat τ (Elt F) (HIx 1) ℕ UU ℕ (Pipeline.pin (pcfgs (F := F)) adm p) c}
    (R : Pipeline.RegionSeg (pcfgs (F := F)) adm pd none defs₀ 𝒱₀ (K (F := F)).L (K (F := F)).lev p) (d : Dev nD) (Φ : PUnit → sProp 𝕄) :
    iprop((iprop(boundary (d.tc : Thread nD τ) ∗ R.post d) -∗ Φ ⟨⟩)
        ∗ boundary (d.tc : Thread nD τ) ∗ R.pre d ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱P (d.tc : Thread nD τ) none) Set.univ
          (Prog.lift (.customCall (SparseCore.inner (Pipeline.entry p)) ())) Φ := by
  refine BI.Entails.trans ?_ ((K (F := F)).wp_liftProg (D (F := F)) 𝒱P (d.tc : Thread nD τ) Set.univ none (.op (.customCall (Pipeline.entry p) ()) .ret) Φ)
  refine BI.Entails.trans ?_ (Pipeline.RegionSeg.wp (pcfgs (F := F)) adm pd none cellOf_inj (EP (F := F)) defs₀ 𝒱₀ _ _ R d none (by intro u hu; cases hu) .ret Φ)
  change (_ : sProp 𝕄) ⊢ _
  iintro ⟨Hk, Hrest⟩
  isplitl [Hk]
  · iintro H
    rw [wp_ret]
    imodintro
    iapply Hk; iexact H
  · iexact Hrest

/-- The three buffers the averaging call takes. -/
def avgRefs : Finset (DevRef τ sig) := {Proc.devRef .tc main_v12, Proc.devRef .tc main_v13, Proc.devRef .tc main_v14}

theorem avgRefs_sub : avgRefs ⊆ ucRefs := by
  intro b hb
  simp only [avgRefs, Finset.mem_insert, Finset.mem_singleton] at hb
  rcases hb with rfl | rfl | rfl <;> exact mem_ucRefs (by decide)

theorem avgRefs_held (d : Dev nD) (W : Valuation τ sig (Elt F)) :
    (StableHlo.held (d : Thread nD τ) avgRefs W : sProp 𝕄)
      = iprop((metaLoc d ↦{fullShare} W (Proc.devRef .tc main_v12)) ∗ (framesLoc d ↦{fullShare} W (Proc.devRef .tc main_v13))
          ∗ (meansLoc d ↦{fullShare} W (Proc.devRef .tc main_v14))) := by
  unfold StableHlo.held avgRefs
  rw [bigSep_insert (by decide), bigSep_insert (by decide), bigSep_singleton]
  rfl

/-- The averaging call, over the buffers no scope opens. -/
theorem avg_call (κ : GSem nD τ sig → ℕ) (d : Dev nD) (Φ : PUnit → sProp 𝕄) :
    iprop((K (F := F)).ctx EH (P (metaOf m) (framesOf m)) κ ∗ (K (F := F)).tcSt EH d 0 ∗ StableHlo.held (d : Thread nD τ) ucRefs (val3 m d)
        ∗ (((K (F := F)).tcSt EH d 1 ∗ StableHlo.held (d : Thread nD τ) ucRefs (val4 m d)) -∗ Φ ⟨⟩))
      ⊢ wp frame (wpE ((K (F := F)).defs (D (F := F))) 𝒱P (d.tc : Thread nD τ) none) Set.univ (sc.run d 0) Φ := by
  rw [StableHlo.held_sub_split (d : Thread nD τ) avgRefs_sub (val3 m d), StableHlo.held_sub_split (d : Thread nD τ) avgRefs_sub (val4 m d)]
  rw [avgRefs_held, avgRefs_held]
  rw [StableHlo.held_congr (c := (d : Thread nD τ)) (S := ucRefs \ avgRefs) (V := val4 m d) (V' := val3 m d) (fun b hb => by
    unfold val4
    rw [Function.update_of_ne]
    rintro rfl
    exact (Finset.mem_sdiff.mp hb).2 (by decide))]
  have h4 : val4 m d (Proc.devRef .tc main_v14) = allMeans (metaOf m d) (framesOf m d) := by unfold val4; rw [Function.update_self]
  have h2 : val4 m d (Proc.devRef .tc main_v12) = metaOf m d := by unfold val4; rw [Function.update_of_ne (by decide)]; rfl
  have h3 : val4 m d (Proc.devRef .tc main_v13) = framesOf m d := by unfold val4; rw [Function.update_of_ne (by decide)]; rfl
  rw [h2, h3, h4]
  rw [show val3 m d (Proc.devRef .tc main_v12) = metaOf m d from rfl, show val3 m d (Proc.devRef .tc main_v13) = framesOf m d from rfl]
  have hi := call_in (metaOf m) (framesOf m) d (val3 m d (Proc.devRef .tc main_v14))
  have ho := call_out (metaOf m) (framesOf m) d
  refine BI.Entails.trans ?_ ((K (F := F)).wp_run (D (F := F)) 𝒱P (EH := EH) (P := P (metaOf m) (framesOf m)) κ d 0)
  change (_ : sProp 𝕄) ⊢ _
  iintro ⟨Hctx, Hst, ⟨Ha, Hrest⟩, Hk⟩
  ihave H := hi $$ Ha
  icases H with ⟨Hin, Hst0⟩
  isplitl [Hctx]; · iexact Hctx
  isplitl [Hst]; · iexact Hst
  isplitl [Hst0]; · iexact Hst0
  iintro ⟨Hst1, Hdn⟩
  iapply Hk
  isplitl [Hst1]; · iexact Hst1
  isplitr [Hrest]
  · iapply ho
    isplitl [Hin]; · iexact Hin
    iexact Hdn
  · iexact Hrest

variable (ρ : Dev nD → PrngReg)

/-- What the core owes, taken out of its state between calls and put back. -/
theorem tcSt_owes (d : Dev nD) (n : ℕ) :
    ((K (F := F)).tcSt EH d n : sProp 𝕄) ⊢ iprop(owesB (F := F) d n ∗ (owesB (F := F) d n -∗ (K (F := F)).tcSt EH d n)) := by
  unfold SparseCore.Cfg.tcSt owesB
  iintro ⟨HO, Hr⟩
  isplitl [HO]; · iexact HO
  iintro HO
  isplitl [HO]; · iexact HO
  iexact Hr

/-- The first call, over the buffers no scope opens. -/
theorem geom_call (d : Dev nD) (Φ : PUnit → sProp 𝕄) :
    iprop(levAts (K (F := F)).L (K (F := F)).lev ∗ (K (F := F)).tcSt EH d 0 ∗ boundary (d.tc : Thread nD τ) ∗ StableHlo.held (d : Thread nD τ) ucRefs (val1 m d)
        ∗ Pipeline.cellsGhost cfgs (EP (F := F)) 0 d ∗ Pipeline.toksInit cfgs (EP (F := F)) 0 d
        ∗ (((K (F := F)).tcSt EH d 0 ∗ boundary (d.tc : Thread nD τ) ∗ StableHlo.held (d : Thread nD τ) ucRefs (val2 m d)) -∗ Φ ⟨⟩))
      ⊢ wp frame (wpE ((K (F := F)).defs (D (F := F))) 𝒱P (d.tc : Thread nD τ) none) Set.univ
          (Prog.lift (.customCall (SparseCore.inner (Pipeline.entry 0)) ())) Φ := by
  rw [← unscopedBufs_held d (val1 m d), ← unscopedBufs_held d (val2 m d)]
  have ho := tcSt_owes (F := F) d 0
  have hc := region_call 0 (reg0 m) d Φ
  rw [show (reg0 m).pre d = iprop(unscopedBufs d (fun b => val1 m d (Proc.devRef .tc b)) ∗ owesB (F := F) d 0) from rfl,
    show (reg0 m).post d = iprop(unscopedBufs d (fun b => val2 m d (Proc.devRef .tc b)) ∗ owesB (F := F) d 0) from rfl] at hc
  iintro ⟨Hlev, Hst, Hb, Hu, Hg, Ht, Hk⟩
  ihave H := ho $$ Hst
  icases H with ⟨HO, Hst⟩
  iapply hc
  isplitl [Hst Hk]
  · iintro ⟨Hb, Hu, HO⟩
    iapply Hk
    isplitl [Hst HO]; · iapply Hst; iexact HO
    isplitl [Hb]; · iexact Hb
    iexact Hu
  isplitl [Hb]; · iexact Hb
  isplitl [Hu HO]
  · isplitl [Hu]; · iexact Hu
    iexact HO
  isplitl [Hlev]; · iexact Hlev
  isplitl [Hg]; · iexact Hg
  iexact Ht

/-- The last call. -/
theorem mlp_call (d : Dev nD) (Φ : PUnit → sProp 𝕄) :
    iprop(levAts (K (F := F)).L (K (F := F)).lev ∗ (K (F := F)).tcSt EH d 1 ∗ boundary (d.tc : Thread nD τ) ∗ StableHlo.held (d : Thread nD τ) ucRefs (val5 m d)
        ∗ Pipeline.cellsGhost cfgs (EP (F := F)) 1 d ∗ Pipeline.toksInit cfgs (EP (F := F)) 1 d
        ∗ (((K (F := F)).tcSt EH d 1 ∗ boundary (d.tc : Thread nD τ) ∗ StableHlo.held (d : Thread nD τ) ucRefs (val6 m d)) -∗ Φ ⟨⟩))
      ⊢ wp frame (wpE ((K (F := F)).defs (D (F := F))) 𝒱P (d.tc : Thread nD τ) none) Set.univ
          (Prog.lift (.customCall (SparseCore.inner (Pipeline.entry 1)) ())) Φ := by
  rw [← unscopedBufs_held d (val5 m d), ← unscopedBufs_held d (val6 m d)]
  have ho := tcSt_owes (F := F) d 1
  have hc := region_call 1 (reg1 m) d Φ
  rw [show (reg1 m).pre d = iprop(unscopedBufs d (fun b => val5 m d (Proc.devRef .tc b)) ∗ owesB (F := F) d 1) from rfl,
    show (reg1 m).post d = iprop(unscopedBufs d (fun b => val6 m d (Proc.devRef .tc b)) ∗ owesB (F := F) d 1) from rfl] at hc
  iintro ⟨Hlev, Hst, Hb, Hu, Hg, Ht, Hk⟩
  ihave H := ho $$ Hst
  icases H with ⟨HO, Hst⟩
  iapply hc
  isplitl [Hst Hk]
  · iintro ⟨Hb, Hu, HO⟩
    iapply Hk
    isplitl [Hst HO]; · iapply Hst; iexact HO
    isplitl [Hb]; · iexact Hb
    iexact Hu
  isplitl [Hb]; · iexact Hb
  isplitl [Hu HO]
  · isplitl [Hu]; · iexact Hu
    iexact HO
  isplitl [Hlev]; · iexact Hlev
  isplitl [Hg]; · iexact Hg
  iexact Ht

/-- The whole program on a device's core. -/
theorem hmain (κ : GSem nD τ sig → ℕ) (d : Dev nD) :
    iprop((K (F := F)).ctx EH (P (metaOf m) (framesOf m)) κ ∗ (K (F := F)).tcSt EH d 0 ∗ (K (F := F)).tcRes m ρ d ∗ ghost (F := F) d)
      ⊢ wp frame (wpE ((K (F := F)).defs (D (F := F))) 𝒱P (SparseCore.T d) none) Set.univ (main d)
          fun _ => iprop((K (F := F)).tcSt EH d 1 ∗ StableHlo.held (d : Thread nD τ) ucRefs (val7 m d) ∗ (K (F := F)).tcEnd d) := by
  have hlev := SparseCore.Cfg.ctx_levAts (K := K (F := F)) (EH := EH) (P := P (metaOf m) (framesOf m)) κ (lv := (K (F := F)).lev)
  unfold SparseCore.Cfg.tcRes SparseCore.Cfg.tcEnd ghost
  rw [show (unscopedBufs d (fun b => m ((SparseCore.T d).loc b)) : sProp 𝕄) = StableHlo.held (d : Thread nD τ) ucRefs (val0 m d) from unscopedBufs_held d (val0 m d)]
  rw [bigSep_univ_two, bigSep_univ_two, main_lines]
  iintro ⟨#Hctx, Hst, ⟨Hb, Hheld, Hts, -⟩, ⟨Hg0, Hg1⟩, Ht0, Ht1⟩
  ihave #Hlev := hlev $$ Hctx
  iapply (StableHlo.wp_seq 𝒱P none Set.univ d ucRefs _ lineA lineA_sub lineA_fresh (val0 m d)) $$ [Hb Hheld]
  · isplitl [Hb] <;> iassumption
  iintro ⟨Hb, Hheld⟩
  rw [wp_bind, show StableHlo.after lineA (val0 m d) = val1 m d from rfl]
  iapply (geom_call m d)
  isplitr; · iexact Hlev
  isplitl [Hst]; · iexact Hst
  isplitl [Hb]; · iexact Hb
  isplitl [Hheld]; · iexact Hheld
  isplitl [Hg0]; · iexact Hg0
  isplitl [Ht0]; · iexact Ht0
  iintro ⟨Hst, Hb, Hheld⟩
  iapply (StableHlo.wp_seq 𝒱P none Set.univ d ucRefs _ lineB lineB_sub lineB_fresh (val2 m d)) $$ [Hb Hheld]
  · isplitl [Hb] <;> iassumption
  iintro ⟨Hb, Hheld⟩
  rw [wp_bind, show StableHlo.after lineB (val2 m d) = val3 m d from rfl]
  iapply (avg_call m κ d)
  isplitr; · iexact Hctx
  isplitl [Hst]; · iexact Hst
  isplitl [Hheld]; · iexact Hheld
  iintro ⟨Hst, Hheld⟩
  iapply (StableHlo.wp_seq 𝒱P none Set.univ d ucRefs _ lineC lineC_sub lineC_fresh (val4 m d)) $$ [Hb Hheld]
  · isplitl [Hb] <;> iassumption
  iintro ⟨Hb, Hheld⟩
  rw [wp_bind, show StableHlo.after lineC (val4 m d) = val5 m d from rfl]
  iapply (mlp_call m d)
  isplitr; · iexact Hlev
  isplitl [Hst]; · iexact Hst
  isplitl [Hb]; · iexact Hb
  isplitl [Hheld]; · iexact Hheld
  isplitl [Hg1]; · iexact Hg1
  isplitl [Ht1]; · iexact Ht1
  iintro ⟨Hst, Hb, Hheld⟩
  iapply (StableHlo.wp_seq 𝒱P none Set.univ d ucRefs _ lineD lineD_sub lineD_fresh (val6 m d)) $$ [Hb Hheld]
  · isplitl [Hb] <;> iassumption
  iintro ⟨Hb, Hheld⟩
  rw [show StableHlo.after lineD (val6 m d) = val7 m d from rfl, wp_pure]
  imodintro
  isplitl [Hst]; · iexact Hst
  isplitl [Hheld]; · iexact Hheld
  isplitl [Hb]; · iexact Hb
  iexact Hts

/-- Buffers held whole hold what the state's memory holds. -/
theorem held_agree (d : Dev nD) (W : Valuation τ sig (Elt F)) (s' : Phys nD τ sig (Elt F)) (S : Finset (DevRef τ sig)) :
    iprop(StableHlo.held (d : Thread nD τ) S W ∗ SI s') ⊢ (⌜∀ b ∈ S, s'.mem.mem (d, b) = W b⌝ : sProp 𝕄) := by
  classical
  induction S using Finset.induction_on with
  | empty => iintro -; ipureintro; intro b hb; simp at hb
  | insert a S ha ih =>
    rw [show (StableHlo.held (d : Thread nD τ) (insert a S) W : sProp 𝕄)
        = iprop((((d, a) : Loc nD τ sig) ↦{fullShare} W a) ∗ StableHlo.held (d : Thread nD τ) S W) from by
      unfold StableHlo.held; exact bigSep_insert ha]
    iintro ⟨⟨Ha, HS⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%hx, HSI, -⟩
    ihave H := ih $$ [HS HSI]
    · isplitl [HS]
      · iexact HS
      · iexact HSI
    icases H with %hr
    ipureintro
    intro b hb
    rcases Finset.mem_insert.mp hb with rfl | hb
    · exact funext fun i => hx i (Finset.mem_univ i)
    · exact hr b hb

/-- The program's run: every buffer no scope opens ends at what its last line leaves. -/
theorem run_main [∀ e, Nonempty (Elt F e)] (hM : ∀ d, WordsOK (metaOf m d)) :
    θ_run (Cert.KernelIdeal.defs (F := F)) (Cert.KernelIdeal.threads (F := F)) ⟨m, fun _ => 0, ρ⟩
      (fun r => (∀ d : Dev nD, ∀ b ∈ ucRefs, r.2.mem (d, b) = val7 m d b) ∧ r.2.sem = fun _ => 0) :=
  SparseCore.Cfg.θ_run_sc_quiescent (K := K (F := F)) (D := D (F := F)) (𝒱 := 𝒱P) (EH := EH) (P := P (metaOf m) (framesOf m)) (A := ∅) facts v₀
    (fun q hq => match q with | 0 => nomatch hq)
    (fun q _ => match q with | 0 => tileObl (metaOf m) (framesOf m) hM)
    (fun q _ => match q with | 0 => SparseCore.Cfg.VecSplit.of_plain (vecSplit (metaOf m) (framesOf m)))
    m ρ main (fun d => ghost (F := F) d) (fun d => StableHlo.held (d : Thread nD τ) ucRefs (val7 m d)) (u₀ (F := F))
    (sep_elim_left.trans (hu₀ (metaOf m) (framesOf m))) (hmain m ρ) (fun d s' => ∀ b ∈ ucRefs, s'.mem.mem (d, b) = val7 m d b)
    (fun d s' => held_agree d (val7 m d) s' ucRefs) _ (fun _ h hz => ⟨h, hz⟩)

end main

end Cert.Proof.KI

end
-- ==== Proof.GeomValue.lean ====
/-
The geometry call's tables at the ideal arithmetic, as sums of the durations.
-/
module

public import proofs.«01_k».proof.Proof.GeomRegion
public import Idealize.ShloMosaic.Lib.Pipeline.ValueKit
public import Idealize.ShloMosaic.Lib.Routing.Words

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
open Idealize.ShloMosaic.Routing

theorem fptosi_nat {φ : FTy} {n : ℕ} (h : n < 2 ^ 31) :
    FloatOps.fptosi (F := Ideal) (φ := φ) 32 (((n : ℝ)) : EReal) = BitVec.ofNat 32 n := by
  show BitVec.ofInt 32 (Ideal.toIntClamped (-(2 ^ (32 - 1))) (2 ^ (32 - 1) - 1) _) = _
  rw [Ideal.toIntClamped_coe, if_pos (Nat.cast_nonneg n), Int.floor_natCast]
  rw [show max (-(2 ^ (32 - 1)) : ℤ) (min (2 ^ (32 - 1) - 1) (n : ℤ)) = (n : ℤ) from by omega]
  exact BitVec.ofInt_natCast 32 n

theorem sitofp_word {φ : FTy} (w : BitVec 32) (h : w.toNat < 2 ^ 31) :
    FloatOps.sitofp (F := Ideal) φ w = (((w.toNat : ℝ)) : EReal) := by
  show (((w.toInt : ℝ)) : EReal) = _
  rw [BitVec.toInt_eq_toNat_of_lt (by omega)]
  simp

/-- The kernel's text for a word divided by eight, downwards, and multiplied by eight. -/
def roundDown8 (X : BitVec 32) : BitVec 32 :=
  IntOp.muli (Scalar.select (IntOp.andi (IntOp.cmpi .ne
        (IntOp.subi (BitVec.setWidth 32 (IntOp.cmpi .sgt X 0#32)) (BitVec.setWidth 32 (IntOp.cmpi .slt X 0#32)))
        (Scalar.subi (Scalar.extui (Scalar.cmpi .sgt 8#32 0#32)) (Scalar.extui (Scalar.cmpi .slt 8#32 0#32))))
      (IntOp.cmpi .ne (IntOp.remsi .vector X 8#32) 0#32))
      (IntOp.subi (IntOp.divsi .vector X 8#32) 1#32) (IntOp.divsi .vector X 8#32)) 8#32

theorem floordiv_word {x : ℕ} (hx : x < 2 ^ 31) :
    Scalar.select (IntOp.andi (IntOp.cmpi .ne
        (IntOp.subi (BitVec.setWidth 32 (IntOp.cmpi .sgt (BitVec.ofNat 32 x) 0#32)) (BitVec.setWidth 32 (IntOp.cmpi .slt (BitVec.ofNat 32 x) 0#32)))
        (Scalar.subi (Scalar.extui (Scalar.cmpi .sgt 8#32 0#32)) (Scalar.extui (Scalar.cmpi .slt 8#32 0#32))))
      (IntOp.cmpi .ne (IntOp.remsi .vector (BitVec.ofNat 32 x) 8#32) 0#32))
      (IntOp.subi (IntOp.divsi .vector (BitVec.ofNat 32 x) 8#32) 1#32) (IntOp.divsi .vector (BitVec.ofNat 32 x) 8#32) = BitVec.ofNat 32 (x / 8) := by
  rw [show (8#32 : BitVec 32) = BitVec.ofNat 32 8 from rfl, remsi_word _ hx (by decide) (by decide), divsi_word _ hx (by decide) (by decide)]
  have hs : IntOp.cmpi .slt (BitVec.ofNat 32 x) 0#32 = 0#1 := by
    show BitVec.ofBool ((BitVec.ofNat 32 x).slt (BitVec.ofNat 32 0)) = _
    rw [slt_ofNat32 hx (by decide)]; rfl
  have hg : IntOp.cmpi .sgt (BitVec.ofNat 32 x) 0#32 = BitVec.ofBool (decide (0 < x)) := by
    show BitVec.ofBool ((BitVec.ofNat 32 0).slt (BitVec.ofNat 32 x)) = _
    rw [slt_ofNat32 (by decide) hx]
  rw [hs, hg]
  rcases Nat.eq_zero_or_pos x with h0 | h0
  · subst h0; decide
  · rw [decide_eq_true h0]
    have : IntOp.cmpi .ne (IntOp.subi (BitVec.setWidth 32 (BitVec.ofBool true)) (BitVec.setWidth 32 0#1))
      (Scalar.subi (Scalar.extui (Scalar.cmpi .sgt (BitVec.ofNat 32 8) 0#32)) (Scalar.extui (Scalar.cmpi .slt (BitVec.ofNat 32 8) 0#32))) = 0#1 := by decide
    rw [this]
    have hz : ∀ y : BitVec 1, IntOp.andi 0#1 y = 0#1 := by decide
    rw [hz]
    rfl

theorem slt_word {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [slt_ofNat32 ha hb]

/-- The number of frames of position `u` of sequence `b`. -/
def dur (ds : IVec S16x512 32) (b : Fin 16) (u : ℕ) : ℕ := if h : u < 512 then (ds (ValueIdx.ix2 b ⟨u, h⟩)).toNat else 0

/-- The number of frames before position `t`. -/
def startOf (ds : IVec S16x512 32) (b : Fin 16) (t : ℕ) : ℕ := ∑ u ∈ Finset.range t, dur ds b u

variable (ds : IVec S16x512 32) (inv : Vec Ideal S1x1 .f32)

theorem startOf_le (hd : ∀ b t, (ds (ValueIdx.ix2 b t)).toNat < 8) (b : Fin 16) (t k : ℕ) :
    startOf ds b (t + k) ≤ startOf ds b t + 7 * k := by
  induction k with
  | zero => simp
  | succ k ih =>
    have : dur ds b (t + k) ≤ 7 := by
      unfold dur; split
      · have := hd b ⟨t + k, by assumption⟩; omega
      · omega
    rw [← add_assoc, startOf, Finset.sum_range_succ]
    unfold startOf at ih ⊢
    omega

/-- A sum of the durations weighed by the indicator of the positions before `k`. -/
theorem sum_before (b : Fin 16) (k : ℕ) (hk : k ≤ 512) :
    ∑ x : Fin 512, ((((ds (ValueIdx.ix2 b x)).toNat : ℝ)) : EReal) * (((((if x.val < k then 1 else 0 : ℕ)) : ℝ)) : EReal)
      = (((startOf ds b k : ℕ) : ℝ) : EReal) := by
  have : ∀ x : Fin 512, ((((ds (ValueIdx.ix2 b x)).toNat : ℝ)) : EReal) * (((((if x.val < k then 1 else 0 : ℕ)) : ℝ)) : EReal)
      = ((((if x.val < k then dur ds b x.val else 0 : ℕ) : ℝ)) : EReal) := by
    intro x
    unfold dur
    rw [dif_pos x.isLt]
    split <;> simp
  rw [Finset.sum_congr rfl fun x _ => this x]
  have e : ∀ f : Fin 512 → ℕ, ∑ x : Fin 512, (((f x : ℝ)) : EReal) = (((∑ x : Fin 512, f x : ℕ) : ℝ) : EReal) := by
    intro f
    rw [Nat.cast_sum]
    exact (map_sum (⟨⟨fun r : ℝ => (r : EReal), EReal.coe_zero⟩, EReal.coe_add⟩ : ℝ →+ EReal) (fun x => ((f x : ℕ) : ℝ)) Finset.univ).symm
  rw [e, Fin.sum_univ_eq_sum_range (fun u => if u < k then dur ds b u else 0) 512, ← Finset.sum_filter]
  have hr : (Finset.range 512).filter (fun u => u < k) = Finset.range k := by
    ext u
    rw [Finset.mem_filter, Finset.mem_range, Finset.mem_range]
    omega
  rw [hr]
  rfl

variable (h1 : inv (ValueIdx.ix2 0 0) = (1 : EReal))
  (hd : ∀ b t, (ds (ValueIdx.ix2 b t)).toNat < 8)

include h1 hd in
theorem pay2_value (b : Fin 16) (t : Fin 512) : k0_pay2 (F := Ideal) ds inv (ValueIdx.ix2 b t) = (((ds (ValueIdx.ix2 b t)).toNat : ℝ) : EReal) := by
  pointwise [k0_pay2]
  have hn := hd b t
  rw [sitofp_word _ (by omega), show inv (Idealize.ShloMosaic.ix2 0 0) = (1 : EReal) from h1, mul_one]
  have hg : IntOp.cmpi .sgt (ds (ValueIdx.ix2 b t)) 0#32 = BitVec.ofBool (decide (0 < (ds (ValueIdx.ix2 b t)).toNat)) := by
    conv_lhs => rw [show ds (ValueIdx.ix2 b t) = BitVec.ofNat 32 (ds (ValueIdx.ix2 b t)).toNat from by rw [BitVec.ofNat_toNat, BitVec.setWidth_eq]]
    show BitVec.ofBool ((BitVec.ofNat 32 0).slt (BitVec.ofNat 32 _)) = _
    rw [slt_ofNat32 (by decide) (by omega)]
  rw [hg]
  generalize (ds (ValueIdx.ix2 b t)).toNat = n at hn
  have hf : Ideal.liftRound Int.floor (((n : ℝ)) : EReal) = (((n : ℝ)) : EReal) := by
    show ((((⌊(n : ℝ)⌋ : ℤ) : ℝ)) : EReal) = _
    rw [Int.floor_natCast]; simp
  rw [hf]
  rcases Nat.eq_zero_or_pos n with h0 | h0
  · subst h0
    show (0 : EReal) = _
    simp
  · rw [decide_eq_true h0]
    show max (((n : ℝ)) : EReal) 1 = _
    exact max_eq_left (by exact_mod_cast h0)

include h1 hd in
theorem pay3_value (b : Fin 16) (t : Fin 512) : k0_pay3 (F := Ideal) ds inv (ValueIdx.ix2 b t) = (((ds (ValueIdx.ix2 b t)).toNat : ℝ) : EReal) := by
  show k0_pay2 (F := Ideal) ds inv (ValueIdx.ix2 b t) = _
  exact pay2_value ds inv h1 hd b t

theorem indicator_lt (x k : ℕ) (hx : x < 2 ^ 31) (hk : k < 2 ^ 31) :
    FloatOps.sitofp (F := Ideal) .f32 (BitVec.setWidth 32 (IntOp.cmpi .slt (BitVec.ofNat 32 x) (BitVec.ofNat 32 k)))
      = ((((if x < k then 1 else 0 : ℕ) : ℝ)) : EReal) := by
  rw [slt_word hx hk, setWidth_ofBool, sitofp_word]
  · split <;> simp
  · split <;> simp

theorem indicator_le (x k : ℕ) (hx : x < 2 ^ 31) (hk : k < 2 ^ 31) :
    FloatOps.sitofp (F := Ideal) .f32 (BitVec.setWidth 32 (IntOp.cmpi .sle (BitVec.ofNat 32 x) (BitVec.ofNat 32 k)))
      = ((((if x < k + 1 then 1 else 0 : ℕ) : ℝ)) : EReal) := by
  have : IntOp.cmpi .sle (BitVec.ofNat 32 x) (BitVec.ofNat 32 k) = BitVec.ofBool (decide (x < k + 1)) := by
    show BitVec.ofBool ((BitVec.ofNat 32 x).sle (BitVec.ofNat 32 k)) = _
    rw [sle_ofNat32 hx hk]
    congr 1
    exact decide_eq_decide.2 (by omega)
  rw [this, setWidth_ofBool, sitofp_word]
  · split <;> simp
  · split <;> simp

include h1 hd in
theorem pay4_value (b : Fin 16) (t : Fin 512) : k0_pay4 (F := Ideal) ds inv (ValueIdx.ix2 b t) = (((startOf ds b t.val : ℕ) : ℝ) : EReal) := by
  pointwise [k0_pay4]
  have ht := t.isLt
  show (∑ x : Fin 512, (k0_pay3 (F := Ideal) ds inv (ValueIdx.ix2 b x) : EReal) *
      FloatOps.sitofp (F := Ideal) .f32 (BitVec.setWidth 32 (IntOp.cmpi .sle (BitVec.ofNat 32 x.val) (BitVec.ofNat 32 t.val)))) - (k0_pay2 (F := Ideal) ds inv (ValueIdx.ix2 b t) : EReal) = _
  rw [Finset.sum_congr rfl fun x _ => congrArg₂ (· * ·) (pay3_value ds inv h1 hd b x)
    (indicator_le x.val t.val (by omega) (by omega)), pay2_value ds inv h1 hd b t, sum_before ds b (t.val + 1) (by omega)]
  have : startOf ds b (t.val + 1) = startOf ds b t.val + (ds (ValueIdx.ix2 b t)).toNat := by
    unfold startOf
    rw [Finset.sum_range_succ]
    congr 1
    unfold dur
    rw [dif_pos ht]
  rw [this, Nat.cast_add, ← EReal.coe_sub]
  simp

/-- The first frame of the window of position `t`'s group of eight, rounded down to a multiple of eight. -/
def winBase (ds : IVec S16x512 32) (b : Fin 16) (t : ℕ) : ℕ := startOf ds b (t / 8 * 8) / 8 * 8

theorem startOf_bound (hd : ∀ b t, (ds (ValueIdx.ix2 b t)).toNat < 8) (b : Fin 16) (t : ℕ) : startOf ds b t ≤ 7 * t := by
  have := startOf_le ds hd b 0 t
  rw [Nat.zero_add] at this
  have z : startOf ds b 0 = 0 := rfl
  omega

theorem startOf_mono (b : Fin 16) (t k : ℕ) : startOf ds b t ≤ startOf ds b (t + k) := by
  induction k with
  | zero => rfl
  | succ k ih =>
    rw [← add_assoc]
    refine ih.trans ?_
    unfold startOf
    rw [Finset.sum_range_succ]
    omega

include h1 hd in
theorem pay8_value (b : Fin 16) (t : Fin 512) :
    k0_pay8 (F := Ideal) (iota .tc S512x512 32 [0] iota_S512x512_d0_w32) (k0_pay3 ds inv) k0_pay5 k0_pay6 k0_pay7 (ValueIdx.ix2 b t)
      = BitVec.ofNat 32 (winBase ds b t.val) := by
  have ht := t.isLt
  pointwise [k0_pay8, k0_pay5, k0_pay6, k0_pay7]
  have ht8 : IntOp.muli (BitVec.ofNat 32 (t.val / 8)) 8#32 = BitVec.ofNat 32 (t.val / 8 * 8) := (BitVec.ofNat_mul ..).symm
  have hb := startOf_bound ds hd b (t.val / 8 * 8)
  have hX : FloatOps.fptosi (F := Ideal) (φ := .f32) 32 (∑ x : Fin 512, (k0_pay3 (F := Ideal) ds inv (ValueIdx.ix2 b x) : EReal) *
      FloatOps.sitofp (F := Ideal) .f32 (BitVec.setWidth 32 (IntOp.cmpi .slt (BitVec.ofNat 32 x.val) (roundDown8 (BitVec.ofNat 32 t.val)))))
      = BitVec.ofNat 32 (startOf ds b (t.val / 8 * 8)) := by
    have hr : roundDown8 (BitVec.ofNat 32 t.val) = BitVec.ofNat 32 (t.val / 8 * 8) := by
      unfold roundDown8
      rw [floordiv_word (show t.val < 2 ^ 31 by omega), ht8]
    rw [hr, Finset.sum_congr rfl fun x _ => congrArg₂ (· * ·) (pay3_value ds inv h1 hd b x)
      (indicator_lt x.val (t.val / 8 * 8) (by omega) (by omega)), sum_before ds b _ (by omega), fptosi_nat (by omega)]
  refine (congrArg roundDown8 hX).trans ?_
  unfold roundDown8
  rw [floordiv_word (by omega)]
  exact (BitVec.ofNat_mul ..).symm

include h1 hd in
theorem packed_value (b : Fin 16) (t : Fin 512) : geomPacked (F := Ideal) ds inv (ValueIdx.ix2 b t)
    = BitVec.ofNat 32 (startOf ds b t.val - winBase ds b t.val + 256 * (ds (ValueIdx.ix2 b t)).toNat) := by
  have ht := t.isLt
  have hn := hd b t
  have hs := startOf_bound ds hd b t.val
  have hw : winBase ds b t.val ≤ startOf ds b t.val := by
    have := startOf_mono ds b (t.val / 8 * 8) (t.val - t.val / 8 * 8)
    rw [show t.val / 8 * 8 + (t.val - t.val / 8 * 8) = t.val from by omega] at this
    unfold winBase; omega
  have hl : startOf ds b t.val ≤ winBase ds b t.val + 56 := by
    have := startOf_le ds hd b (t.val / 8 * 8) (t.val - t.val / 8 * 8)
    rw [show t.val / 8 * 8 + (t.val - t.val / 8 * 8) = t.val from by omega] at this
    unfold winBase; omega
  pointwise [geomPacked, k0_pay9]
  rw [pay4_value ds inv h1 hd b t, pay2_value ds inv h1 hd b t, pay8_value ds inv h1 hd b t, fptosi_nat (by omega), fptosi_nat (by omega)]
  generalize startOf ds b t.val = s at *
  generalize winBase ds b t.val = w at *
  generalize (ds (ValueIdx.ix2 b t)).toNat = n at *
  have e : IntOp.subi (BitVec.ofNat 32 s) (BitVec.ofNat 32 w) = BitVec.ofNat 32 (s - w) := ofNat32_sub hw
  rw [e]
  have hk : s - w < 57 := by omega
  generalize s - w = k at *
  have key : ∀ k : Fin 57, ∀ n : Fin 8, IntOp.ori (BitVec.ofNat 32 k.val) (IntOp.shli ArithUnit.vector (BitVec.ofNat 32 n.val) 8#32) = BitVec.ofNat 32 (k.val + 256 * n.val) := by
    decide
  exact key ⟨k, hk⟩ ⟨n, hn⟩

include h1 hd in
theorem base_value (b : Fin 16) (t : Fin 512) : geomBase (F := Ideal) ds inv (ValueIdx.ix2 b t)
    = BitVec.ofNat 32 (b.val * 4096 + winBase ds b t.val) := by
  pointwise [geomBase, k0_pay1, k0_pay10]
  rw [pay8_value ds inv h1 hd b t]
  show IntOp.addi (BitVec.ofNat 32 b.val * BitVec.ofNat 32 4096) _ = _
  rw [← BitVec.ofNat_mul]
  exact (BitVec.ofNat_add ..).symm
end

end Cert.Proof.KI

end
-- ==== Proof.Layout.lean ====
/-
The buffers between the calls, read at an index.
-/
module

public import proofs.«01_k».proof.Proof.Main
public import proofs.«01_k».proof.Proof.GeomValue
public import Idealize.ShloMosaic.Lib.StableHlo.Run
public import Idealize.ShloMosaic.Lib.Pipeline.ValueKit
public import Idealize.ShloMosaic.Lib.IdealHost

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
variable (m : (ℓ : Loc nD τ sig) → Buf (Elt F) ℓ)

/-- The table the averaging call reads, of the packed words and the window bases. -/
def metaTable (P B : IVec S16x512 32) : IVec S1024x256 32 :=
  concatenate S1024x256 1
    [⟨S1024x128, shapeCast S1024x128 (broadcastInDim S1024x8x16 ![0, 1, 2] bcast_S1024x8x1_S1024x8x16_0_1_2
        (broadcastInDim S1024x8x1 ![0, 1] bcast_S1024x8_S1024x8x1_0_1 (shapeCast S1024x8 P shapeCasts_S16x512_S1024x8))) shapeCasts_S1024x8x16_S1024x128⟩,
     ⟨S1024x128, shapeCast S1024x128 (broadcastInDim S1024x8x16 ![0, 1, 2] bcast_S1024x8x1_S1024x8x16_0_1_2
        (broadcastInDim S1024x8x1 ![0, 1] bcast_S1024x8_S1024x8x1_0_1 (shapeCast S1024x8 B shapeCasts_S16x512_S1024x8))) shapeCasts_S1024x8x16_S1024x128⟩]
    concatenates_S1024x128_S1024x128_S1024x256_d1

/-- The number the durations are multiplied by. -/
def scaleOf (L : IVec S_ 32) : Vec F S1x1 .f32 :=
  shapeCast S1x1 (Host.divf (constant S_ .f32 0x45800000#32) (sitofp .f32 L)) shapeCasts_S_S1x1

/-- The durations at the start. -/
abbrev dsOf (d : Dev nD) : IVec S16x512 32 := m (d, Proc.devRef .tc main_arg1)
/-- The frame count at the start. -/
abbrev lenOf (d : Dev nD) : IVec S_ 32 := m (d, Proc.devRef .tc main_arg2)

theorem val1_scale (d : Dev nD) : val1 m d (Proc.devRef .tc main_v2) = scaleOf (lenOf m d) := by
  unfold val1 val0 lineA
  after_results
  rfl

theorem val1_ds (d : Dev nD) : val1 m d (Proc.devRef .tc main_arg1) = dsOf m d := by
  unfold val1 val0 lineA
  after_results

theorem metaOf_eq (d : Dev nD) : metaOf m d
    = metaTable (geomPacked (dsOf m d) (scaleOf (F := F) (lenOf m d))) (geomBase (dsOf m d) (scaleOf (F := F) (lenOf m d))) := by
  rw [← val1_scale m d, ← val1_ds m d]
  unfold metaOf val3 lineB
  after_results
  rfl

theorem framesOf_eq (d : Dev nD) : framesOf m d = shapeCast S65536x512 (m (d, Proc.devRef .tc main_arg0)) shapeCasts_S16x4096x512_S65536x512 := by
  unfold framesOf val3 lineB val2 val1 lineA val0
  after_results
  rfl

theorem metaTable_packed (P B : IVec S16x512 32) (r : Fin 1024) (c : Fin 256) (hc : c.val < 128) :
    metaTable P B (ValueIdx.ix2 r c)
      = P (ValueIdx.ix2 ⟨(8 * r.val + c.val / 16) / 512, by omega⟩ ⟨(8 * r.val + c.val / 16) % 512, Nat.mod_lt _ (by decide)⟩) := by
  pointwise [metaTable]
  rw [dif_pos (show ((ValueIdx.ix2 r c) 1).val < 128 from hc)]
  refine congrArg P (congrArg₂ ValueIdx.ix2 (Fin.ext ?_) (Fin.ext ?_))
  · show r.val / 64 = (8 * r.val + c.val / 16) / 512; omega
  · show r.val % 64 * 8 + c.val / 16 = (8 * r.val + c.val / 16) % 512; omega

theorem metaTable_base (P B : IVec S16x512 32) (r : Fin 1024) (c : Fin 256) (hc : c.val = 128) :
    metaTable P B (ValueIdx.ix2 r c)
      = B (ValueIdx.ix2 ⟨(8 * r.val) / 512, by omega⟩ ⟨(8 * r.val) % 512, Nat.mod_lt _ (by decide)⟩) := by
  pointwise [metaTable]
  rw [dif_neg (show ¬ ((ValueIdx.ix2 r c) 1).val < 128 from by show ¬ c.val < 128; omega)]
  refine congrArg B (congrArg₂ ValueIdx.ix2 (Fin.ext ?_) (Fin.ext ?_))
  · show r.val / 64 = (8 * r.val) / 512; omega
  · show r.val % 64 * 8 + (c.val - 128) / 16 = (8 * r.val) % 512; omega
end
theorem scaleOf_one (L : IVec S_ 32) (hL : L ValueIdx.ix0 = 4096#32) : scaleOf (F := Ideal) L (ValueIdx.ix2 0 0) = (1 : EReal) := by
  pointwise [scaleOf]
  rw [show L Idealize.ShloMosaic.ix0 = 4096#32 from hL, sitofp_word _ (by decide)]
  have h1 : Ideal.ofBits .f32 1166016512#32 = (((4096 : ℝ)) : EReal) := by
    simp [Ideal.ofBits, Ideal.ieee]
    rw [← EReal.coe_mul]
    congr 1
    rw [mul_inv_eq_iff_eq_mul₀ (pow_ne_zero _ two_ne_zero)]
    exact_mod_cast (by decide : (8388608 : ℕ) = 4096 * 2 ^ 11)
  have h4 : (4096 : ℝ) ≠ 0 := by exact_mod_cast (by decide : (4096 : ℕ) ≠ 0)
  rw [h1, show (((4096#32 : BitVec 32).toNat : ℝ)) = (4096 : ℝ) from by simp, Ideal.div_coe h4, ← EReal.coe_mul, mul_one_div_cancel h4]
  rfl

end Cert.Proof.KI

end
-- ==== Proof.Drawn.lean ====
/-
The drawn inputs give a table whose words name segments inside the frames.
-/
module

public import proofs.«01_k».proof.Proof.Layout
public import Idealize.ShloMosaic.Lib.ReduceAll
public import Idealize.ShloMosaic.Lib.StableHlo.Predicate
public import proofs.«01_k».proof.Defs

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
/-- What the drawn inputs satisfy: durations below eight, 4096 frames. -/
structure Drawn (ds : IVec S16x512 32) (L : IVec S_ 32) : Prop where
  dur : ∀ b t, (ds (ValueIdx.ix2 b t)).toNat < 8
  len : L ValueIdx.ix0 = 4096#32

theorem and_one : ∀ {x y : BitVec 1}, IntOp.andi x y = 1#1 → x = 1#1 ∧ y = 1#1 := by decide

theorem small_of_range {w : BitVec 32} (h0 : IntOp.cmpi .sge w 0#32 = 1#1) (h8 : IntOp.cmpi .slt w 8#32 = 1#1) : w.toNat < 8 := by
  have e0 : (0#32 : BitVec 32).sle w = true := (StableHlo.Predicate.ofBool_eq_one_iff _).1 h0
  have e8 : w.slt 8#32 = true := (StableHlo.Predicate.ofBool_eq_one_iff _).1 h8
  rw [BitVec.sle_eq_decide, decide_eq_true_eq] at e0
  rw [BitVec.slt_eq_decide, decide_eq_true_eq] at e8
  have z : (0#32 : BitVec 32).toInt = 0 := by decide
  have e : (8#32 : BitVec 32).toInt = 8 := by decide
  rw [z] at e0
  rw [e] at e8
  rw [BitVec.toInt_eq_toNat_cond] at e0 e8
  split at e0 <;> omega

theorem drawn_of_pre [Cert.Pre_drawn.Facts] {x : FVec Ideal S16x4096x512 .f32} {ds : IVec S16x512 32} {L : IVec S_ 32} {w1 : FVec Ideal S256x512 .f32}
    {b1 : FVec Ideal S256 .f32} {w2 : FVec Ideal S3x256 .f32} {b2 : FVec Ideal S3 .f32}
    (h : Cert.Pre_drawn.fn x ds L w1 b1 w2 b2 = fun _ => 1#1) : Drawn ds L := by
  obtain ⟨ha, hl⟩ := and_one (congrFun h ValueIdx.ix0)
  refine ⟨fun b t => ?_, StableHlo.Predicate.cmpi_eq_iff.1 hl⟩
  haveI : Subsingleton (Cert.Pre_drawn.S_).Idx := ⟨fun a b => funext fun i => i.elim0⟩
  obtain ⟨h0, h8⟩ := and_one (Host.reduce_andi_all _ _ _ _ _ ha (ValueIdx.ix2 b t))
  exact small_of_range h0 h8

variable {ds : IVec S16x512 32} {L : IVec S_ 32} (h : Drawn ds L)

/-- The table the averaging call reads. -/
abbrev tableOf (ds : IVec S16x512 32) (L : IVec S_ 32) : IVec S1024x256 32 :=
  metaTable (geomPacked (F := Ideal) ds (scaleOf L)) (geomBase (F := Ideal) ds (scaleOf L))

include h in
theorem row_word (r j : ℕ) (hj : j < 8) :
    segWord (F := Ideal) (metaRow (F := Ideal) (tableOf ds L) r) j
      = BitVec.ofNat 32 (startOf ds ⟨(8 * (r % 1024) + j) / 512, by omega⟩ ((8 * (r % 1024) + j) % 512)
          - winBase ds ⟨(8 * (r % 1024) + j) / 512, by omega⟩ ((8 * (r % 1024) + j) % 512)
          + 256 * (ds (ValueIdx.ix2 ⟨(8 * (r % 1024) + j) / 512, by omega⟩ ⟨(8 * (r % 1024) + j) % 512, Nat.mod_lt _ (by decide)⟩)).toNat) := by
  show metaTable _ _ (ValueIdx.ix2 ⟨r % 1024, _⟩ ⟨16 * j % 256, _⟩) = _
  have e : 16 * j % 256 = 16 * j := Nat.mod_eq_of_lt (by omega)
  have e16 : 16 * j % 256 / 16 = j := by omega
  rw [metaTable_packed _ _ _ _ (by show 16 * j % 256 < 128; omega), packed_value ds _ (scaleOf_one L h.len) h.dur]
  simp only [e16]

include h in
theorem row_base (r : ℕ) :
    baseWord (F := Ideal) (metaRow (F := Ideal) (tableOf ds L) r)
      = BitVec.ofNat 32 (8 * (r % 1024) / 512 * 4096 + winBase ds ⟨8 * (r % 1024) / 512, by omega⟩ (8 * (r % 1024) % 512)) := by
  show metaTable _ _ (ValueIdx.ix2 ⟨r % 1024, _⟩ ⟨128, _⟩) = _
  rw [metaTable_base _ _ _ _ rfl, base_value ds _ (scaleOf_one L h.len) h.dur]

include h in
theorem winBase_bounds (b : Fin 16) (t : ℕ) (ht : t < 512) :
    winBase ds b t ≤ startOf ds b t ∧ startOf ds b t ≤ winBase ds b t + 7 * (t % 8) + 7 ∧ winBase ds b t ≤ 3528 ∧ 8 ∣ winBase ds b t := by
  have h1 := startOf_mono ds b (t / 8 * 8) (t - t / 8 * 8)
  have h2 := startOf_le ds h.dur b (t / 8 * 8) (t - t / 8 * 8)
  have h3 := startOf_bound ds h.dur b (t / 8 * 8)
  rw [show t / 8 * 8 + (t - t / 8 * 8) = t from by omega] at h1 h2
  unfold winBase
  refine ⟨by omega, by omega, by omega, Dvd.intro_left _ rfl⟩

include h in
theorem row_seg (r j : ℕ) (hj : j < 8) :
    SegWord (segWord (F := Ideal) (metaRow (F := Ideal) (tableOf ds L) r) j)
      (startOf ds ⟨(8 * (r % 1024) + j) / 512, by omega⟩ ((8 * (r % 1024) + j) % 512)
          - winBase ds ⟨(8 * (r % 1024) + j) / 512, by omega⟩ ((8 * (r % 1024) + j) % 512))
      (ds (ValueIdx.ix2 ⟨(8 * (r % 1024) + j) / 512, by omega⟩ ⟨(8 * (r % 1024) + j) % 512, Nat.mod_lt _ (by decide)⟩)).toNat := by
  have hb := winBase_bounds h ⟨(8 * (r % 1024) + j) / 512, by omega⟩ ((8 * (r % 1024) + j) % 512) (Nat.mod_lt _ (by decide))
  have hn := h.dur ⟨(8 * (r % 1024) + j) / 512, by omega⟩ ⟨(8 * (r % 1024) + j) % 512, Nat.mod_lt _ (by decide)⟩
  constructor
  · rw [row_word h r j hj, BitVec.toNat_ofNat]
    omega
  · omega

include h in
theorem words_ok : WordsOK (F := Ideal) (tableOf ds L) := by
  refine ⟨fun r j hj => ⟨_, _, row_seg h r j hj⟩, fun r => ?_⟩
  have hb := winBase_bounds h ⟨8 * (r % 1024) / 512, by omega⟩ (8 * (r % 1024) % 512) (Nat.mod_lt _ (by decide))
  have e : (baseWord (F := Ideal) (metaRow (F := Ideal) (tableOf ds L) r)).toNat
      = 8 * (r % 1024) / 512 * 4096 + winBase ds ⟨8 * (r % 1024) / 512, by omega⟩ (8 * (r % 1024) % 512) := by
    rw [row_base h r, BitVec.toNat_ofNat]
    omega
  constructor
  · rw [e]; omega
  · rw [e]; omega
end

end Cert.Proof.KI

end
-- ==== Proof.Frames.lean ====
/-
The frame claims: the kernel and the reference run, keep their arguments, and leave every counter at zero.
-/
module

public import proofs.«01_k».proof.Proof.Drawn
public import Idealize.ShloMosaic.Lib.Quiescent
public import Idealize.ShloMosaic.Lib.StableHlo.RunRead
public import proofs.«01_k».proof.Proof.Gen.Pre_drawn
public import proofs.«01_k».proof.Proof.Gen.ReferenceIdeal.Run

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
open Idealize.ShloMosaic.TcCoe

variable (m : (ℓ : Loc nD τ sig) → Buf (Elt Ideal) ℓ)

theorem devRef_ne {r b : Ref sig .tc} (hb : r ≠ b) : (Proc.devRef .tc r : DevRef τ sig) ≠ Proc.devRef .tc b :=
  fun e => hb (Proc.devRef_injective _ e)

/-- A buffer not written by the end of the averaging call then holds what it held at the start. -/
theorem val4_keep (d : Dev nD) (r : Ref sig .tc) (hA : r ∉ [main_v0, main_cst, main_v1, main_v2])
    (hB : r ∉ [main_v4, main_v5, main_v6, main_v7, main_v8, main_v9, main_v10, main_v11, main_v12, main_v13])
    (h0 : r ≠ main_v3_0) (h1 : r ≠ main_v3_1) (h2 : r ≠ main_v14) :
    val4 m d (Proc.devRef .tc r) = m (d, Proc.devRef .tc r) := by
  have a1 : val4 m d (Proc.devRef .tc r) = val3 m d (Proc.devRef .tc r) := Function.update_of_ne (devRef_ne h2) _ _
  have b3 : val3 m d (Proc.devRef .tc r) = val2 m d (Proc.devRef .tc r) := StableHlo.after_unwritten _ rfl hB _
  have b2 : val2 m d (Proc.devRef .tc r) = val1 m d (Proc.devRef .tc r) :=
    (Function.update_of_ne (devRef_ne h1) _ _).trans (Function.update_of_ne (devRef_ne h0) _ _)
  have b1 : val1 m d (Proc.devRef .tc r) = val0 m d (Proc.devRef .tc r) := StableHlo.after_unwritten _ rfl hA _
  rw [a1, b3, b2, b1]
  rfl

/-- A buffer the program does not write ends as it began. -/
theorem val7_keep (d : Dev nD) (r : Ref sig .tc) (hA : r ∉ [main_v0, main_cst, main_v1, main_v2])
    (hB : r ∉ [main_v4, main_v5, main_v6, main_v7, main_v8, main_v9, main_v10, main_v11, main_v12, main_v13])
    (hC : r ∉ [main_v15, main_v16]) (hD : r ∉ [main_v18]) (h0 : r ≠ main_v3_0) (h1 : r ≠ main_v3_1) (h2 : r ≠ main_v14) (h3 : r ≠ main_v17) :
    val7 m d (Proc.devRef .tc r) = m (d, Proc.devRef .tc r) := by
  have a4 : val7 m d (Proc.devRef .tc r) = val6 m d (Proc.devRef .tc r) := StableHlo.after_unwritten _ rfl hD _
  have a3 : val6 m d (Proc.devRef .tc r) = val5 m d (Proc.devRef .tc r) := Function.update_of_ne (devRef_ne h3) _ _
  have a2 : val5 m d (Proc.devRef .tc r) = val4 m d (Proc.devRef .tc r) := StableHlo.after_unwritten _ rfl hC _
  rw [a4, a3, a2, val4_keep m d r hA hB h0 h1 h2]

local instance : Cert.Pre_drawn.Facts := Cert.Pre_drawn.Gen.facts
local instance : Cert.KernelIdeal.Facts := Cert.KernelIdeal.Gen.facts
local instance : Cert.ReferenceIdeal.Facts := Cert.ReferenceIdeal.Gen.facts

theorem drawn_of (hp : Cert.Pre_KernelIdeal m) (d : Dev nD) : Drawn (dsOf m d) (lenOf m d) := drawn_of_pre (hp d)

theorem words_of (hp : Cert.Pre_KernelIdeal m) (d : Dev nD) : WordsOK (metaOf m d) := by
  rw [metaOf_eq]
  exact words_ok (drawn_of m hp d)

/-- The kernel's run from drawn inputs, read at the result and the arguments. -/
theorem run_drawn (hp : Cert.Pre_KernelIdeal m) (g : Dev nD → PrngReg) :
    θ_run (Cert.KernelIdeal.defs (F := Ideal)) (Cert.KernelIdeal.threads (F := Ideal)) ⟨m, fun _ => 0, g⟩ (fun r =>
      (∀ c : Dev nD, r.2.mem ((c.tc : Thread nD τ).loc main_v18) = val7 m c (Proc.devRef .tc main_v18)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) := by
  refine (θ_run _ _ _).mono (fun r h => ⟨fun c => ⟨h.1 c _ (mem_ucRefs (by decide)), ?_, ?_, ?_, ?_, ?_, ?_, ?_⟩, h.2⟩) (run_main m g (words_of m hp))
  · exact (h.1 c _ (mem_ucRefs (by decide))).trans (val7_keep m c main_arg0 (by decide) (by decide) (by decide) (by decide) (by decide) (by decide) (by decide) (by decide))
  · exact (h.1 c _ (mem_ucRefs (by decide))).trans (val7_keep m c main_arg1 (by decide) (by decide) (by decide) (by decide) (by decide) (by decide) (by decide) (by decide))
  · exact (h.1 c _ (mem_ucRefs (by decide))).trans (val7_keep m c main_arg2 (by decide) (by decide) (by decide) (by decide) (by decide) (by decide) (by decide) (by decide))
  · exact (h.1 c _ (mem_ucRefs (by decide))).trans (val7_keep m c main_arg3 (by decide) (by decide) (by decide) (by decide) (by decide) (by decide) (by decide) (by decide))
  · exact (h.1 c _ (mem_ucRefs (by decide))).trans (val7_keep m c main_arg4 (by decide) (by decide) (by decide) (by decide) (by decide) (by decide) (by decide) (by decide))
  · exact (h.1 c _ (mem_ucRefs (by decide))).trans (val7_keep m c main_arg5 (by decide) (by decide) (by decide) (by decide) (by decide) (by decide) (by decide) (by decide))
  · exact (h.1 c _ (mem_ucRefs (by decide))).trans (val7_keep m c main_arg6 (by decide) (by decide) (by decide) (by decide) (by decide) (by decide) (by decide) (by decide))

/-- The kernel runs, keeps its arguments, and leaves every counter at zero. -/
theorem frame_kernel : Cert.quiescent_KernelIdeal := fun m g hp =>
  (θ_run _ _ _).mono (fun r h => ⟨fun c => (h.1 c).2, h.2⟩) (run_drawn m hp g)

/-- The reference likewise. -/
theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

end

end Cert.Proof.KI

end
-- ==== Proof.RefStages.lean ====
/-
The reference in stages: steps, ends, segment numbers, membership, means, linear maps.
-/
module

public import proofs.«01_k».proof.Proof.Gen.ReferenceIdeal.Run
public import Idealize.ShloMosaic.Lib.Pipeline.ValueKit
public import Idealize.ShloMosaic.Lib.IdealHost

@[expose] public section

noncomputable section

namespace Cert.Proof.Ref

open Cert.ReferenceIdeal Cert.ReferenceIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

section
/-- The frames of each position. -/
def refStep (ds : IVec S16x512 32) (L : IVec S_ 32) : IVec S16x512 32 :=
  select (cmpi .sgt ds (broadcastInDim S16x512 ![] bcast_S_S16x512 (constantI S_ 32 0#32)))
    (maxsi (fptosi 32 (Host.floor (mulf (sitofp .f32 ds) (broadcastInDim S16x512 ![] bcast_S_S16x512
      (Host.divf (F := Ideal) (constant S_ .f32 0x45800000#32) (sitofp .f32 L))))))
      (broadcastInDim S16x512 ![] bcast_S_S16x512 (constantI S_ 32 1#32)))
    (broadcastInDim S16x512 ![] bcast_S_S16x512 (id (constantI S_ 32 0#32)))

/-- The frames up to and including each position. -/
def refEnds (step : IVec S16x512 32) : IVec S16x512 32 :=
  Host.reduceWindow IntOp.addi ![1, 512] ![1, 1] ![0, 511] ![0, 0] step (broadcastInDim S_ ![] bcast_S_S_ (constantI S_ 32 0#32))
    reduceWindows_S16x512_S16x512_w1s1p0_0_w512s1p511_0 h_S_

/-- How many ends are at or before each frame. -/
def refCount (ends : IVec S16x512 32) : IVec S16x4096 32 :=
  Host.reduce IntOp.addi (extui 32 (cmpi .sle
      (broadcastInDim S16x4096x512 ![0, 1, 2] bcast_S16x1x512_S16x4096x512_0_1_2 (broadcastInDim S16x1x512 ![0, 2] bcast_S16x512_S16x1x512_0_2 ends))
      (broadcastInDim S16x4096x512 ![0, 1, 2] bcast_S1x4096x1_S16x4096x512_0_1_2 (broadcastInDim S1x4096x1 ![1] bcast_S4096_S1x4096x1_1 (iotaInDim S4096 32 0))))
    natLt_1_32) (constantI S_ 32 0#32) reducesTo_S16x4096x512_S16x4096_d2 h_S_

/-- The position each frame belongs to, 512 for none. -/
def refSeg (ends : IVec S16x512 32) : IVec S16x4096 32 :=
  select (cmpi .slt (broadcastInDim S16x4096 ![0, 1] bcast_S1x4096_S16x4096_0_1 (broadcastInDim S1x4096 ![1] bcast_S4096_S1x4096_1 (iotaInDim S4096 32 0)))
      (broadcastInDim S16x4096 ![0, 1] bcast_S16x1_S16x4096_0_1 (extractStridedSlice S16x1 ![0, 511] ends slices_S16x512_S16x1_0_511)))
    (refCount ends) (broadcastInDim S16x4096 ![] bcast_S_S16x4096 (id (constantI S_ 32 512#32)))

/-- One where a frame belongs to a position. -/
def refMember (seg : IVec S16x4096 32) : FVec Ideal S16x512x4096 .f32 :=
  uitofp .f32 (cmpi .eq
    (broadcastInDim S16x512x4096 ![0, 1, 2] bcast_S16x1x4096_S16x512x4096_0_1_2 (broadcastInDim S16x1x4096 ![0, 2] bcast_S16x4096_S16x1x4096_0_2 seg))
    (broadcastInDim S16x512x4096 ![0, 1, 2] bcast_S1x512x1_S16x512x4096_0_1_2 (broadcastInDim S1x512x1 ![1] bcast_S512_S1x512x1_1 (iotaInDim S512 32 0))))

/-- The means. -/
def refAvg (ds : IVec S16x512 32) (member : FVec Ideal S16x512x4096 .f32) (x : FVec Ideal S16x4096x512 .f32) : FVec Ideal S16x512x512 .f32 :=
  select (broadcastInDim S16x512x512 ![0, 1, 2] bcast_S16x512x1_S16x512x512_0_1_2 (broadcastInDim S16x512x1 ![0, 1] bcast_S16x512_S16x512x1_0_1
      (cmpi .sgt ds (broadcastInDim S16x512 ![] bcast_S_S16x512 (constantI S_ 32 0#32)))))
    (Host.divf (Host.dotGeneral dot_S16x512x4096_S16x4096x512_S16x512x512_2_1_1_2_0_0 none member x)
      (broadcastInDim S16x512x512 ![0, 1, 2] bcast_S16x512x1_S16x512x512_0_1_2 (broadcastInDim S16x512x1 ![0, 1] bcast_S16x512_S16x512x1_0_1
        (maximumf (Host.reduceAdd member (constant S_ .f32 0x00000000#32) reducesTo_S16x512x4096_S16x512_d2 h_S_)
          (broadcastInDim S16x512 ![] bcast_S_S16x512 (constant S_ .f32 0x3F800000#32))))))
    (broadcastInDim S16x512x512 ![] bcast_S_S16x512x512 (id (constant S_ .f32 0x00000000#32)))

/-- The linear maps. -/
def refOut (avg : FVec Ideal S16x512x512 .f32) (W1 : FVec Ideal S256x512 .f32) (b1 : FVec Ideal S256 .f32) (W2 : FVec Ideal S3x256 .f32)
    (b2 : FVec Ideal S3 .f32) : FVec Ideal S16x512x3 .f32 :=
  maximumf (addf (Host.dotGeneral dot_S16x512x256_S256x3_S16x512x3_2_0_01_1_n_n none
      (maximumf (addf (Host.dotGeneral dot_S16x512x512_S512x256_S16x512x256_2_0_01_1_n_n none avg (transpose S512x256 [1, 0] W1 transposes_S256x512_S512x256_1_0))
          (broadcastInDim S16x512x256 ![0, 1, 2] bcast_S1x1x256_S16x512x256_0_1_2 (broadcastInDim S1x1x256 ![2] bcast_S256_S1x1x256_2 b1)))
        (broadcastInDim S16x512x256 ![] bcast_S_S16x512x256 (constant S_ .f32 0x00000000#32)))
      (transpose S256x3 [1, 0] W2 transposes_S3x256_S256x3_1_0))
    (broadcastInDim S16x512x3 ![0, 1, 2] bcast_S1x1x3_S16x512x3_0_1_2 (broadcastInDim S1x1x3 ![2] bcast_S3_S1x1x3_2 b2)))
    (broadcastInDim S16x512x3 ![] bcast_S_S16x512x3 (constant S_ .f32 0x00000000#32))

theorem ref_eq (m : (ℓ : Loc nD τ sig) → Buf (Elt Ideal) ℓ) (c : Dev nD) :
    Cert.ReferenceIdeal.Value.res_main_v56 (F := Ideal) m c
      = refOut (refAvg (m ((c.tc : Thread nD τ).loc main_arg1))
          (refMember (refSeg (refEnds (refStep (m ((c.tc : Thread nD τ).loc main_arg1)) (m ((c.tc : Thread nD τ).loc main_arg2))))))
          (m ((c.tc : Thread nD τ).loc main_arg0)))
        (m ((c.tc : Thread nD τ).loc main_arg3)) (m ((c.tc : Thread nD τ).loc main_arg4)) (m ((c.tc : Thread nD τ).loc main_arg5))
        (m ((c.tc : Thread nD τ).loc main_arg6)) := by
  unfold Cert.ReferenceIdeal.Value.res_main_v56
  rfl
end

end Cert.Proof.Ref

end
-- ==== Proof.RefMath.lean ====
/-
Two counts used to read the reference: the ends at or before a frame, and a sum over the frames of one segment.
-/
module

public import proofs.«01_k».proof.Proof.GeomValue

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- Frame `l` lies in segment `t` exactly when `t` ends are at or before it. -/
theorem count_ends (s : ℕ → ℕ) (hm : Monotone s) (l : ℕ) {t : ℕ} (ht : t < 512) (h1 : s t ≤ l) (h2 : l < s (t + 1)) :
    (Finset.univ.filter fun u : Fin 512 => s (u.val + 1) ≤ l).card = t := by
  have e : (Finset.univ.filter fun u : Fin 512 => s (u.val + 1) ≤ l) = Finset.Iio (⟨t, ht⟩ : Fin 512) := by
    ext u
    rw [Finset.mem_filter, Finset.mem_Iio, Fin.lt_def]
    refine ⟨fun h => ?_, fun h => ⟨Finset.mem_univ _, (hm (Nat.succ_le_of_lt h)).trans h1⟩⟩
    by_contra hc
    exact absurd h.2 (Nat.not_le.2 (h2.trans_le (hm (Nat.succ_le_succ (Nat.le_of_not_lt hc)))))
  rw [e, Fin.card_Iio]

/-- A frame before the last end lies in some segment. -/
theorem exists_segment (s : ℕ → ℕ) (h0 : s 0 = 0) (l : ℕ) (hl : l < s 512) : ∃ t, t < 512 ∧ s t ≤ l ∧ l < s (t + 1) := by
  classical
  have hex : ∃ k, l < s (k + 1) := ⟨511, hl⟩
  have hle : Nat.find hex ≤ 511 := Nat.find_min' hex hl
  refine ⟨Nat.find hex, by omega, ?_, Nat.find_spec hex⟩
  rcases Nat.eq_zero_or_pos (Nat.find hex) with hz | hz
  · rw [hz, h0]
    exact Nat.zero_le _
  · have := Nat.find_min hex (m := Nat.find hex - 1) (by omega)
    rw [Nat.sub_add_cancel hz] at this
    omega

/-- The segment number of a frame is `t` exactly when the frame lies in segment `t`. -/
theorem segment_iff (s : ℕ → ℕ) (hm : Monotone s) (h0 : s 0 = 0) (l : ℕ) {t : ℕ} (ht : t < 512) :
    (if l < s 512 then (Finset.univ.filter fun u : Fin 512 => s (u.val + 1) ≤ l).card else 512) = t ↔ s t ≤ l ∧ l < s (t + 1) := by
  constructor
  · intro h
    split at h
    · next hl =>
      obtain ⟨t', ht', h1, h2⟩ := exists_segment s h0 l hl
      rw [count_ends s hm l ht' h1 h2] at h
      exact h ▸ ⟨h1, h2⟩
    · omega
  · rintro ⟨h1, h2⟩
    rw [if_pos (h2.trans_le (hm (Nat.succ_le_of_lt ht))), count_ends s hm l ht h1 h2]

/-- A sum over all frames, weighted by membership in a segment, is the sum over the segment. -/
theorem sum_segment (g : Fin 4096 → EReal) (S n : ℕ) (h : S + n ≤ 4096) :
    ∑ l : Fin 4096, (if S ≤ l.val ∧ l.val < S + n then (1 : EReal) else 0) * g l
      = ∑ i ∈ Finset.range n, g ⟨(S + i) % 4096, Nat.mod_lt _ (by omega)⟩ := by
  have e : ∀ l : Fin 4096, (if S ≤ l.val ∧ l.val < S + n then (1 : EReal) else 0) * g l
      = if S ≤ l.val ∧ l.val < S + n then g l else 0 := by
    intro l
    split
    · exact one_mul _
    · exact zero_mul _
  rw [Finset.sum_congr rfl fun l _ => e l, ← Finset.sum_filter]
  symm
  refine Finset.sum_nbij (fun i => (⟨(S + i) % 4096, Nat.mod_lt _ (by omega)⟩ : Fin 4096)) ?_ ?_ ?_ ?_
  · intro i hi
    have hi := Finset.mem_range.1 hi
    have := Nat.mod_eq_of_lt (show S + i < 4096 by omega)
    exact Finset.mem_filter.2 ⟨Finset.mem_univ _, by show S ≤ (S + i) % 4096 ∧ (S + i) % 4096 < S + n; omega⟩
  · intro i hi j hj hij
    have hi : i < n := Finset.mem_range.1 hi
    have hj : j < n := Finset.mem_range.1 hj
    have h1 := Nat.mod_eq_of_lt (show S + i < 4096 by omega)
    have h2 := Nat.mod_eq_of_lt (show S + j < 4096 by omega)
    have h3 : (S + i) % 4096 = (S + j) % 4096 := congrArg Fin.val hij
    omega
  · intro l hl
    have hl := (Finset.mem_filter.1 hl).2
    refine ⟨l.val - S, Finset.mem_coe.2 (Finset.mem_range.2 (by omega)), Fin.ext ?_⟩
    have hb := l.isLt
    have h1 := Nat.mod_eq_of_lt (show S + (l.val - S) < 4096 by omega)
    show (S + (l.val - S)) % 4096 = l.val
    omega
  · intro i _
    rfl

end Cert.Proof.KI

end
-- ==== Proof.KernelValue.lean ====
/-
The kernel's result, read at an index.
-/
module

public import proofs.«01_k».proof.Proof.Frames

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section
variable (sv : Vec Ideal S64x512 .f32)

theorem pay58_value (l : Fin 16) : k1_pay58 (F := Ideal) (ValueIdx.ix1 l) = (0 : EReal) := by
  pointwise [k1_pay58]

theorem pay4_add (a b : FVec Ideal S16 .f32) (l : Fin 16) : k1_pay4 (F := Ideal) a b (ValueIdx.ix1 l) = (a (ValueIdx.ix1 l) + b (ValueIdx.ix1 l) : EReal) := by
  pointwise [k1_pay4]

/-- A lane of a segment's sum is the sum of that lane over the segment's rows. -/
theorem accV_value (o n j : ℕ) (l : Fin 16) :
    accV sv o n j (ValueIdx.ix1 l) = (∑ i ∈ Finset.range n, (lanes sv (o + i) j (ValueIdx.ix1 l) : EReal)) := by
  induction n with
  | zero => exact pay58_value l
  | succ n ih =>
    rw [Finset.sum_range_succ, ← ih]
    exact pay4_add _ _ l

theorem recipV_value {w : BitVec 32} {o n : ℕ} (h : SegWord w o n) (l : Fin 16) :
    recipV (F := Ideal) w (ValueIdx.ix1 l) = Ideal.div 1 (((max n 1 : ℕ) : ℝ) : EReal) := by
  have hn : n < 2 ^ 31 := by have := h.le; omega
  unfold recipV
  rw [h.shr]
  pointwise []
  have e : Scalar.maxsi (BitVec.ofNat 32 n) 1#32 = BitVec.ofNat 32 (max n 1) := by
    show IntOp.maxsi (BitVec.ofNat 32 n) (BitVec.ofNat 32 1) = _
    unfold IntOp.maxsi
    rw [Routing.slt_ofNat32 (by decide) hn]
    rcases Nat.lt_or_ge 1 n with h1 | h1
    · rw [decide_eq_true h1, max_eq_left h1.le]; rfl
    · rw [decide_eq_false (by omega), max_eq_right h1]; rfl
  have hm : max n 1 < 2 ^ 31 := max_lt hn (by decide)
  have hN : (BitVec.ofNat 32 (max n 1)).toNat = max n 1 := by rw [BitVec.toNat_ofNat]; omega
  rw [e, sitofp_word _ (by rw [hN]; exact hm), hN]

/-- The two linear maps, each cut off below at zero. -/
def twoLayers (A : Fin 512 → EReal) (W1 : FVec Ideal S256x512 .f32) (b1 : FVec Ideal S256 .f32) (W2 : FVec Ideal S3x256 .f32)
    (b2 : FVec Ideal S3 .f32) (k : Fin 3) : EReal :=
  max (∑ x : Fin 256, max (∑ c : Fin 512, A c * (W1 (ValueIdx.ix2 x c) : EReal) + (b1 (ValueIdx.ix1 x) : EReal)) 0 * (W2 (ValueIdx.ix2 k x) : EReal)
    + (b2 (ValueIdx.ix1 k) : EReal)) 0

theorem mlp_value (X : Vec Ideal S8192x512 .f32) (W1 : Vec Ideal S256x512 .f32) (b1 : FVec Ideal S256 .f32) (W2 : Vec Ideal S3x256 .f32)
    (b2 : FVec Ideal S3 .f32) (r : Fin 8192) (k : Fin 3) :
    mlpOut X W1 (shapeCast S1x256 b1 shapeCasts_S256_S1x256) W2 (shapeCast S1x3 b2 shapeCasts_S3_S1x3) (ValueIdx.ix2 r k)
      = twoLayers (fun c => X (ValueIdx.ix2 r c)) W1 b1 W2 b2 k := by
  unfold mlpOut
  pointwise [k2_pay1]
  have er : ∀ c, (ValueIdx.ix2 ⟨1024 * (r.val / 1024) + r.val % 1024, by omega⟩ c : S8192x512.Idx) = ValueIdx.ix2 r c := fun c =>
    congrArg (fun q => ValueIdx.ix2 q c) (Fin.ext (Nat.div_add_mod r.val 1024))
  show max (∑ x : Fin 256, max (∑ c : Fin 512, (X (ValueIdx.ix2 ⟨1024 * (r.val / 1024) + r.val % 1024, _⟩ c) : EReal) * (W1 (ValueIdx.ix2 x c) : EReal)
    + (b1 (ValueIdx.ix1 x) : EReal)) 0 * (W2 (ValueIdx.ix2 k x) : EReal) + (b2 (ValueIdx.ix1 k) : EReal)) 0 = _
  simp only [er]
  rfl

theorem frames_value (x : FVec Ideal S16x4096x512 .f32) (r : Fin 65536) (c : Fin 512) :
    shapeCast S65536x512 x shapeCasts_S16x4096x512_S65536x512 (ValueIdx.ix2 r c)
      = x (ValueIdx.ix3 ⟨r.val / 4096, by omega⟩ ⟨r.val % 4096, Nat.mod_lt _ (by decide)⟩ c) := by
  pointwise []
  rfl

theorem out_value (x : FVec Ideal S8192x3 .f32) (b : Fin 16) (t : Fin 512) (k : Fin 3) :
    shapeCast S16x512x3 x shapeCasts_S8192x3_S16x512x3 (ValueIdx.ix3 b t k)
      = x (ValueIdx.ix2 ⟨512 * b.val + t.val, by omega⟩ k) := by
  pointwise []
  exact congrArg x (congrArg (fun q => ValueIdx.ix2 q k) (Fin.ext (congrArg (· + t.val) (Nat.mul_comm b.val 512))))

/-- The mean of a position's frames: their sum times the reciprocal of their number, one for none. -/
def avgOf (ds : IVec S16x512 32) (x : FVec Ideal S16x4096x512 .f32) (b : Fin 16) (t : Fin 512) (c : Fin 512) : EReal :=
  (∑ i ∈ Finset.range (ds (ValueIdx.ix2 b t)).toNat, (x (ValueIdx.ix3 b ⟨(startOf ds b t.val + i) % 4096, Nat.mod_lt _ (by decide)⟩ c) : EReal))
    * Ideal.div 1 (((max (ds (ValueIdx.ix2 b t)).toNat 1 : ℕ) : ℝ) : EReal)

theorem ix3_ext {n1 n2 n3 : ℕ} {a a' : Fin n1} {b b' : Fin n2} {c c' : Fin n3} (ha : a = a') (hb : b = b') (hc : c = c') :
    ValueIdx.ix3 a b c = ValueIdx.ix3 a' b' c' := by rw [ha, hb, hc]

/-- Two positions of one group of eight have one window. -/
theorem winBase_group (ds : IVec S16x512 32) (b : Fin 16) (s t : ℕ) (h : s / 8 = t / 8) : winBase ds b s = winBase ds b t := by
  unfold winBase; rw [h]

theorem means_value {ds : IVec S16x512 32} {L : IVec S_ 32} (h : Drawn ds L) (x : FVec Ideal S16x4096x512 .f32) (b : Fin 16) (t c : Fin 512) :
    allMeans (F := Ideal) (tableOf ds L) (shapeCast S65536x512 x shapeCasts_S16x4096x512_S65536x512)
      (ValueIdx.ix2 ⟨512 * b.val + t.val, by omega⟩ c) = avgOf ds x b t c := by
  have hr : (512 * b.val + t.val) / 8 % 1024 = (512 * b.val + t.val) / 8 := Nat.mod_eq_of_lt (by omega)
  have hp : 8 * ((512 * b.val + t.val) / 8 % 1024) + (512 * b.val + t.val) % 8 = 512 * b.val + t.val := by omega
  have hw := row_seg h ((512 * b.val + t.val) / 8) ((512 * b.val + t.val) % 8) (Nat.mod_lt _ (by decide))
  have hbs := row_base h ((512 * b.val + t.val) / 8)
  simp only [hp] at hw
  have eb : (⟨(512 * b.val + t.val) / 512, by omega⟩ : Fin 16) = b := Fin.ext (by show (512 * b.val + t.val) / 512 = b.val; omega)
  have et : (512 * b.val + t.val) % 512 = t.val := by omega
  have et' : (⟨(512 * b.val + t.val) % 512, Nat.mod_lt _ (by decide)⟩ : Fin 512) = t := Fin.ext et
  rw [eb, et', et] at hw
  have eb2 : (⟨8 * ((512 * b.val + t.val) / 8 % 1024) / 512, by omega⟩ : Fin 16) = b :=
    Fin.ext (by show 8 * ((512 * b.val + t.val) / 8 % 1024) / 512 = b.val; omega)
  rw [eb2, winBase_group ds b _ t.val (by omega), show 8 * ((512 * b.val + t.val) / 8 % 1024) / 512 = b.val from by omega] at hbs
  have hb := winBase_bounds h b t.val t.isLt
  have hn := h.dur b t
  have hs := startOf_bound ds h.dur b t.val
  have hbn : (baseWord (F := Ideal) (metaRow (F := Ideal) (tableOf ds L) ((512 * b.val + t.val) / 8))).toNat = b.val * 4096 + winBase ds b t.val := by
    rw [hbs, BitVec.toNat_ofNat]; omega
  show segMean (F := Ideal) (segWord (metaRow (F := Ideal) (tableOf ds L) ((512 * b.val + t.val) / 8)) ((512 * b.val + t.val) % 8))
    (windowOf (F := Ideal) (tableOf ds L) (shapeCast S65536x512 x shapeCasts_S16x4096x512_S65536x512) ((512 * b.val + t.val) / 8)) c.val = _
  generalize segWord (F := Ideal) (metaRow (F := Ideal) (tableOf ds L) ((512 * b.val + t.val) / 8)) ((512 * b.val + t.val) % 8) = w at hw
  have ho : w.toNat % 256 = startOf ds b t.val - winBase ds b t.val := by have := hw.eq; have := hw.le; omega
  unfold segMean windowOf
  rw [ho, hw.n, hbn]
  show (accV (F := Ideal) _ _ _ _ _ : EReal) * (recipV (F := Ideal) w _ : EReal) = _
  rw [accV_value, recipV_value hw]
  unfold avgOf
  refine congrArg (· * _) (Finset.sum_congr rfl fun i hi => ?_)
  have hi' := Finset.mem_range.1 hi
  show shapeCast S65536x512 x shapeCasts_S16x4096x512_S65536x512 (ValueIdx.ix2 ⟨(b.val * 4096 + winBase ds b t.val
    + (startOf ds b t.val - winBase ds b t.val + i) % 64) % 65536, _⟩ ⟨(16 * (c.val / 16) + c.val % 16) % 512, _⟩) = _
  rw [frames_value]
  have hb16 := b.isLt
  have e1 : (b.val * 4096 + winBase ds b t.val + (startOf ds b t.val - winBase ds b t.val + i) % 64) % 65536 = b.val * 4096 + (startOf ds b t.val + i) := by
    have := hw.le; omega
  have q : ∀ s : ℕ, s < 4096 → (b.val * 4096 + s) / 4096 = b.val ∧ (b.val * 4096 + s) % 4096 = s % 4096 := by
    intro s hs
    omega
  refine congrArg x (ix3_ext (Fin.ext ?_) (Fin.ext ?_) (Fin.ext ?_))
  · exact (congrArg (fun z : ℕ => z / 4096) e1).trans (q _ (by omega)).1
  · exact (congrArg (fun z : ℕ => z % 4096) e1).trans (q _ (by omega)).2
  · show (16 * (c.val / 16) + c.val % 16) % 512 = c.val; have := c.isLt; omega
end

section
variable (m : (ℓ : Loc nD τ sig) → Buf (Elt Ideal) ℓ)

theorem val7_out (d : Dev nD) : val7 m d (Proc.devRef .tc main_v18)
    = shapeCast S16x512x3 (mlpOut (F := Ideal) (allMeans (metaOf m d) (framesOf m d)) (m (d, Proc.devRef .tc main_arg3))
        (shapeCast S1x256 (m (d, Proc.devRef .tc main_arg4)) shapeCasts_S256_S1x256) (m (d, Proc.devRef .tc main_arg5))
        (shapeCast S1x3 (m (d, Proc.devRef .tc main_arg6)) shapeCasts_S3_S1x3)) shapeCasts_S8192x3_S16x512x3 := by
  have hl : val7 m d (Proc.devRef .tc main_v18) = shapeCast S16x512x3 (val6 m d (Proc.devRef .tc main_v17)) shapeCasts_S8192x3_S16x512x3 := by
    unfold val7 lineD
    after_results
    rfl
  have h6 : val6 m d (Proc.devRef .tc main_v17) = mlpOut (val5 m d (Proc.devRef .tc main_v14)) (val5 m d (Proc.devRef .tc main_arg3))
      (val5 m d (Proc.devRef .tc main_v15)) (val5 m d (Proc.devRef .tc main_arg5)) (val5 m d (Proc.devRef .tc main_v16)) :=
    Function.update_self ..
  have c14 : val5 m d (Proc.devRef .tc main_v14) = allMeans (metaOf m d) (framesOf m d) :=
    (StableHlo.after_unwritten [main_v15, main_v16] rfl (by decide) _).trans (Function.update_self ..)
  have c3 : val5 m d (Proc.devRef .tc main_arg3) = m (d, Proc.devRef .tc main_arg3) :=
    (StableHlo.after_unwritten [main_v15, main_v16] rfl (by decide) _).trans
      (val4_keep m d main_arg3 (by decide) (by decide) (by decide) (by decide) (by decide))
  have c5 : val5 m d (Proc.devRef .tc main_arg5) = m (d, Proc.devRef .tc main_arg5) :=
    (StableHlo.after_unwritten [main_v15, main_v16] rfl (by decide) _).trans
      (val4_keep m d main_arg5 (by decide) (by decide) (by decide) (by decide) (by decide))
  have c15 : val5 m d (Proc.devRef .tc main_v15) = shapeCast S1x256 (m (d, Proc.devRef .tc main_arg4)) shapeCasts_S256_S1x256 := by
    rw [← val4_keep m d main_arg4 (by decide) (by decide) (by decide) (by decide) (by decide)]
    unfold val5 lineC
    after_results
    rfl
  have c16 : val5 m d (Proc.devRef .tc main_v16) = shapeCast S1x3 (m (d, Proc.devRef .tc main_arg6)) shapeCasts_S3_S1x3 := by
    rw [← val4_keep m d main_arg6 (by decide) (by decide) (by decide) (by decide) (by decide)]
    unfold val5 lineC
    after_results
    rfl
  rw [hl, h6, c14, c3, c5, c15, c16]

/-- The kernel's result at an index. -/
theorem kernel_value (d : Dev nD) (h : Drawn (dsOf m d) (lenOf m d)) (b : Fin 16) (t : Fin 512) (k : Fin 3) :
    val7 m d (Proc.devRef .tc main_v18) (ValueIdx.ix3 b t k)
      = twoLayers (avgOf (dsOf m d) (m (d, Proc.devRef .tc main_arg0)) b t) (m (d, Proc.devRef .tc main_arg3)) (m (d, Proc.devRef .tc main_arg4))
          (m (d, Proc.devRef .tc main_arg5)) (m (d, Proc.devRef .tc main_arg6)) k := by
  rw [val7_out, metaOf_eq, framesOf_eq]
  refine (out_value _ b t k).trans ((mlp_value _ _ _ _ _ _ k).trans ?_)
  exact congrArg (fun A => twoLayers A _ _ _ _ k) (funext fun c => means_value h _ b t c)
end

end Cert.Proof.KI

end
-- ==== Proof.RefValue.lean ====
/-
The reference's result at an index: the same linear maps of the same segment means as the kernel's.
-/
module

public import proofs.«01_k».proof.Proof.RefStages
public import proofs.«01_k».proof.Proof.RefMath
public import proofs.«01_k».proof.Proof.KernelValue
public import Idealize.ShloMosaic.Lib.Routing.OpsOne
public import Idealize.ShloMosaic.Lib.IndicatorCount

@[expose] public section

noncomputable section

namespace Cert.Proof.Ref

open Cert.ReferenceIdeal Cert.ReferenceIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Cert.Proof.KI Idealize.ShloMosaic.Routing

theorem refStep_value (ds : IVec S16x512 32) (L : IVec S_ 32) (h : Drawn ds L) (b : Fin 16) (t : Fin 512) :
    refStep ds L (ValueIdx.ix2 b t) = BitVec.ofNat 32 (ds (ValueIdx.ix2 b t)).toNat := by
  have hn := h.dur b t
  pointwise [refStep]
  have h4 : (4096 : ℝ) ≠ 0 := by exact_mod_cast (by decide : (4096 : ℕ) ≠ 0)
  have hs : Ideal.div (Ideal.ofBits .f32 1166016512#32) (FloatOps.sitofp (F := Ideal) .f32 (L Idealize.ShloMosaic.ix0)) = (1 : EReal) := by
    have h1 : Ideal.ofBits .f32 1166016512#32 = (((4096 : ℝ)) : EReal) := by
      simp [Ideal.ofBits, Ideal.ieee]
      rw [← EReal.coe_mul]
      congr 1
      rw [mul_inv_eq_iff_eq_mul₀ (pow_ne_zero _ two_ne_zero)]
      exact_mod_cast (by decide : (8388608 : ℕ) = 4096 * 2 ^ 11)
    rw [show L Idealize.ShloMosaic.ix0 = 4096#32 from h.len, sitofp_word _ (by decide), h1,
      show (((4096#32 : BitVec 32).toNat : ℝ)) = (4096 : ℝ) from by simp, Ideal.div_coe h4, ← EReal.coe_mul, mul_one_div_cancel h4]
    rfl
  have hg : IntOp.cmpi .sgt (ds (ValueIdx.ix2 b t)) 0#32 = BitVec.ofBool (decide (0 < (ds (ValueIdx.ix2 b t)).toNat)) := by
    conv_lhs => rw [show ds (ValueIdx.ix2 b t) = BitVec.ofNat 32 (ds (ValueIdx.ix2 b t)).toNat from by rw [BitVec.ofNat_toNat, BitVec.setWidth_eq]]
    show BitVec.ofBool ((BitVec.ofNat 32 0).slt (BitVec.ofNat 32 _)) = _
    rw [slt_ofNat32 (by decide) (by omega)]
  rw [sitofp_word _ (by omega), hs, mul_one, hg]
  generalize (ds (ValueIdx.ix2 b t)).toNat = n at hn
  have hf : Ideal.liftRound Int.floor (((n : ℝ)) : EReal) = (((n : ℝ)) : EReal) := by
    show ((((⌊(n : ℝ)⌋ : ℤ) : ℝ)) : EReal) = _
    rw [Int.floor_natCast]; simp
  rw [hf, fptosi_nat (by omega)]
  interval_cases n <;> rfl

/-- The running sum of a row, as it is printed: a window over the row. -/
theorem refEnds_value (step : IVec S16x512 32) (f : ℕ → ℕ) (b : Fin 16) (hx : ∀ u : Fin 512, step (ValueIdx.ix2 b u) = BitVec.ofNat 32 (f u.val))
    (t : Fin 512) : refEnds step (ValueIdx.ix2 b t) = BitVec.ofNat 32 (∑ u ∈ Finset.range (t.val + 1), f u) := by
  have hb := b.isLt
  have ht := t.isLt
  have hnum : (shape2 1 512).numel = 512 := Shape.numel_rank2 _
  have hpos : ∀ n : Fin (shape2 1 512).numel, ((shape2 1 512).rowMajor.symm n 0).val = 0 ∧ ((shape2 1 512).rowMajor.symm n 1).val = n.val := by
    intro n
    have hn : n.val < 512 := lt_of_lt_of_eq n.isLt hnum
    rw [symm22 n (by omega) (by omega)]
    exact ⟨Nat.div_eq_of_lt hn, Nat.mod_eq_of_lt hn⟩
  unfold refEnds Host.reduceWindow
  refine (foldl_addi_ofNat _ _ (fun n => if 511 ≤ t.val + n.val then f (t.val + n.val - 511) else 0) (fun n _ => ?_) _ 0 rfl).trans ?_
  · obtain ⟨p0, p1⟩ := hpos n
    have hn : n.val < 512 := lt_of_lt_of_eq n.isLt hnum
    dsimp only
    by_cases hle : 511 ≤ t.val + n.val
    · rw [if_pos hle, dif_pos (fun a => by
        match a with
        | ⟨0, _⟩ =>
          show 0 ≤ b.val * 1 + ((shape2 1 512).rowMajor.symm n 0).val ∧ b.val * 1 + ((shape2 1 512).rowMajor.symm n 0).val - 0 < 16
          omega
        | ⟨1, _⟩ =>
          show 511 ≤ t.val * 1 + ((shape2 1 512).rowMajor.symm n 1).val ∧ t.val * 1 + ((shape2 1 512).rowMajor.symm n 1).val - 511 < 512
          omega)]
      refine (congrArg step (funext fun a => Fin.ext ?_)).trans (hx ⟨t.val + n.val - 511, by omega⟩)
      match a with
      | ⟨0, _⟩ =>
        show b.val * 1 + ((shape2 1 512).rowMajor.symm n 0).val - 0 = b.val
        omega
      | ⟨1, _⟩ =>
        show t.val * 1 + ((shape2 1 512).rowMajor.symm n 1).val - 511 = t.val + n.val - 511
        omega
    · rw [if_neg hle, dif_neg (fun hall => hle (by
        have h1 : 511 ≤ t.val * 1 + ((shape2 1 512).rowMajor.symm n 1).val := (hall 1).1
        omega))]
      rfl
  · rw [Nat.zero_add, map_finRange_val _ (fun w => if 511 ≤ t.val + w then f (t.val + w - 511) else 0)]
    refine congrArg (BitVec.ofNat 32) ((congrArg (fun M => ((List.range M).map fun w => if 511 ≤ t.val + w then f (t.val + w - 511) else 0).sum)
      hnum).trans ((sum_window f 511 t.val (by omega)).trans ?_))
    rfl

theorem refCount_value (ends : IVec S16x512 32) (s : ℕ → ℕ) (b : Fin 16) (hE : ∀ u : Fin 512, ends (ValueIdx.ix2 b u) = BitVec.ofNat 32 (s (u.val + 1)))
    (hs : ∀ u, u ≤ 512 → s u < 2 ^ 31) (l : Fin 4096) :
    refCount ends (ValueIdx.ix2 b l) = BitVec.ofNat 32 (Finset.univ.filter fun u : Fin 512 => s (u.val + 1) ≤ l.val).card := by
  pointwise [refCount]
  refine (IndicatorCount.fold_addi_setWidth_eq_card (w := 32)
    (fun u : Fin 512 => IntOp.cmpi .sle (ends (ValueIdx.ix2 b u)) (BitVec.ofNat 32 l.val)) Finset.univ).trans ?_
  refine congrArg (fun A : Finset (Fin 512) => BitVec.ofNat 32 A.card) (Finset.filter_congr fun u _ => ?_)
  have hl := l.isLt
  rw [hE u]
  show BitVec.ofBool ((BitVec.ofNat 32 _).sle (BitVec.ofNat 32 _)) = 1#1 ↔ _
  rw [sle_ofNat32 (hs _ u.isLt) (by omega), StableHlo.Predicate.ofBool_eq_one_iff, decide_eq_true_eq]

theorem refSeg_value (ends : IVec S16x512 32) (s : ℕ → ℕ) (b : Fin 16) (hE : ∀ u : Fin 512, ends (ValueIdx.ix2 b u) = BitVec.ofNat 32 (s (u.val + 1)))
    (hs : ∀ u, u ≤ 512 → s u < 2 ^ 31) (l : Fin 4096) :
    refSeg ends (ValueIdx.ix2 b l)
      = BitVec.ofNat 32 (if l.val < s 512 then (Finset.univ.filter fun u : Fin 512 => s (u.val + 1) ≤ l.val).card else 512) := by
  have hl := l.isLt
  pointwise [refSeg]
  show Scalar.select (IntOp.cmpi .slt (BitVec.ofNat 32 l.val) (ends (ValueIdx.ix2 b 511))) (refCount ends (ValueIdx.ix2 b l)) 512#32 = _
  have hc : IntOp.cmpi .slt (BitVec.ofNat 32 l.val) (ends (ValueIdx.ix2 b 511)) = BitVec.ofBool (decide (l.val < s 512)) := by
    rw [hE 511]
    exact congrArg BitVec.ofBool (slt_ofNat32 (by omega) (hs 512 le_rfl))
  rw [hc, refCount_value ends s b hE hs l]
  by_cases h : l.val < s 512
  · rw [decide_eq_true h, if_pos h]
    rfl
  · rw [decide_eq_false h, if_neg h]
    rfl

theorem refMember_value (seg : IVec S16x4096 32) (b : Fin 16) (t : Fin 512) (l : Fin 4096) (k : ℕ) (hk : k < 2 ^ 32)
    (hseg : seg (ValueIdx.ix2 b l) = BitVec.ofNat 32 k) :
    refMember seg (ValueIdx.ix3 b t l) = if k = t.val then (1 : EReal) else 0 := by
  have ht := t.isLt
  pointwise [refMember]
  show FloatOps.uitofp (F := Ideal) .f32 (IntOp.cmpi .eq (seg (ValueIdx.ix2 b l)) (BitVec.ofNat 32 t.val)) = _
  have hc : IntOp.cmpi .eq (seg (ValueIdx.ix2 b l)) (BitVec.ofNat 32 t.val) = BitVec.ofBool (decide (k = t.val)) := by
    rw [hseg]
    refine congrArg BitVec.ofBool ?_
    rw [beq_eq_decide]
    refine decide_eq_decide.2 ⟨fun e => ?_, fun e => e ▸ rfl⟩
    have := congrArg BitVec.toNat e
    rw [BitVec.toNat_ofNat, BitVec.toNat_ofNat] at this
    omega
  rw [hc]
  by_cases h : k = t.val
  · rw [decide_eq_true h, if_pos h]
    show ((((1 : ℕ) : ℝ)) : EReal) = 1
    simp
  · rw [decide_eq_false h, if_neg h]
    show ((((0 : ℕ) : ℝ)) : EReal) = 0
    simp

theorem startOf_succ (ds : IVec S16x512 32) (b : Fin 16) (t : Fin 512) : startOf ds b (t.val + 1) = startOf ds b t.val + (ds (ValueIdx.ix2 b t)).toNat := by
  unfold startOf
  rw [Finset.sum_range_succ]
  congr 1
  unfold dur
  rw [dif_pos t.isLt]

/-- A frame's membership of a position. -/
theorem member_value (ds : IVec S16x512 32) (L : IVec S_ 32) (h : Drawn ds L) (b : Fin 16) (t : Fin 512) (l : Fin 4096) :
    refMember (refSeg (refEnds (refStep ds L))) (ValueIdx.ix3 b t l)
      = if startOf ds b t.val ≤ l.val ∧ l.val < startOf ds b t.val + (ds (ValueIdx.ix2 b t)).toNat then (1 : EReal) else 0 := by
  have hE : ∀ u : Fin 512, refEnds (refStep ds L) (ValueIdx.ix2 b u) = BitVec.ofNat 32 (startOf ds b (u.val + 1)) := fun u =>
    refEnds_value _ (dur ds b) b (fun u => by rw [refStep_value ds L h, dur, dif_pos u.isLt]) u
  have hs : ∀ u, u ≤ 512 → startOf ds b u < 2 ^ 31 := fun u hu => by
    have := startOf_bound ds h.dur b u
    omega
  have hk : (if l.val < startOf ds b 512 then (Finset.univ.filter fun u : Fin 512 => startOf ds b (u.val + 1) ≤ l.val).card else 512) < 2 ^ 32 := by
    have := (Finset.univ.filter fun u : Fin 512 => startOf ds b (u.val + 1) ≤ l.val).card_le_univ
    rw [Fintype.card_fin] at this
    split <;> omega
  rw [refMember_value _ b t l _ hk (refSeg_value _ (startOf ds b) b hE hs l), ← startOf_succ]
  exact if_congr (segment_iff (startOf ds b) (fun i j hij => Nat.add_sub_cancel' hij ▸ startOf_mono ds b i (j - i)) (by simp [startOf]) l.val t.isLt) rfl rfl

theorem refAvg_value (ds : IVec S16x512 32) (L : IVec S_ 32) (h : Drawn ds L) (x : FVec Ideal S16x4096x512 .f32) (b : Fin 16) (t : Fin 512) (c : Fin 512) :
    refAvg ds (refMember (refSeg (refEnds (refStep ds L)))) x (ValueIdx.ix3 b t c) = avgOf ds x b t c := by
  have hm := member_value ds L h b t
  have hn := h.dur b t
  have hb := startOf_bound ds h.dur b t.val
  have ht := t.isLt
  generalize refMember (refSeg (refEnds (refStep ds L))) = M at hm
  pointwise [refAvg]
  show Scalar.select (IntOp.cmpi .sgt (ds (ValueIdx.ix2 b t)) 0#32)
    (Ideal.div (∑ l : Fin 4096, M (ValueIdx.ix3 b t l) * x (ValueIdx.ix3 b l c)) (max (∑ l : Fin 4096, M (ValueIdx.ix3 b t l)) 1) : EReal)
    (Ideal.ofBits .f32 0#32) = _
  have hg : IntOp.cmpi .sgt (ds (ValueIdx.ix2 b t)) 0#32 = BitVec.ofBool (decide (0 < (ds (ValueIdx.ix2 b t)).toNat)) := by
    conv_lhs => rw [show ds (ValueIdx.ix2 b t) = BitVec.ofNat 32 (ds (ValueIdx.ix2 b t)).toNat from by rw [BitVec.ofNat_toNat, BitVec.setWidth_eq]]
    show BitVec.ofBool ((BitVec.ofNat 32 0).slt (BitVec.ofNat 32 _)) = _
    rw [slt_ofNat32 (by decide) (by omega)]
  have hcount : ∑ l : Fin 4096, M (ValueIdx.ix3 b t l) = ((((ds (ValueIdx.ix2 b t)).toNat : ℕ) : ℝ) : EReal) := by
    have := sum_segment (fun _ => 1) (startOf ds b t.val) (ds (ValueIdx.ix2 b t)).toNat (by omega)
    rw [Finset.sum_congr rfl fun l _ => (hm l).trans (mul_one _).symm]
    refine this.trans ?_
    simp
  have hsum : ∑ l : Fin 4096, M (ValueIdx.ix3 b t l) * x (ValueIdx.ix3 b l c)
      = ∑ i ∈ Finset.range (ds (ValueIdx.ix2 b t)).toNat, x (ValueIdx.ix3 b ⟨(startOf ds b t.val + i) % 4096, Nat.mod_lt _ (by omega)⟩ c) := by
    rw [Finset.sum_congr rfl fun l _ => congrArg (· * x (ValueIdx.ix3 b l c)) (hm l)]
    exact sum_segment (fun l => x (ValueIdx.ix3 b l c)) (startOf ds b t.val) (ds (ValueIdx.ix2 b t)).toNat (by omega)
  have hmax : max ((((ds (ValueIdx.ix2 b t)).toNat : ℕ) : ℝ) : EReal) 1 = (((max (ds (ValueIdx.ix2 b t)).toNat 1 : ℕ) : ℝ) : EReal) := by
    rcases Nat.eq_zero_or_pos (ds (ValueIdx.ix2 b t)).toNat with h0 | h0
    · rw [h0]; simp
    · rw [max_eq_left (show 1 ≤ (ds (ValueIdx.ix2 b t)).toNat from h0)]
      exact max_eq_left (by exact_mod_cast h0)
  have hne : (((max (ds (ValueIdx.ix2 b t)).toNat 1 : ℕ) : ℝ) : EReal) ≠ 0 := by
    have : max (ds (ValueIdx.ix2 b t)).toNat 1 ≠ 0 := by omega
    exact_mod_cast this
  rw [hg, hsum, hcount, hmax, ← Ideal.mul_one_div hne]
  unfold avgOf
  by_cases h0 : 0 < (ds (ValueIdx.ix2 b t)).toNat
  · rw [decide_eq_true h0]
    rfl
  · rw [decide_eq_false h0, Nat.eq_zero_of_not_pos h0, Finset.range_zero, Finset.sum_empty, zero_mul]
    show Ideal.ofBits .f32 0#32 = 0
    simp [Ideal.ofBits, Ideal.ieee]

theorem refOut_value (avg : FVec Ideal S16x512x512 .f32) (W1 : FVec Ideal S256x512 .f32) (b1 : FVec Ideal S256 .f32) (W2 : FVec Ideal S3x256 .f32)
    (b2 : FVec Ideal S3 .f32) (b : Fin 16) (t : Fin 512) (k : Fin 3) :
    refOut avg W1 b1 W2 b2 (ValueIdx.ix3 b t k) = twoLayers (fun c => avg (ValueIdx.ix3 b t c)) W1 b1 W2 b2 k := by
  pointwise [refOut]
  rfl

end Cert.Proof.Ref

end
-- ==== Proof.Value.lean ====
/-
The value claim: from equal drawn inputs the kernel and the reference end with the same result.
-/
module

public import proofs.«01_k».proof.Proof.RefValue

@[expose] public section

noncomputable section

namespace Cert.Proof.Ref

open Cert.ReferenceIdeal Cert.ReferenceIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Cert.Proof.KI
section
open Idealize.ShloMosaic.TcCoe

local instance : Cert.Pre_drawn.Facts := Cert.Pre_drawn.Gen.facts
local instance : Cert.KernelIdeal.Facts := Cert.KernelIdeal.Gen.facts
local instance : Cert.ReferenceIdeal.Facts := Cert.ReferenceIdeal.Gen.facts

/-- An index of the result is its three coordinates. -/
theorem eq_ix3_out (i : S16x512x3.Idx) : i = ValueIdx.ix3 (i 0) (i 1) (i 2) := by
  funext a
  match a with
  | ⟨0, _⟩ => rfl
  | ⟨1, _⟩ => rfl
  | ⟨2, _⟩ => rfl

/-- The reference's result, from the kernel's drawn inputs, is the kernel's. -/
theorem result_eq (m : (ℓ : Loc Cert.KernelIdeal.nD Cert.KernelIdeal.τ Cert.KernelIdeal.sig) → Buf (Elt Ideal) ℓ) (d : Dev Cert.KernelIdeal.nD)
    (h : Drawn (dsOf m d) (lenOf m d)) :
    refOut (refAvg (dsOf m d) (refMember (refSeg (refEnds (refStep (dsOf m d) (lenOf m d))))) (m (d, Proc.devRef .tc Cert.KernelIdeal.main_arg0)))
        (m (d, Proc.devRef .tc Cert.KernelIdeal.main_arg3)) (m (d, Proc.devRef .tc Cert.KernelIdeal.main_arg4))
        (m (d, Proc.devRef .tc Cert.KernelIdeal.main_arg5)) (m (d, Proc.devRef .tc Cert.KernelIdeal.main_arg6))
      = val7 m d (Proc.devRef .tc Cert.KernelIdeal.main_v18) := by
  funext i
  rw [eq_ix3_out i]
  refine (refOut_value _ _ _ _ _ _ _ _).trans (Eq.trans ?_ (kernel_value m d h _ _ _).symm)
  exact congrArg (fun A => twoLayers A _ _ _ _ _) (funext fun c => refAvg_value _ _ h _ _ _ c)

/-- The reference's frame, from the drawn inputs. -/
theorem frame_reference_drawn : Cert.quiescent_ReferenceIdeal_pre_drawn := fun m g _ =>
  (θ_run _ _ _).mono (fun r h => ⟨fun c => (h c).2, sem_eq_zero_of_no_sems (by decide) r.2⟩) (Cert.ReferenceIdeal.Value.run (F := Ideal) m g)

/-- Equal drawn inputs give equal results. -/
theorem value : Cert.algebraic_KernelIdeal_ReferenceIdeal := fun m g m' g' hp hm =>
  ⟨fun d => val7 m d (Proc.devRef .tc Cert.KernelIdeal.main_v18),
    (θ_run _ _ _).mono (fun r h => h.1) (run_drawn m hp g),
    (θ_run _ _ _).mono (fun r h d => ⟨(h d).1.trans (by
      obtain ⟨e0, e1, e2, e3, e4, e5, e6⟩ := hm d
      rw [ref_eq, e0, e1, e2, e3, e4, e5, e6]
      exact result_eq m d (drawn_of m hp d)), (h d).2⟩) (Cert.ReferenceIdeal.Value.run (F := Ideal) m' g')⟩

end

end Cert.Proof.Ref

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_drawn
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.KernelIdeal

theorem claim : Cert.Claim := ⟨Cert.KernelIdeal.Gen.facts, Cert.ReferenceIdeal.Gen.facts, Cert.Pre_drawn.Gen.facts,
  KI.frame_kernel, KI.frame_reference, Ref.frame_reference_drawn, Ref.value⟩

end Cert.Proof

end
